-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gradient_scale_nonzero [hPre_gradient_scale_nonzero : Cert.Pre_gradient_scale_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_gradient_scale_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gradient_scale_nonzero [hPre_gradient_scale_nonzero : Cert.Pre_gradient_scale_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gradient_scale_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gradient_scale_nonzero [hKernelIdeal : Cert.KernelIdeal.Facts] [hPre_gradient_scale_nonzero : Cert.Pre_gradient_scale_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gradient_scale_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gradient_scale_nonzero [hReferenceIdeal : Cert.ReferenceIdeal.Facts] [hPre_gradient_scale_nonzero : Cert.Pre_gradient_scale_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gradient_scale_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S288x2x128 Cert.KernelIdeal.S288x1x128
  ∧ IdealRules.bf16_pair.BufferStatement Cert.KernelIdeal.S32x2x128 Cert.KernelIdeal.S32x1x128
  ∧ IdealRules.bf16_pair.BufferStatement Cert.KernelIdeal.S14x32x2x128 Cert.KernelIdeal.S14x32x1x128
  ∧ IdealRules.bf16_pair.Statement Cert.KernelIdeal.S128x128 Cert.KernelIdeal.S64x128
  ∧ IdealRules.bf16_pair.Statement Cert.KernelIdeal.S8x2x128 Cert.KernelIdeal.S8x1x128
  ∧ IdealRules.bf16_pair.Statement Cert.KernelIdeal.S16x128 Cert.KernelIdeal.S8x128
  ∧ IdealRules.bf16_pair.PackStatement Cert.KernelIdeal.S8x128
  ∧ IdealRules.bf16_pack.Statement Cert.KernelIdeal.S8x128
  ∧ IdealRules.bf16_pair.PackStatement Cert.KernelIdeal.S32x128
  ∧ IdealRules.bf16_pair.Statement Cert.KernelIdeal.S1x32x2x128 Cert.KernelIdeal.S1x32x1x128
  ∧ IdealRules.bf16_pair.Statement Cert.KernelIdeal.S64x128 Cert.KernelIdeal.S32x128

def algebraic_KernelIdeal_ReferenceIdeal_pre_gradient_scale_nonzero [hKernelIdeal : Cert.KernelIdeal.Facts] [hReferenceIdeal : Cert.ReferenceIdeal.Facts] [hPre_gradient_scale_nonzero : Cert.Pre_gradient_scale_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gradient_scale_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gradient_scale_nonzero : Cert.Pre_gradient_scale_nonzero.Facts),
    quiescent_Kernel (hKernel := hKernel)
    ∧ quiescent_KernelIdeal (hKernelIdeal := hKernelIdeal)
    ∧ quiescent_KernelIdeal_pre_gradient_scale_nonzero (hKernelIdeal := hKernelIdeal) (hPre_gradient_scale_nonzero := hPre_gradient_scale_nonzero)
    ∧ quiescent_ReferenceIdeal (hReferenceIdeal := hReferenceIdeal)
    ∧ quiescent_ReferenceIdeal_pre_gradient_scale_nonzero (hReferenceIdeal := hReferenceIdeal) (hPre_gradient_scale_nonzero := hPre_gradient_scale_nonzero)
    ∧ preserves_Kernel_KernelIdeal
    ∧ algebraic_KernelIdeal_ReferenceIdeal_pre_gradient_scale_nonzero (hKernelIdeal := hKernelIdeal) (hReferenceIdeal := hReferenceIdeal) (hPre_gradient_scale_nonzero := hPre_gradient_scale_nonzero)
-- ==== Pre_gradient_scale_nonzero.lean ====
abbrev S1x128x18944 : Shape := ⟨3, ![1, 128, 18944]⟩
abbrev S_ : Shape := ⟨0, ![]⟩
abbrev S18944x1792 : Shape := ⟨2, ![18944, 1792]⟩
abbrev S1184x224 : Shape := ⟨2, ![1184, 224]⟩

class Facts : Prop where

variable [Facts]

def fn {F : FTy → Type} [FloatOps F] (main_arg0 : FVec F S1x128x18944 .bf16) (main_arg1 : FVec F S_ .f32) (main_arg2 : IVec S1x128x18944 32) (main_arg3 : IVec S18944x1792 8) (main_arg4 : FVec F S1184x224 .fp8e4m3) (main_arg5 : FVec F S_ .f32) : IVec S_ 1 :=
  let main_cst : FVec F S_ .f32 := constant S_ .f32 0x00000000#32
  let main_v0 : IVec S_ 1 := cmpf .une main_arg1 main_cst
  main_v0
-- ==== Kernel.lean ====
abbrev S1x128x18944 : Shape := ⟨3, ![1, 128, 18944]⟩
abbrev S_ : Shape := ⟨0, ![]⟩
abbrev S18944x1792 : Shape := ⟨2, ![18944, 1792]⟩
abbrev S1184x224 : Shape := ⟨2, ![1184, 224]⟩
abbrev S1x1 : Shape := ⟨2, ![1, 1]⟩
abbrev S128x18944 : Shape := ⟨2, ![128, 18944]⟩
abbrev S128x3584 : Shape := ⟨2, ![128, 3584]⟩
abbrev S128x9472 : Shape := ⟨2, ![128, 9472]⟩
abbrev S128x1184 : Shape := ⟨2, ![128, 1184]⟩
abbrev S128x512 : Shape := ⟨2, ![128, 512]⟩
abbrev S512x1792 : Shape := ⟨2, ![512, 1792]⟩
abbrev S32x224 : Shape := ⟨2, ![32, 224]⟩
abbrev S128x256 : Shape := ⟨2, ![128, 256]⟩
abbrev S1184x128 : Shape := ⟨2, ![1184, 128]⟩
abbrev S8x128 : Shape := ⟨2, ![8, 128]⟩
abbrev S288x128 : Shape := ⟨2, ![288, 128]⟩
abbrev S544x128 : Shape := ⟨2, ![544, 128]⟩
abbrev S32x128 : Shape := ⟨2, ![32, 128]⟩
abbrev S14x32x128 : Shape := ⟨3, ![14, 32, 128]⟩
abbrev S128x128 : Shape := ⟨2, ![128, 128]⟩
abbrev S64x128 : Shape := ⟨2, ![64, 128]⟩
abbrev S16x128 : Shape := ⟨2, ![16, 128]⟩
abbrev S8x1x128 : Shape := ⟨3, ![8, 1, 128]⟩
abbrev S8x16x128 : Shape := ⟨3, ![8, 16, 128]⟩
abbrev S128x64 : Shape := ⟨2, ![128, 64]⟩
abbrev S32x96 : Shape := ⟨2, ![32, 96]⟩
abbrev S32x32 : Shape := ⟨2, ![32, 32]⟩
abbrev S32x128x1 : Shape := ⟨3, ![32, 128, 1]⟩
abbrev S1x32x128 : Shape := ⟨3, ![1, 32, 128]⟩
abbrev S32x1x128 : Shape := ⟨3, ![32, 1, 128]⟩
abbrev S32x16x128 : Shape := ⟨3, ![32, 16, 128]⟩
abbrev S512x128 : Shape := ⟨2, ![512, 128]⟩
abbrev S512x256 : Shape := ⟨2, ![512, 256]⟩
abbrev S256x256 : Shape := ⟨2, ![256, 256]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 14
  | .vmem => 21
  | .smem => 3
  | _ => 0

abbrev bufTy : (tb : Table) → Fin (tcTables nBuf tb) → BufTy
  | .hbm, ⟨0, _⟩ => ⟨S1x128x18944, .bf16⟩
  | .hbm, ⟨1, _⟩ => ⟨S_, .f32⟩
  | .hbm, ⟨2, _⟩ => ⟨S1x128x18944, .i32⟩
  | .hbm, ⟨3, _⟩ => ⟨S18944x1792, .i8⟩
  | .hbm, ⟨4, _⟩ => ⟨S1184x224, .fp8e4m3⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S128x18944, .bf16⟩
  | .hbm, ⟨9, _⟩ => ⟨S128x18944, .i32⟩
  | .hbm, ⟨10, _⟩ => ⟨S128x3584, .bf16⟩
  | .hbm, ⟨11, _⟩ => ⟨S128x9472, .i8⟩
  | .hbm, ⟨12, _⟩ => ⟨S128x1184, .fp8e4m3⟩
  | .hbm, ⟨13, _⟩ => ⟨S1x1, .f32⟩
  | .local _ .vmem, ⟨0, _⟩ => ⟨S128x512, .bf16⟩
  | .local _ .vmem, ⟨1, _⟩ => ⟨S128x512, .bf16⟩
  | .local _ .vmem, ⟨2, _⟩ => ⟨S128x512, .i32⟩
  | .local _ .vmem, ⟨3, _⟩ => ⟨S128x512, .i32⟩
  | .local _ .vmem, ⟨4, _⟩ => ⟨S512x1792, .i8⟩
  | .local _ .vmem, ⟨5, _⟩ => ⟨S512x1792, .i8⟩
  | .local _ .vmem, ⟨6, _⟩ => ⟨S32x224, .fp8e4m3⟩
  | .local _ .vmem, ⟨7, _⟩ => ⟨S32x224, .fp8e4m3⟩
  | .local _ .vmem, ⟨8, _⟩ => ⟨S128x3584, .bf16⟩
  | .local _ .vmem, ⟨9, _⟩ => ⟨S128x256, .i8⟩
  | .local _ .vmem, ⟨10, _⟩ => ⟨S128x256, .i8⟩
  | .local _ .vmem, ⟨11, _⟩ => ⟨S128x1184, .fp8e4m3⟩
  | .local _ .vmem, ⟨12, _⟩ => ⟨S128x3584, .f32⟩
  | .local _ .vmem, ⟨13, _⟩ => ⟨S128x512, .bf16⟩
  | .local _ .vmem, ⟨14, _⟩ => ⟨S1184x128, .f32⟩
  | .local _ .vmem, ⟨15, _⟩ => ⟨S8x128, .f32⟩
  | .local _ .vmem, ⟨16, _⟩ => ⟨S288x128, .i32⟩
  | .local _ .vmem, ⟨17, _⟩ => ⟨S544x128, .i32⟩
  | .local _ .vmem, ⟨18, _⟩ => ⟨S288x128, .i32⟩
  | .local _ .vmem, ⟨19, _⟩ => ⟨S32x128, .i32⟩
  | .local _ .vmem, ⟨20, _⟩ => ⟨S14x32x128, .i32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x128x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_stg0_0 : Ref sig .tc := ⟨.smem, 0, rfl⟩
abbrev cc0_stg1_0 : Ref sig .tc := ⟨.smem, 1, rfl⟩
abbrev cc0_stg9_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [BitOps F]

abbrev grid0 : Pipeline.Grid := ⟨1, ![37], ![false]⟩

def k0_cond2 (i : grid0.Coords) : BitVec 1 :=
  let arg0 : BitVec 32 := BitVec.ofNat 32 (i 0).val
  let c36_i32 : BitVec 32 := 36#32
  let v6421 : BitVec 1 := Scalar.cmpi .eq arg0 c36_i32
  let v6422 : BitVec 32 := Scalar.extui v6421
  let c0_i32_2473 : BitVec 32 := 0#32
  let v6423 : BitVec 1 := Scalar.cmpi .ne v6422 c0_i32_2473
  v6423

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x224 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x1184 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
abbrev S1x128x18944 : Shape := ⟨3, ![1, 128, 18944]⟩
abbrev S_ : Shape := ⟨0, ![]⟩
abbrev S18944x1792 : Shape := ⟨2, ![18944, 1792]⟩
abbrev S1184x224 : Shape := ⟨2, ![1184, 224]⟩
abbrev S1x1 : Shape := ⟨2, ![1, 1]⟩
abbrev S128x18944 : Shape := ⟨2, ![128, 18944]⟩
abbrev S128x3584 : Shape := ⟨2, ![128, 3584]⟩
abbrev S128x9472 : Shape := ⟨2, ![128, 9472]⟩
abbrev S128x1184 : Shape := ⟨2, ![128, 1184]⟩
abbrev S128x512 : Shape := ⟨2, ![128, 512]⟩
abbrev S512x1792 : Shape := ⟨2, ![512, 1792]⟩
abbrev S32x224 : Shape := ⟨2, ![32, 224]⟩
abbrev S128x256 : Shape := ⟨2, ![128, 256]⟩
abbrev S1184x128 : Shape := ⟨2, ![1184, 128]⟩
abbrev S8x128 : Shape := ⟨2, ![8, 128]⟩
abbrev S288x128 : Shape := ⟨2, ![288, 128]⟩
abbrev S288x2x128 : Shape := ⟨3, ![288, 2, 128]⟩
abbrev S288x1x128 : Shape := ⟨3, ![288, 1, 128]⟩
abbrev S544x128 : Shape := ⟨2, ![544, 128]⟩
abbrev S32x128 : Shape := ⟨2, ![32, 128]⟩
abbrev S32x2x128 : Shape := ⟨3, ![32, 2, 128]⟩
abbrev S32x1x128 : Shape := ⟨3, ![32, 1, 128]⟩
abbrev S14x32x128 : Shape := ⟨3, ![14, 32, 128]⟩
abbrev S14x32x2x128 : Shape := ⟨4, ![14, 32, 2, 128]⟩
abbrev S14x32x1x128 : Shape := ⟨4, ![14, 32, 1, 128]⟩
abbrev S128x128 : Shape := ⟨2, ![128, 128]⟩
abbrev S64x128 : Shape := ⟨2, ![64, 128]⟩
abbrev S8x2x128 : Shape := ⟨3, ![8, 2, 128]⟩
abbrev S8x1x128 : Shape := ⟨3, ![8, 1, 128]⟩
abbrev S16x128 : Shape := ⟨2, ![16, 128]⟩
abbrev S8x16x128 : Shape := ⟨3, ![8, 16, 128]⟩
abbrev S128x64 : Shape := ⟨2, ![128, 64]⟩
abbrev S32x96 : Shape := ⟨2, ![32, 96]⟩
abbrev S32x32 : Shape := ⟨2, ![32, 32]⟩
abbrev S32x128x1 : Shape := ⟨3, ![32, 128, 1]⟩
abbrev S1x32x128 : Shape := ⟨3, ![1, 32, 128]⟩
abbrev S1x32x2x128 : Shape := ⟨4, ![1, 32, 2, 128]⟩
abbrev S1x32x1x128 : Shape := ⟨4, ![1, 32, 1, 128]⟩
abbrev S32x16x128 : Shape := ⟨3, ![32, 16, 128]⟩
abbrev S512x128 : Shape := ⟨2, ![512, 128]⟩
abbrev S512x256 : Shape := ⟨2, ![512, 256]⟩
abbrev S256x256 : Shape := ⟨2, ![256, 256]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 14
  | .vmem => 21
  | .smem => 3
  | _ => 0

abbrev bufTy : (tb : Table) → Fin (tcTables nBuf tb) → BufTy
  | .hbm, ⟨0, _⟩ => ⟨S1x128x18944, .bf16⟩
  | .hbm, ⟨1, _⟩ => ⟨S_, .f32⟩
  | .hbm, ⟨2, _⟩ => ⟨S1x128x18944, .i32⟩
  | .hbm, ⟨3, _⟩ => ⟨S18944x1792, .i8⟩
  | .hbm, ⟨4, _⟩ => ⟨S1184x224, .fp8e4m3⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S128x18944, .bf16⟩
  | .hbm, ⟨9, _⟩ => ⟨S128x18944, .i32⟩
  | .hbm, ⟨10, _⟩ => ⟨S128x3584, .bf16⟩
  | .hbm, ⟨11, _⟩ => ⟨S128x9472, .i8⟩
  | .hbm, ⟨12, _⟩ => ⟨S128x1184, .fp8e4m3⟩
  | .hbm, ⟨13, _⟩ => ⟨S1x1, .f32⟩
  | .local _ .vmem, ⟨0, _⟩ => ⟨S128x512, .bf16⟩
  | .local _ .vmem, ⟨1, _⟩ => ⟨S128x512, .bf16⟩
  | .local _ .vmem, ⟨2, _⟩ => ⟨S128x512, .i32⟩
  | .local _ .vmem, ⟨3, _⟩ => ⟨S128x512, .i32⟩
  | .local _ .vmem, ⟨4, _⟩ => ⟨S512x1792, .i8⟩
  | .local _ .vmem, ⟨5, _⟩ => ⟨S512x1792, .i8⟩
  | .local _ .vmem, ⟨6, _⟩ => ⟨S32x224, .fp8e4m3⟩
  | .local _ .vmem, ⟨7, _⟩ => ⟨S32x224, .fp8e4m3⟩
  | .local _ .vmem, ⟨8, _⟩ => ⟨S128x3584, .bf16⟩
  | .local _ .vmem, ⟨9, _⟩ => ⟨S128x256, .i8⟩
  | .local _ .vmem, ⟨10, _⟩ => ⟨S128x256, .i8⟩
  | .local _ .vmem, ⟨11, _⟩ => ⟨S128x1184, .fp8e4m3⟩
  | .local _ .vmem, ⟨12, _⟩ => ⟨S128x3584, .f32⟩
  | .local _ .vmem, ⟨13, _⟩ => ⟨S128x512, .bf16⟩
  | .local _ .vmem, ⟨14, _⟩ => ⟨S1184x128, .f32⟩
  | .local _ .vmem, ⟨15, _⟩ => ⟨S8x128, .f32⟩
  | .local _ .vmem, ⟨16, _⟩ => ⟨S288x2x128, .bf16⟩
  | .local _ .vmem, ⟨17, _⟩ => ⟨S544x128, .i32⟩
  | .local _ .vmem, ⟨18, _⟩ => ⟨S288x2x128, .bf16⟩
  | .local _ .vmem, ⟨19, _⟩ => ⟨S32x2x128, .bf16⟩
  | .local _ .vmem, ⟨20, _⟩ => ⟨S14x32x2x128, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x128x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_stg0_0 : Ref sig .tc := ⟨.smem, 0, rfl⟩
abbrev cc0_stg1_0 : Ref sig .tc := ⟨.smem, 1, rfl⟩
abbrev cc0_stg9_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![37], ![false]⟩

def k0_cond2 (i : grid0.Coords) : BitVec 1 :=
  let arg0 : BitVec 32 := BitVec.ofNat 32 (i 0).val
  let c36_i32 : BitVec 32 := 36#32
  let v6421 : BitVec 1 := Scalar.cmpi .eq arg0 c36_i32
  let v6422 : BitVec 32 := Scalar.extui v6421
  let c0_i32_2473 : BitVec 32 := 0#32
  let v6423 : BitVec 1 := Scalar.cmpi .ne v6422 c0_i32_2473
  v6423

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x224 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x1184 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x128x18944 : Shape := ⟨3, ![1, 128, 18944]⟩
abbrev S_ : Shape := ⟨0, ![]⟩
abbrev S18944x1792 : Shape := ⟨2, ![18944, 1792]⟩
abbrev S1184x224 : Shape := ⟨2, ![1184, 224]⟩
abbrev S1x1 : Shape := ⟨2, ![1, 1]⟩
abbrev S128x18944 : Shape := ⟨2, ![128, 18944]⟩
abbrev S128x3584 : Shape := ⟨2, ![128, 3584]⟩
abbrev S128x9472 : Shape := ⟨2, ![128, 9472]⟩
abbrev S128x1184 : Shape := ⟨2, ![128, 1184]⟩
abbrev S128x1184x16 : Shape := ⟨3, ![128, 1184, 16]⟩
abbrev S128x1184x1 : Shape := ⟨3, ![128, 1184, 1]⟩
abbrev S128x9472x2 : Shape := ⟨3, ![128, 9472, 2]⟩
abbrev S128x9472x1 : Shape := ⟨3, ![128, 9472, 1]⟩
abbrev S18944x1792x1 : Shape := ⟨3, ![18944, 1792, 1]⟩
abbrev S18944x1792x2 : Shape := ⟨3, ![18944, 1792, 2]⟩
abbrev S1184x16x224x16 : Shape := ⟨4, ![1184, 16, 224, 16]⟩
abbrev S1184x1x224x1 : Shape := ⟨4, ![1184, 1, 224, 1]⟩
abbrev S18944x3584 : Shape := ⟨2, ![18944, 3584]⟩
abbrev S1 : Shape := ⟨1, ![1]⟩
abbrev S1x1x1 : Shape := ⟨3, ![1, 1, 1]⟩

abbrev nBuf : Space → Nat
  | .hbm => 14
  | .vmem => 7
  | .smem => 3
  | _ => 0

abbrev bufTy : (tb : Table) → Fin (tcTables nBuf tb) → BufTy
  | .hbm, ⟨0, _⟩ => ⟨S1x128x18944, .bf16⟩
  | .hbm, ⟨1, _⟩ => ⟨S_, .f32⟩
  | .hbm, ⟨2, _⟩ => ⟨S1x128x18944, .i32⟩
  | .hbm, ⟨3, _⟩ => ⟨S18944x1792, .i8⟩
  | .hbm, ⟨4, _⟩ => ⟨S1184x224, .fp8e4m3⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S128x18944, .bf16⟩
  | .hbm, ⟨9, _⟩ => ⟨S128x18944, .i32⟩
  | .hbm, ⟨10, _⟩ => ⟨S128x3584, .bf16⟩
  | .hbm, ⟨11, _⟩ => ⟨S128x9472, .i8⟩
  | .hbm, ⟨12, _⟩ => ⟨S128x1184, .fp8e4m3⟩
  | .hbm, ⟨13, _⟩ => ⟨S1x1, .f32⟩
  | .local _ .vmem, ⟨0, _⟩ => ⟨S128x18944, .bf16⟩
  | .local _ .vmem, ⟨1, _⟩ => ⟨S128x18944, .i32⟩
  | .local _ .vmem, ⟨2, _⟩ => ⟨S18944x1792, .i8⟩
  | .local _ .vmem, ⟨3, _⟩ => ⟨S1184x224, .fp8e4m3⟩
  | .local _ .vmem, ⟨4, _⟩ => ⟨S128x3584, .bf16⟩
  | .local _ .vmem, ⟨5, _⟩ => ⟨S128x9472, .i8⟩
  | .local _ .vmem, ⟨6, _⟩ => ⟨S128x1184, .fp8e4m3⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x128x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg0_0 : Ref sig .tc := ⟨.smem, 0, rfl⟩
abbrev cc0_stg1_0 : Ref sig .tc := ⟨.smem, 1, rfl⟩
abbrev cc0_stg9_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x18944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x18944 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18944x1792 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1184x224 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x9472 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1184 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Quant.lean ====
/-
  The quantiser on one element, at the ideal instance: the two programs' scalar functions, in the operations
  each program prints, and the facts that make them equal.
-/
module

public import Idealize.ShloMosaic.PureOps.Ideal.Laws
public import Mathlib.Algebra.Order.Floor.Ring
public import Mathlib.Tactic.Linarith
public import Mathlib.Tactic.NormNum
public import Mathlib.Tactic.Positivity
public import Mathlib.Tactic.Ring

@[expose] public section

noncomputable section

open Idealize.ShloMosaic

namespace K01

/-- An f32 constant of either program. -/
abbrev c32 (b : BitVec 32) : EReal := Ideal.ofBits .f32 b

/-- A bf16 constant of either program. -/
abbrev c16 (b : BitVec 16) : EReal := Ideal.ofBits .bf16 b

theorem c_zero : c32 0x00000000#32 = ((0 : ℝ) : EReal) := by simp [c32, Ideal.ofBits, Ideal.ieee]
theorem c_half : c32 0x3F000000#32 = ((1 / 2 : ℝ) : EReal) := by
  simp [c32, Ideal.ofBits, Ideal.ieee]; norm_cast; norm_num
theorem c_quarter : c32 0x3E800000#32 = ((1 / 4 : ℝ) : EReal) := by
  simp [c32, Ideal.ofBits, Ideal.ieee]; norm_cast; norm_num
theorem c_one : c32 0x3F800000#32 = ((1 : ℝ) : EReal) := by
  simp [c32, Ideal.ofBits, Ideal.ieee]; norm_cast; norm_num
theorem c_two : c32 0x40000000#32 = ((2 : ℝ) : EReal) := by
  simp [c32, Ideal.ofBits, Ideal.ieee]; norm_cast; norm_num
theorem c_four : c32 0x40800000#32 = ((4 : ℝ) : EReal) := by
  simp [c32, Ideal.ofBits, Ideal.ieee]; norm_cast; norm_num
theorem c_five : c32 0x40A00000#32 = ((5 : ℝ) : EReal) := by
  simp [c32, Ideal.ofBits, Ideal.ieee]; norm_cast; norm_num
theorem c_six : c32 0x40C00000#32 = ((6 : ℝ) : EReal) := by
  simp [c32, Ideal.ofBits, Ideal.ieee]; norm_cast; norm_num
theorem c_seven : c32 0x40E00000#32 = ((7 : ℝ) : EReal) := by
  simp [c32, Ideal.ofBits, Ideal.ieee]; norm_cast; norm_num
theorem c_448 : c32 0x43E00000#32 = ((448 : ℝ) : EReal) := by
  simp [c32, Ideal.ofBits, Ideal.ieee]; norm_cast; norm_num
theorem c_m24 : c32 0x33800000#32 = ((1 / 16777216 : ℝ) : EReal) := by
  simp [c32, Ideal.ofBits, Ideal.ieee]; norm_cast; norm_num
theorem c_bot : c32 0xFF800000#32 = ⊥ := by simp [c32, Ideal.ofBits, Ideal.ieee]
theorem b_zero : c16 0x0000#16 = ((0 : ℝ) : EReal) := by simp [c16, Ideal.ofBits, Ideal.ieee]
theorem b_one : c16 0x3F80#16 = ((1 : ℝ) : EReal) := by
  simp [c16, Ideal.ofBits, Ideal.ieee]; norm_cast; norm_num
theorem b_six : c16 0x40C0#16 = ((6 : ℝ) : EReal) := by
  simp [c16, Ideal.ofBits, Ideal.ieee]; norm_cast; norm_num

/-- A block's scale from its largest magnitude `A` and the global scale `g` (both programs). -/
def scaleOf (g A : EReal) : EReal :=
  min (c32 0x43E00000#32) (max (c32 0x00000000#32) (Ideal.div A (c32 0x40C00000#32 * g)))

/-- The divisor of a block: `s * g`, or one where the scale is not positive. -/
def divisor (g s : EReal) : EReal :=
  Scalar.select (Ideal.cmp .ogt s (c32 0x00000000#32)) (s * g) (c32 0x3F800000#32)

/-- The kernel's reciprocal of a block's divisor, zero where the scale is not positive. -/
def kinv (g s : EReal) : EReal :=
  Scalar.select (Ideal.cmp .ogt s (c32 0x00000000#32)) (Ideal.div (c32 0x3F800000#32) (divisor g s))
    (c32 0x00000000#32)

/-- The uniform a random word gives: its upper 24 bits, over `2 ^ 24`. -/
def unif (r : BitVec 32) : EReal :=
  (((IntOp.shrui .vector r 8#32).toInt : ℝ) : EReal) * c32 0x33800000#32

/-- The kernel's spacing of the representable values about `z`. -/
def kstep (z : EReal) : EReal :=
  Scalar.select (Ideal.cmp .olt z (c32 0x3F800000#32)) (c32 0x3E800000#32)
    (Scalar.select (Ideal.cmp .olt z (c32 0x40000000#32)) (c32 0x3F000000#32)
      (Scalar.select (Ideal.cmp .olt z (c32 0x40800000#32)) (c32 0x3F800000#32) (c32 0x40000000#32)))

/-- The kernel's stochastic rounding of `z`. -/
def kround (z : EReal) (r : BitVec 32) : EReal :=
  let lo := Ideal.liftRound Int.floor (Ideal.div z (kstep z)) * kstep z
  Scalar.select (Ideal.cmp .olt (unif r) (Ideal.div (z - lo) (kstep z))) (lo + kstep z) lo

/-- The argument the kernel rounds: `max a (a / 2 + 1 / 2)` of the scaled magnitude. -/
def kz (x inv : EReal) : EReal :=
  max (max x (-x) * inv) (max x (-x) * inv * c32 0x3F000000#32 + c32 0x3F000000#32)

/-- The kernel's rounded magnitude, before its signs. -/
def kb (x inv : EReal) (r : BitVec 32) : EReal := min (kround (kz x inv) r) (c16 0x40C0#16)

/-- The kernel's correction of a magnitude below one. -/
def kfix (x inv : EReal) (r : BitVec 32) : EReal := max (c16 0x3F80#16 - kb x inv r) (c16 0x0000#16)

/-- The kernel's quantised element. -/
def kq (x inv : EReal) (r : BitVec 32) : EReal :=
  Scalar.select (Ideal.cmp .olt x (c16 0x0000#16)) (c16 0x0000#16 - kb x inv r) (kb x inv r)
    - Scalar.select (Ideal.cmp .olt x (c16 0x0000#16)) (c16 0x0000#16 - kfix x inv r) (kfix x inv r)

/-- The kernel's four-bit code of a quantised element. -/
def kcode (q : EReal) : BitVec 32 :=
  let a := max q (-q)
  IntOp.ori
    (Ideal.fptosi 32 (Scalar.select (Ideal.cmp .olt a (c32 0x40000000#32)) (a * c32 0x40000000#32)
      (Scalar.select (Ideal.cmp .olt a (c32 0x40800000#32)) (a + c32 0x40000000#32)
        (Scalar.select (Ideal.cmp .olt a (c32 0x40A00000#32)) (c32 0x40C00000#32) (c32 0x40E00000#32)))))
    (Scalar.select (Ideal.cmp .olt q (c32 0x00000000#32)) 8#32 0#32)

/-- The reference's scaled element. -/
def rv (g s x : EReal) : EReal :=
  Scalar.select (Ideal.cmp .ogt s (c32 0x00000000#32)) (Ideal.div x (divisor g s)) (c32 0x00000000#32)

/-- The reference's clipped magnitude. -/
def ra (v : EReal) : EReal := min (max v (-v)) (c32 0x40C00000#32)

/-- The reference's spacing. -/
def rstep (a : EReal) : EReal :=
  Scalar.select (Ideal.cmp .olt a (c32 0x40000000#32)) (c32 0x3F000000#32)
    (Scalar.select (Ideal.cmp .olt a (c32 0x40800000#32)) (c32 0x3F800000#32) (c32 0x40000000#32))

/-- The reference's representable value below. -/
def rlo (a : EReal) : EReal :=
  Scalar.select (Ideal.cmp .olt a (c32 0x40000000#32))
    (Ideal.liftRound Int.floor (a * c32 0x40000000#32) * c32 0x3F000000#32)
    (Scalar.select (Ideal.cmp .olt a (c32 0x40800000#32)) (Ideal.liftRound Int.floor a)
      (c32 0x40800000#32 + c32 0x40000000#32 *
        Ideal.liftRound Int.floor ((a - c32 0x40800000#32) * c32 0x3F000000#32)))

/-- The reference's rounded magnitude. -/
def rq (a : EReal) (r : BitVec 32) : EReal :=
  Scalar.select
    (Ideal.cmp .olt (unif r) ((a - rlo a) * Ideal.div (c32 0x3F800000#32) (rstep a)))
    (rlo a + rstep a) (rlo a)

/-- The reference's four-bit code of an element. -/
def rcode (v : EReal) (r : BitVec 32) : BitVec 32 :=
  let q := rq (ra v) r
  IntOp.ori
    (Ideal.fptosi 32 (Scalar.select (Ideal.cmp .olt q (c32 0x40000000#32)) (q * c32 0x40000000#32)
      (Scalar.select (Ideal.cmp .olt q (c32 0x40800000#32)) (q + c32 0x40000000#32)
        (Scalar.select (Ideal.cmp .oeq q (c32 0x40800000#32)) (c32 0x40C00000#32) (c32 0x40E00000#32)))))
    (Scalar.select (IntOp.andi (Ideal.cmp .olt v (c32 0x00000000#32)) (Ideal.cmp .ogt q (c32 0x00000000#32)))
      8#32 0#32)

/-- The reference's value of a four-bit code. -/
def rdec (n : BitVec 32) : EReal :=
  let ex := IntOp.andi (IntOp.shrsi .vector n 1#32) 3#32
  let m : EReal := (((IntOp.andi n 1#32).toInt : ℝ) : EReal)
  let p := Scalar.select (IntOp.cmpi .eq ex 1#32) (c32 0x3F800000#32)
    (Scalar.select (IntOp.cmpi .eq ex 2#32) (c32 0x40000000#32) (c32 0x40800000#32))
  let mg := Scalar.select (IntOp.cmpi .eq ex 0#32) (c32 0x3F000000#32 * m)
    (p * (c32 0x3F800000#32 + c32 0x3F000000#32 * m))
  Scalar.select (IntOp.cmpi .eq (IntOp.andi (IntOp.shrsi .vector n 3#32) 1#32) 1#32)
    (c32 0x00000000#32 - mg) mg

/-- The kernel's value of a four-bit code, held in the low half of a wider word. -/
def kdec (w : BitVec 8) : EReal :=
  let c : BitVec 32 := w.setWidth 32
  let n := IntOp.andi c 7#32
  let d := IntOp.maxsi (IntOp.maxsi n (IntOp.subi (IntOp.muli 2#32 n) 4#32))
    (IntOp.subi (IntOp.muli 4#32 n) 16#32)
  let mg : EReal := ((d.toInt : ℝ) : EReal) * c32 0x3F000000#32
  Scalar.select (IntOp.cmpi .ne (IntOp.andi c 8#32) 0#32) (c32 0x00000000#32 - mg) mg

/-- The eight magnitudes of the four-bit format. -/
def grid : Fin 8 → ℝ := ![0, 1 / 2, 1, 3 / 2, 2, 3, 4, 6]

/-! ## Comparisons and choices -/

theorem sel_lt {α : Type} (x y : EReal) (a b : α) :
    Scalar.select (Ideal.cmp .olt x y) a b = if x < y then a else b := by
  by_cases h : x < y <;> simp [Scalar.select, Ideal.cmp, h]

theorem sel_gt {α : Type} (x y : EReal) (a b : α) :
    Scalar.select (Ideal.cmp .ogt x y) a b = if y < x then a else b := by
  by_cases h : y < x <;> simp [Scalar.select, Ideal.cmp, h]

theorem sel_eq {α : Type} (x y : EReal) (a b : α) :
    Scalar.select (Ideal.cmp .oeq x y) a b = if x = y then a else b := by
  by_cases h : x = y <;> simp [Scalar.select, Ideal.cmp, h]

theorem sel_and {α : Type} (x y z w : EReal) (a b : α) :
    Scalar.select (IntOp.andi (Ideal.cmp .olt x y) (Ideal.cmp .ogt z w)) a b = if x < y ∧ w < z then a else b := by
  by_cases h : x < y <;> by_cases h' : w < z <;> simp [Scalar.select, Ideal.cmp, IntOp.andi, h, h']

/-- A random word's uniform is a real in `[0, 1)`. -/
theorem unif_real (r : BitVec 32) : ∃ u : ℝ, 0 ≤ u ∧ unif r = (u : EReal) := by
  refine ⟨((IntOp.shrui .vector r 8#32).toInt : ℝ) * (1 / 16777216), ?_, ?_⟩
  · have h : 0 ≤ (IntOp.shrui .vector r 8#32).toInt := by
      have e : IntOp.shrui .vector r 8#32 = r >>> 8 := by simp [IntOp.shrui]
      rw [e, BitVec.toInt_eq_toNat_of_lt]
      · positivity
      · have := r.isLt
        simp only [BitVec.toNat_ushiftRight, Nat.shiftRight_eq_div_pow]; omega
    have h' : (0 : ℝ) ≤ ((IntOp.shrui .vector r 8#32).toInt : ℝ) := by exact_mod_cast h
    positivity
  · rw [unif, c_m24, ← EReal.coe_mul]

end K01
-- ==== Proof.At.lean ====
/-
  Vectors of rank two and three read at natural-number coordinates, and each shape operation read that way.
-/
module

public import Idealize.ShloMosaic.PureOps.Ideal.Laws
public import Idealize.ShloMosaic.Lib.Pointwise
public import Idealize.ShloMosaic.Lib.Pipeline.Value
public import Mathlib.Tactic.Linarith

@[expose] public section

noncomputable section

open Idealize.ShloMosaic

namespace K01

variable {α : Type} {a b c d : ℕ}

/-- The index of a rank-two shape with the two coordinates, each reduced modulo its extent. -/
def ix2 [NeZero a] [NeZero b] (i j : ℕ) : (⟨2, ![a, b]⟩ : Shape).Idx := fun
  | ⟨0, _⟩ => Fin.ofNat a i
  | ⟨1, _⟩ => Fin.ofNat b j

/-- The index of a rank-three shape with the three coordinates, each reduced modulo its extent. -/
def ix3 [NeZero a] [NeZero b] [NeZero c] (i j k : ℕ) : (⟨3, ![a, b, c]⟩ : Shape).Idx := fun
  | ⟨0, _⟩ => Fin.ofNat a i
  | ⟨1, _⟩ => Fin.ofNat b j
  | ⟨2, _⟩ => Fin.ofNat c k

/-- A rank-two vector at two coordinates. -/
def at2 [NeZero a] [NeZero b] (x : (⟨2, ![a, b]⟩ : Shape).Idx → α) (i j : ℕ) : α := x (ix2 i j)

/-- A rank-three vector at three coordinates. -/
def at3 [NeZero a] [NeZero b] [NeZero c] (x : (⟨3, ![a, b, c]⟩ : Shape).Idx → α) (i j k : ℕ) : α := x (ix3 i j k)

/-- A rank-two vector at an index is its value at coordinates the index's are congruent to. -/
theorem at2_of [NeZero a] [NeZero b] (x : (⟨2, ![a, b]⟩ : Shape).Idx → α) (k : (⟨2, ![a, b]⟩ : Shape).Idx) (i j : ℕ)
    (h0 : (k 0).val = i % a) (h1 : (k 1).val = j % b) : x k = at2 x i j := by
  unfold at2
  refine congrArg x (funext fun r => ?_)
  match r with
  | ⟨0, _⟩ => exact Fin.ext h0
  | ⟨1, _⟩ => exact Fin.ext h1

/-- A rank-three vector at an index is its value at coordinates the index's are congruent to. -/
theorem at3_of [NeZero a] [NeZero b] [NeZero c] (x : (⟨3, ![a, b, c]⟩ : Shape).Idx → α)
    (k : (⟨3, ![a, b, c]⟩ : Shape).Idx) (i j l : ℕ)
    (h0 : (k 0).val = i % a) (h1 : (k 1).val = j % b) (h2 : (k 2).val = l % c) : x k = at3 x i j l := by
  unfold at3
  refine congrArg x (funext fun r => ?_)
  match r with
  | ⟨0, _⟩ => exact Fin.ext h0
  | ⟨1, _⟩ => exact Fin.ext h1
  | ⟨2, _⟩ => exact Fin.ext h2

/-- A rank-two vector at an index, by the index's own coordinates. -/
theorem at2_self [NeZero a] [NeZero b] (x : (⟨2, ![a, b]⟩ : Shape).Idx → α) (k : (⟨2, ![a, b]⟩ : Shape).Idx) :
    x k = at2 x (k 0).val (k 1).val :=
  at2_of x k _ _ (Nat.mod_eq_of_lt (k 0).isLt).symm (Nat.mod_eq_of_lt (k 1).isLt).symm

/-- A rank-three vector at an index, by the index's own coordinates. -/
theorem at3_self [NeZero a] [NeZero b] [NeZero c] (x : (⟨3, ![a, b, c]⟩ : Shape).Idx → α)
    (k : (⟨3, ![a, b, c]⟩ : Shape).Idx) : x k = at3 x (k 0).val (k 1).val (k 2).val :=
  at3_of x k _ _ _ (Nat.mod_eq_of_lt (k 0).isLt).symm (Nat.mod_eq_of_lt (k 1).isLt).symm
    (Nat.mod_eq_of_lt (k 2).isLt).symm

/-- The coordinates of `ix2`. -/
theorem ix2_0 [NeZero a] [NeZero b] (i j : ℕ) : ((ix2 i j : (⟨2, ![a, b]⟩ : Shape).Idx) 0).val = i % a := rfl
theorem ix2_1 [NeZero a] [NeZero b] (i j : ℕ) : ((ix2 i j : (⟨2, ![a, b]⟩ : Shape).Idx) 1).val = j % b := rfl
theorem ix3_0 [NeZero a] [NeZero b] [NeZero c] (i j k : ℕ) :
    ((ix3 i j k : (⟨3, ![a, b, c]⟩ : Shape).Idx) 0).val = i % a := rfl
theorem ix3_1 [NeZero a] [NeZero b] [NeZero c] (i j k : ℕ) :
    ((ix3 i j k : (⟨3, ![a, b, c]⟩ : Shape).Idx) 1).val = j % b := rfl
theorem ix3_2 [NeZero a] [NeZero b] [NeZero c] (i j k : ℕ) :
    ((ix3 i j k : (⟨3, ![a, b, c]⟩ : Shape).Idx) 2).val = k % c := rfl

/-- Two rank-two vectors equal at all coordinates in range are equal. -/
theorem ext2 [NeZero a] [NeZero b] {x y : (⟨2, ![a, b]⟩ : Shape).Idx → α}
    (h : ∀ i j, i < a → j < b → at2 x i j = at2 y i j) : x = y := by
  funext k
  rw [at2_self x, at2_self y]
  exact h _ _ (k 0).isLt (k 1).isLt

/-- Two rank-three vectors equal at all coordinates in range are equal. -/
theorem ext3 [NeZero a] [NeZero b] [NeZero c] {x y : (⟨3, ![a, b, c]⟩ : Shape).Idx → α}
    (h : ∀ i j l, i < a → j < b → l < c → at3 x i j l = at3 y i j l) : x = y := by
  funext k
  rw [at3_self x, at3_self y]
  exact h _ _ _ (k 0).isLt (k 1).isLt (k 2).isLt

/-- A transpose of a matrix. -/
theorem at2_transpose [NeZero a] [NeZero b] (x : (⟨2, ![a, b]⟩ : Shape).Idx → α)
    (h : (⟨2, ![a, b]⟩ : Shape).Transposes [1, 0] ⟨2, ![b, a]⟩) (i j : ℕ) :
    at2 (transpose ⟨2, ![b, a]⟩ [1, 0] x h) i j = at2 x j i := by
  refine transpose_apply [1, 0] x h (ix2 i j) (ix2 j i) fun r => ?_
  match r with
  | ⟨0, _⟩ => rfl
  | ⟨1, _⟩ => rfl

/-- A slice of a matrix. -/
theorem at2_slice [NeZero a] [NeZero b] [NeZero c] [NeZero d] (off : Fin 2 → ℕ) (x : (⟨2, ![a, b]⟩ : Shape).Idx → α)
    (h : (⟨2, ![a, b]⟩ : Shape).Slices off ⟨2, ![c, d]⟩) (i j : ℕ) (hi : i < c) (hj : j < d) :
    at2 (extractStridedSlice ⟨2, ![c, d]⟩ off x h) i j = at2 x (off 0 + i) (off 1 + j) := by
  have b0 : off 0 + c ≤ a := h.2 0
  have b1 : off 1 + d ≤ b := h.2 1
  refine extractStridedSlice_apply off x h (ix2 i j) (ix2 _ _) fun r => ?_
  match r with
  | ⟨0, _⟩ =>
    show (off 0 + i) % a = off 0 + i % c
    rw [Nat.mod_eq_of_lt hi, Nat.mod_eq_of_lt (by omega)]
  | ⟨1, _⟩ =>
    show (off 1 + j) % b = off 1 + j % d
    rw [Nat.mod_eq_of_lt hj, Nat.mod_eq_of_lt (by omega)]

/-- The rows of one parity of a matrix. -/
theorem at2_rows [NeZero a] [NeZero b] [NeZero c] (p : Fin 2) (x : (⟨2, ![a, b]⟩ : Shape).Idx → α)
    (h : (⟨2, ![a, b]⟩ : Shape).Bitcasts 16 ⟨2, ![c, b]⟩ 32) (i j : ℕ) (hi : i < c) :
    at2 (rowsOfParity p ⟨2, ![c, b]⟩ x h) i j = at2 x (2 * i + p.val) j := by
  have hs : a * 16 = c * 32 := h.2.2 0
  have hp := p.isLt
  refine at2_of x _ _ _ ?_ ?_
  · show 2 * (i % c) + p.val = (2 * i + p.val) % a
    rw [Nat.mod_eq_of_lt hi, Nat.mod_eq_of_lt (by omega)]
  · rfl

/-- The rows of one parity of the middle axis. -/
theorem at3_rows [NeZero a] [NeZero b] [NeZero c] [NeZero d] (p : Fin 2) (x : (⟨3, ![a, b, c]⟩ : Shape).Idx → α)
    (h : (⟨3, ![a, b, c]⟩ : Shape).Bitcasts 16 ⟨3, ![a, d, c]⟩ 32) (i j k : ℕ) (hj : j < d) :
    at3 (rowsOfParity p ⟨3, ![a, d, c]⟩ x h) i j k = at3 x i (2 * j + p.val) k := by
  have hs : b * 16 = d * 32 := h.2.2 1
  have hp := p.isLt
  refine at3_of x _ _ _ _ ?_ ?_ ?_
  · rfl
  · show 2 * (j % d) + p.val = (2 * j + p.val) % b
    rw [Nat.mod_eq_of_lt hj, Nat.mod_eq_of_lt (by omega)]
  · rfl

/-- Two matrices interleaved by rows. -/
theorem at2_interleave [NeZero a] [NeZero b] [NeZero c] (lo hi : (⟨2, ![c, b]⟩ : Shape).Idx → α)
    (h : (⟨2, ![a, b]⟩ : Shape).Bitcasts 16 ⟨2, ![c, b]⟩ 32) (i j : ℕ) (hi' : i < a) :
    at2 (interleaveRows ⟨2, ![a, b]⟩ lo hi h) i j = if i % 2 = 0 then at2 lo (i / 2) j else at2 hi (i / 2) j := by
  have hs : a * 16 = c * 32 := h.2.2 0
  unfold at2
  rw [interleaveRows_apply]
  have hr : (⟨2, ![a, b]⟩ : Shape).row (ix2 i j) = i := by
    show i % a = i
    exact Nat.mod_eq_of_lt hi'
  rw [hr]
  split
  · refine at2_of lo _ _ _ ?_ ?_
    · show i % a / 2 = i / 2 % c
      rw [Nat.mod_eq_of_lt hi', Nat.mod_eq_of_lt (by omega)]
    · rfl
  · refine at2_of hi _ _ _ ?_ ?_
    · show i % a / 2 = i / 2 % c
      rw [Nat.mod_eq_of_lt hi', Nat.mod_eq_of_lt (by omega)]
    · rfl

/-- Two rank-three vectors interleaved along the middle axis. -/
theorem at3_interleave [NeZero a] [NeZero b] [NeZero c] [NeZero d] (lo hi : (⟨3, ![a, d, c]⟩ : Shape).Idx → α)
    (h : (⟨3, ![a, b, c]⟩ : Shape).Bitcasts 16 ⟨3, ![a, d, c]⟩ 32) (i j k : ℕ) (hi' : j < b) :
    at3 (interleaveRows ⟨3, ![a, b, c]⟩ lo hi h) i j k =
      if j % 2 = 0 then at3 lo i (j / 2) k else at3 hi i (j / 2) k := by
  have hs : b * 16 = d * 32 := h.2.2 1
  unfold at3
  rw [interleaveRows_apply]
  have hr : (⟨3, ![a, b, c]⟩ : Shape).row (ix3 i j k) = j := by
    show j % b = j
    exact Nat.mod_eq_of_lt hi'
  rw [hr]
  split
  · refine at3_of lo _ _ _ _ ?_ ?_ ?_
    · rfl
    · show j % b / 2 = j / 2 % d
      rw [Nat.mod_eq_of_lt hi', Nat.mod_eq_of_lt (by omega)]
    · rfl
  · refine at3_of hi _ _ _ _ ?_ ?_ ?_
    · rfl
    · show j % b / 2 = j / 2 % d
      rw [Nat.mod_eq_of_lt hi', Nat.mod_eq_of_lt (by omega)]
    · rfl

/-- A matrix given a unit middle axis. -/
theorem at3_addUnit [NeZero a] [NeZero b] (x : (⟨2, ![a, b]⟩ : Shape).Idx → α)
    (h : (⟨2, ![a, b]⟩ : Shape).ShapeCasts ⟨3, ![a, 1, b]⟩) (i k : ℕ) :
    at3 (shapeCast ⟨3, ![a, 1, b]⟩ x h) i 0 k = at2 x i k := by
  refine shapeCast_apply x h (ix3 i 0 k) (ix2 i k) ?_
  rw [Shape.rowMajor_val_two, Shape.rowMajor_val_three]
  show i % a * b + k % b = (i % a * 1 + 0 % 1) * b + k % b
  simp

/-- A unit middle axis dropped. -/
theorem at2_dropUnit [NeZero a] [NeZero b] (x : (⟨3, ![a, 1, b]⟩ : Shape).Idx → α)
    (h : (⟨3, ![a, 1, b]⟩ : Shape).ShapeCasts ⟨2, ![a, b]⟩) (i k : ℕ) :
    at2 (shapeCast ⟨2, ![a, b]⟩ x h) i k = at3 x i 0 k := by
  refine shapeCast_apply x h (ix2 i k) (ix3 i 0 k) ?_
  rw [Shape.rowMajor_val_two, Shape.rowMajor_val_three]
  show (i % a * 1 + 0 % 1) * b + k % b = i % a * b + k % b
  simp

/-- The two leading axes of a rank-three vector merged. -/
theorem at2_merge [NeZero a] [NeZero b] [NeZero c] [NeZero d] (x : (⟨3, ![a, b, c]⟩ : Shape).Idx → α)
    (h : (⟨3, ![a, b, c]⟩ : Shape).ShapeCasts ⟨2, ![d, c]⟩) (hd : d = a * b) (i k : ℕ) (hi : i < d) :
    at2 (shapeCast ⟨2, ![d, c]⟩ x h) i k = at3 x (i / b) (i % b) k := by
  have hb : 0 < b := Nat.pos_of_ne_zero (NeZero.ne b)
  refine shapeCast_apply x h (ix2 i k) (ix3 _ _ k) ?_
  rw [Shape.rowMajor_val_two, Shape.rowMajor_val_three]
  show (i / b % a * b + i % b % b) * c + k % c = i % d * c + k % c
  have h1 : i / b < a := by rw [Nat.div_lt_iff_lt_mul hb]; omega
  rw [Nat.mod_eq_of_lt h1, Nat.mod_mod, Nat.mod_eq_of_lt hi, Nat.div_add_mod']

/-- A unit middle axis broadcast. -/
theorem at3_broadcastMid [NeZero a] [NeZero b] [NeZero c] (x : (⟨3, ![a, 1, c]⟩ : Shape).Idx → α)
    (h : (⟨3, ![a, 1, c]⟩ : Shape).Broadcasts ⟨3, ![a, b, c]⟩) (i j k : ℕ) :
    at3 (broadcastTo ⟨3, ![a, b, c]⟩ x h) i j k = at3 x i 0 k := by
  refine broadcastTo_apply x h (ix3 i j k) (ix3 i 0 k) fun r => ?_
  match r with
  | ⟨0, _⟩ =>
    show i % a = if a = 1 then 0 else i % a
    split
    · next h => subst h; omega
    · rfl
  | ⟨1, _⟩ => rfl
  | ⟨2, _⟩ =>
    show k % c = if c = 1 then 0 else k % c
    split
    · next h => subst h; omega
    · rfl

end K01
-- ==== Proof.Vec.lean ====
/-
  The quantiser's vector steps, as the kernel prints them for one chunk of 128 columns, and each step's value at
  an index.
-/
module

public import proofs.«01_k».proof.Proof.Gen.KernelIdeal.Skeleton
public import proofs.«01_k».proof.Proof.Quant
public import proofs.«01_k».proof.Proof.At

@[expose] public section

set_option maxRecDepth 16384

noncomputable section

open Idealize.ShloMosaic
open Cert.KernelIdeal Cert.KernelIdeal.Gen

namespace K01

section Defs
variable {F : FTy → Type} [FloatOps F]

/-- The low halves of eight rows of words. -/
def lo8 (w : FVec F S8x2x128 .bf16) : FVec F S8x128 .bf16 :=
  shapeCast S8x128 (rowsOfParity 0 S8x1x128 w bitcasts_S8x2x128_w16_S8x1x128_w32) shapeCasts_S8x1x128_S8x128

/-- The high halves of eight rows of words. -/
def hi8 (w : FVec F S8x2x128 .bf16) : FVec F S8x128 .bf16 :=
  shapeCast S8x128 (rowsOfParity 1 S8x1x128 w bitcasts_S8x2x128_w16_S8x1x128_w32) shapeCasts_S8x1x128_S8x128

/-- Two halves interleaved as sixteen rows. -/
def inter (lo hi : FVec F S8x128 .bf16) : FVec F S16x128 .bf16 :=
  interleaveRows S16x128 lo hi bitcasts_S16x128_w16_S8x128_w32

/-- The even rows of sixteen. -/
def ev (x : FVec F S16x128 .bf16) : FVec F S8x128 .bf16 := rowsOfParity 0 S8x128 x bitcasts_S16x128_w16_S8x128_w32

/-- The odd rows of sixteen. -/
def od (x : FVec F S16x128 .bf16) : FVec F S8x128 .bf16 := rowsOfParity 1 S8x128 x bitcasts_S16x128_w16_S8x128_w32

/-- Two halves joined as eight rows of words. -/
def word8 (lo hi : FVec F S8x128 .bf16) : FVec F S8x2x128 .bf16 :=
  interleaveRows S8x2x128 (shapeCast S8x1x128 lo shapeCasts_S8x128_S8x1x128)
    (shapeCast S8x1x128 hi shapeCasts_S8x128_S8x1x128) bitcasts_S8x2x128_w16_S8x1x128_w32

/-- The magnitudes of the elements of eight rows of words. -/
def absW (w : FVec F S8x2x128 .bf16) : FVec F S16x128 .bf16 := absf (inter (lo8 w) (hi8 w))

/-- The magnitudes taken apart and interleaved again. -/
def reW (w : FVec F S8x2x128 .bf16) : FVec F S16x128 .bf16 := inter (ev (absW w)) (od (absW w))

/-- The largest magnitude of each block of sixteen. -/
def maxV (w0 w1 w2 w3 w4 w5 w6 w7 : FVec F S8x2x128 .bf16) : FVec F S8x128 .f32 :=
  let M := maximumf (maximumf (maximumf (reW w0) (reW w1)) (maximumf (reW w2) (reW w3)))
    (maximumf (maximumf (reW w4) (reW w5)) (maximumf (reW w6) (reW w7)))
  maximumf (extf .f32 (ev M) bitsLt_bf16_f32) (extf .f32 (od M) bitsLt_bf16_f32)

/-- The scale of each block. -/
def sclV (g : F .f32) (A : FVec F S8x128 .f32) : FVec F S8x128 .f32 :=
  extf .f32 (truncf .fp8e4m3 (minimumf (broadcast S8x128 (Scalar.ofBits .f32 0x43E00000#32))
    (maximumf (broadcast S8x128 (Scalar.ofBits .f32 0x00000000#32))
      (divf A (broadcast S8x128 (Scalar.mulf (Scalar.ofBits .f32 0x40C00000#32) g))))) bitsLt_fp8e4m3_f32) bitsLt_fp8e4m3_f32

/-- The reciprocal of each block's divisor. -/
def invV (g : F .f32) (s : FVec F S8x128 .f32) : FVec F S8x128 .f32 :=
  let p := cmpf .ogt s (broadcast S8x128 (Scalar.ofBits .f32 0x00000000#32))
  select p (divf (broadcast S8x128 (Scalar.ofBits .f32 0x3F800000#32))
      (select p (mulf s (broadcast S8x128 g)) (broadcast S8x128 (Scalar.ofBits .f32 0x3F800000#32))))
    (broadcast S8x128 (Scalar.ofBits .f32 0x00000000#32))

/-- The rounding of eight rows of scaled magnitudes. -/
def rndV (a : FVec F S8x128 .bf16) (inv : FVec F S8x128 .f32) (r : IVec S8x128 32) : FVec F S8x128 .f32 :=
  let y := mulf (extf .f32 a bitsLt_bf16_f32) inv
  let z := maximumf y (addf (mulf y (broadcast S8x128 (Scalar.ofBits .f32 0x3F000000#32)))
    (broadcast S8x128 (Scalar.ofBits .f32 0x3F000000#32)))
  let st := select (cmpf .olt z (broadcast S8x128 (Scalar.ofBits .f32 0x3F800000#32)))
    (broadcast S8x128 (Scalar.ofBits .f32 0x3E800000#32))
    (select (cmpf .olt z (broadcast S8x128 (Scalar.ofBits .f32 0x40000000#32)))
      (broadcast S8x128 (Scalar.ofBits .f32 0x3F000000#32))
      (select (cmpf .olt z (broadcast S8x128 (Scalar.ofBits .f32 0x40800000#32)))
        (broadcast S8x128 (Scalar.ofBits .f32 0x3F800000#32)) (broadcast S8x128 (Scalar.ofBits .f32 0x40000000#32))))
  let lo := mulf (floor (divf z st)) st
  let u := mulf (sitofp .f32 (shrui r (broadcast S8x128 8#32))) (broadcast S8x128 (Scalar.ofBits .f32 0x33800000#32))
  select (cmpf .olt u (divf (subf z lo) st)) (addf lo st) lo

/-- The quantised elements of eight rows of words. -/
def qV (w : FVec F S8x2x128 .bf16) (inv : FVec F S8x128 .f32) (r0 r1 : IVec S8x128 32) : FVec F S16x128 .bf16 :=
  let z := minimumf (inter (truncf .bf16 (rndV (ev (absW w)) inv r0) bitsLt_bf16_f32)
    (truncf .bf16 (rndV (od (absW w)) inv r1) bitsLt_bf16_f32)) (broadcast S16x128 (Scalar.ofBits .bf16 0x40C0#16))
  let fix := maximumf (subf (broadcast S16x128 (Scalar.ofBits .bf16 0x3F80#16)) z)
    (broadcast S16x128 (Scalar.ofBits .bf16 0x0000#16))
  let neg := cmpf .olt (inter (lo8 w) (hi8 w)) (broadcast S16x128 (Scalar.ofBits .bf16 0x0000#16))
  subf (select neg (subf (broadcast S16x128 (Scalar.ofBits .bf16 0x0000#16)) z) z)
    (select neg (subf (broadcast S16x128 (Scalar.ofBits .bf16 0x0000#16)) fix) fix)

/-- The quantised elements as the words stored. -/
def payQ (w : FVec F S8x2x128 .bf16) (inv : FVec F S8x128 .f32) (r0 r1 : IVec S8x128 32) : FVec F S8x2x128 .bf16 :=
  word8 (ev (qV w inv r0 r1)) (od (qV w inv r0 r1))

end Defs

section Apply

theorem at3_word8 (lo hi : FVec Ideal S8x128 .bf16) (k h m : ℕ) (hh : h < 2) :
    at3 (a := 8) (b := 2) (c := 128) (word8 lo hi) k h m
      = if h = 0 then at2 (a := 8) (b := 128) lo k m else at2 (a := 8) (b := 128) hi k m := by
  unfold word8
  rw [at3_interleave (d := 1) _ _ _ _ _ _ hh]
  rcases (by omega : h = 0 ∨ h = 1) with rfl | rfl
  · simp only [Nat.zero_mod, Nat.zero_div, if_true]; exact at3_addUnit lo _ k m
  · simp only [Nat.reduceMod, Nat.reduceDiv, one_ne_zero, if_false]; exact at3_addUnit hi _ k m

theorem at2_lo8 (w : FVec Ideal S8x2x128 .bf16) (k m : ℕ) :
    at2 (a := 8) (b := 128) (lo8 w) k m = at3 (a := 8) (b := 2) (c := 128) w k 0 m := by
  unfold lo8
  rw [at2_dropUnit]
  exact at3_rows (d := 1) 0 w _ k 0 m (by omega)

theorem at2_hi8 (w : FVec Ideal S8x2x128 .bf16) (k m : ℕ) :
    at2 (a := 8) (b := 128) (hi8 w) k m = at3 (a := 8) (b := 2) (c := 128) w k 1 m := by
  unfold hi8
  rw [at2_dropUnit]
  exact at3_rows (d := 1) 1 w _ k 0 m (by omega)

theorem at2_inter (lo hi : FVec Ideal S8x128 .bf16) (i m : ℕ) (hi' : i < 16) :
    at2 (a := 16) (b := 128) (inter lo hi) i m
      = if i % 2 = 0 then at2 (a := 8) (b := 128) lo (i / 2) m else at2 (a := 8) (b := 128) hi (i / 2) m :=
  at2_interleave (c := 8) lo hi _ i m hi'

theorem at2_ev (x : FVec Ideal S16x128 .bf16) (k m : ℕ) (hk : k < 8) :
    at2 (a := 8) (b := 128) (ev x) k m = at2 (a := 16) (b := 128) x (2 * k) m := at2_rows (c := 8) 0 x _ k m hk

theorem at2_od (x : FVec Ideal S16x128 .bf16) (k m : ℕ) (hk : k < 8) :
    at2 (a := 8) (b := 128) (od x) k m = at2 (a := 16) (b := 128) x (2 * k + 1) m := at2_rows (c := 8) 1 x _ k m hk

/-- The magnitude of an extended real. -/
def mag (x : EReal) : EReal := max x (-x)

theorem at2_words (w : FVec Ideal S8x2x128 .bf16) (i m : ℕ) (hi : i < 16) :
    at2 (a := 16) (b := 128) (inter (lo8 w) (hi8 w)) i m = at3 (a := 8) (b := 2) (c := 128) w (i / 2) (i % 2) m := by
  rw [at2_inter _ _ _ _ hi, at2_lo8, at2_hi8]
  rcases Nat.mod_two_eq_zero_or_one i with h | h <;> simp [h]

theorem at2_absW (w : FVec Ideal S8x2x128 .bf16) (i m : ℕ) (hi : i < 16) :
    at2 (a := 16) (b := 128) (absW w) i m = mag (at3 (a := 8) (b := 2) (c := 128) w (i / 2) (i % 2) m) := by
  rw [← at2_words w i m hi]
  rfl

theorem at2_reW (w : FVec Ideal S8x2x128 .bf16) (i m : ℕ) (hi : i < 16) :
    at2 (a := 16) (b := 128) (reW w) i m = mag (at3 (a := 8) (b := 2) (c := 128) w (i / 2) (i % 2) m) := by
  unfold reW
  rw [at2_inter _ _ _ _ hi, at2_ev _ _ _ (by omega), at2_od _ _ _ (by omega), at2_absW _ _ _ (by omega),
    at2_absW _ _ _ (by omega)]
  rcases Nat.mod_two_eq_zero_or_one i with h | h
  · simp [h]
  · rw [if_neg (by omega)]
    rw [show (2 * (i / 2) + 1) / 2 = i / 2 by omega, show (2 * (i / 2) + 1) % 2 = i % 2 by omega]

theorem at2_maxV (w0 w1 w2 w3 w4 w5 w6 w7 : FVec Ideal S8x2x128 .bf16) (k m : ℕ) (hk : k < 8) (f : ℕ → EReal)
    (h0 : ∀ h < 2, at3 (a := 8) (b := 2) (c := 128) w0 k h m = f (0 + h))
    (h1 : ∀ h < 2, at3 (a := 8) (b := 2) (c := 128) w1 k h m = f (2 + h))
    (h2 : ∀ h < 2, at3 (a := 8) (b := 2) (c := 128) w2 k h m = f (4 + h))
    (h3 : ∀ h < 2, at3 (a := 8) (b := 2) (c := 128) w3 k h m = f (6 + h))
    (h4 : ∀ h < 2, at3 (a := 8) (b := 2) (c := 128) w4 k h m = f (8 + h))
    (h5 : ∀ h < 2, at3 (a := 8) (b := 2) (c := 128) w5 k h m = f (10 + h))
    (h6 : ∀ h < 2, at3 (a := 8) (b := 2) (c := 128) w6 k h m = f (12 + h))
    (h7 : ∀ h < 2, at3 (a := 8) (b := 2) (c := 128) w7 k h m = f (14 + h)) :
    at2 (a := 8) (b := 128) (maxV w0 w1 w2 w3 w4 w5 w6 w7) k m = (Finset.range 16).sup fun p => mag (f p) := by
  have e : at2 (a := 8) (b := 128) (maxV w0 w1 w2 w3 w4 w5 w6 w7) k m =
      max (at2 (a := 8) (b := 128) (ev (maximumf (maximumf (maximumf (reW w0) (reW w1)) (maximumf (reW w2) (reW w3)))
        (maximumf (maximumf (reW w4) (reW w5)) (maximumf (reW w6) (reW w7))))) k m)
      (at2 (a := 8) (b := 128) (od (maximumf (maximumf (maximumf (reW w0) (reW w1)) (maximumf (reW w2) (reW w3)))
        (maximumf (maximumf (reW w4) (reW w5)) (maximumf (reW w6) (reW w7))))) k m) := rfl
  have e2 : ∀ i, at2 (a := 16) (b := 128) (maximumf (maximumf (maximumf (reW w0) (reW w1)) (maximumf (reW w2) (reW w3)))
        (maximumf (maximumf (reW w4) (reW w5)) (maximumf (reW w6) (reW w7)))) i m =
      max (max (max (at2 (a := 16) (b := 128) (reW w0) i m) (at2 (a := 16) (b := 128) (reW w1) i m))
        (max (at2 (a := 16) (b := 128) (reW w2) i m) (at2 (a := 16) (b := 128) (reW w3) i m)))
      (max (max (at2 (a := 16) (b := 128) (reW w4) i m) (at2 (a := 16) (b := 128) (reW w5) i m))
        (max (at2 (a := 16) (b := 128) (reW w6) i m) (at2 (a := 16) (b := 128) (reW w7) i m))) := fun _ => rfl
  rw [e, at2_ev _ _ _ hk, at2_od _ _ _ hk, e2, e2]
  simp only [at2_reW _ _ _ (by omega : 2 * k < 16), at2_reW _ _ _ (by omega : 2 * k + 1 < 16),
    show 2 * k / 2 = k by omega, show 2 * k % 2 = 0 by omega, show (2 * k + 1) / 2 = k by omega,
    show (2 * k + 1) % 2 = 1 by omega]
  rw [h0 0 (by omega), h0 1 (by omega), h1 0 (by omega), h1 1 (by omega), h2 0 (by omega), h2 1 (by omega),
    h3 0 (by omega), h3 1 (by omega), h4 0 (by omega), h4 1 (by omega), h5 0 (by omega), h5 1 (by omega),
    h6 0 (by omega), h6 1 (by omega), h7 0 (by omega), h7 1 (by omega)]
  simp only [Finset.range_add_one, Finset.sup_insert, Finset.range_zero, Finset.sup_empty, Nat.reduceAdd]
  simp only [sup_bot_eq]
  ac_rfl

/-- The scales at an index. -/
theorem at2_sclV (g : EReal) (A : FVec Ideal S8x128 .f32) (k m : ℕ) :
    at2 (a := 8) (b := 128) (sclV (F := Ideal) g A) k m = scaleOf g (at2 (a := 8) (b := 128) A k m) := rfl

/-- The reciprocals at an index. -/
theorem at2_invV (g : EReal) (s : FVec Ideal S8x128 .f32) (k m : ℕ) :
    at2 (a := 8) (b := 128) (invV (F := Ideal) g s) k m = kinv g (at2 (a := 8) (b := 128) s k m) := rfl

/-- The rounding at an index. -/
theorem at2_rndV (a : FVec Ideal S8x128 .bf16) (inv : FVec Ideal S8x128 .f32) (r : IVec S8x128 32) (k m : ℕ) :
    at2 (a := 8) (b := 128) (rndV a inv r) k m =
      kround (max (at2 (a := 8) (b := 128) a k m * at2 (a := 8) (b := 128) inv k m)
        (at2 (a := 8) (b := 128) a k m * at2 (a := 8) (b := 128) inv k m * c32 0x3F000000#32 + c32 0x3F000000#32))
        (at2 (a := 8) (b := 128) r k m) := rfl

/-- The quantised elements at an index. -/
theorem at2_qV (w : FVec Ideal S8x2x128 .bf16) (inv : FVec Ideal S8x128 .f32) (r0 r1 : IVec S8x128 32) (i m : ℕ)
    (hi : i < 16) :
    at2 (a := 16) (b := 128) (qV w inv r0 r1) i m =
      kq (at3 (a := 8) (b := 2) (c := 128) w (i / 2) (i % 2) m) (at2 (a := 8) (b := 128) inv (i / 2) m)
        (if i % 2 = 0 then at2 (a := 8) (b := 128) r0 (i / 2) m else at2 (a := 8) (b := 128) r1 (i / 2) m) := by
  have e : ∀ (n z : FVec Ideal S16x128 .bf16), at2 (a := 16) (b := 128)
      (subf (select (cmpf .olt n (broadcast S16x128 (Scalar.ofBits (F := Ideal) .bf16 0x0000#16)))
        (subf (broadcast S16x128 (Scalar.ofBits .bf16 0x0000#16))
          (minimumf z (broadcast S16x128 (Scalar.ofBits .bf16 0x40C0#16))))
        (minimumf z (broadcast S16x128 (Scalar.ofBits .bf16 0x40C0#16))))
      (select (cmpf .olt n (broadcast S16x128 (Scalar.ofBits (F := Ideal) .bf16 0x0000#16)))
        (subf (broadcast S16x128 (Scalar.ofBits .bf16 0x0000#16))
          (maximumf (subf (broadcast S16x128 (Scalar.ofBits .bf16 0x3F80#16))
            (minimumf z (broadcast S16x128 (Scalar.ofBits .bf16 0x40C0#16))))
            (broadcast S16x128 (Scalar.ofBits .bf16 0x0000#16))))
        (maximumf (subf (broadcast S16x128 (Scalar.ofBits .bf16 0x3F80#16))
          (minimumf z (broadcast S16x128 (Scalar.ofBits .bf16 0x40C0#16))))
          (broadcast S16x128 (Scalar.ofBits .bf16 0x0000#16))))) i m =
      Scalar.select (Ideal.cmp .olt (at2 (a := 16) (b := 128) n i m) (c16 0x0000#16))
        (c16 0x0000#16 - min (at2 (a := 16) (b := 128) z i m) (c16 0x40C0#16))
        (min (at2 (a := 16) (b := 128) z i m) (c16 0x40C0#16))
      - Scalar.select (Ideal.cmp .olt (at2 (a := 16) (b := 128) n i m) (c16 0x0000#16))
        (c16 0x0000#16 - max (c16 0x3F80#16 - min (at2 (a := 16) (b := 128) z i m) (c16 0x40C0#16)) (c16 0x0000#16))
        (max (c16 0x3F80#16 - min (at2 (a := 16) (b := 128) z i m) (c16 0x40C0#16)) (c16 0x0000#16)) := fun _ _ => rfl
  have hz : at2 (a := 16) (b := 128) (inter (truncf .bf16 (rndV (ev (absW w)) inv r0) bitsLt_bf16_f32)
      (truncf .bf16 (rndV (od (absW w)) inv r1) bitsLt_bf16_f32)) i m =
      kround (kz (at3 (a := 8) (b := 2) (c := 128) w (i / 2) (i % 2) m) (at2 (a := 8) (b := 128) inv (i / 2) m))
        (if i % 2 = 0 then at2 (a := 8) (b := 128) r0 (i / 2) m else at2 (a := 8) (b := 128) r1 (i / 2) m) := by
    rw [at2_inter _ _ _ _ hi]
    show (if i % 2 = 0 then at2 (a := 8) (b := 128) (rndV (ev (absW w)) inv r0) (i / 2) m
      else at2 (a := 8) (b := 128) (rndV (od (absW w)) inv r1) (i / 2) m) = _
    rw [at2_rndV, at2_rndV, at2_ev _ _ _ (by omega), at2_od _ _ _ (by omega), at2_absW _ _ _ (by omega),
      at2_absW _ _ _ (by omega)]
    rcases Nat.mod_two_eq_zero_or_one i with h | h
    · rw [if_pos h, if_pos h, show 2 * (i / 2) / 2 = i / 2 by omega, show 2 * (i / 2) % 2 = i % 2 by omega]
      rfl
    · rw [if_neg (by omega), if_neg (by omega), show (2 * (i / 2) + 1) / 2 = i / 2 by omega,
        show (2 * (i / 2) + 1) % 2 = i % 2 by omega]
      rfl
  refine (e (inter (lo8 w) (hi8 w)) (inter (truncf .bf16 (rndV (ev (absW w)) inv r0) bitsLt_bf16_f32)
    (truncf .bf16 (rndV (od (absW w)) inv r1) bitsLt_bf16_f32))).trans ?_
  rw [at2_words _ _ _ hi, hz]
  rfl

/-- The stored words at an index. -/
theorem at3_payQ (w : FVec Ideal S8x2x128 .bf16) (inv : FVec Ideal S8x128 .f32) (r0 r1 : IVec S8x128 32) (k h m : ℕ)
    (hk : k < 8) (hh : h < 2) :
    at3 (a := 8) (b := 2) (c := 128) (payQ w inv r0 r1) k h m =
      kq (at3 (a := 8) (b := 2) (c := 128) w k h m) (at2 (a := 8) (b := 128) inv k m)
        (if h = 0 then at2 (a := 8) (b := 128) r0 k m else at2 (a := 8) (b := 128) r1 k m) := by
  unfold payQ
  rw [at3_word8 _ _ _ _ _ hh, at2_ev _ _ _ hk, at2_od _ _ _ hk, at2_qV _ _ _ _ _ _ (by omega),
    at2_qV _ _ _ _ _ _ (by omega)]
  rcases (by omega : h = 0 ∨ h = 1) with rfl | rfl
  · simp
  · rw [if_neg one_ne_zero, if_neg one_ne_zero, show (2 * k + 1) / 2 = k by omega, show (2 * k + 1) % 2 = 1 by omega]
    simp

end Apply

end K01
-- ==== Proof.Chunk.lean ====
/-
  The quantiser of one grid point, chunk by chunk: the stores each scratch buffer has received after a chunk, and
  what the chunk loads from them.
-/
module

public import proofs.«01_k».proof.Proof.Gen.KernelIdeal.Skeleton
public import proofs.«01_k».proof.Proof.Vec

@[expose] public section

set_option maxRecDepth 65536

noncomputable section

open Idealize.ShloMosaic Idealize.ShloMosaic.TcCoe Idealize.ShloMosaic.Tactic
open Cert.KernelIdeal Cert.KernelIdeal.Gen

namespace K01

variable (arg3 : Memref sig .tc .vmem S128x512 .bf16) (harg3 : arg3.IsWhole) (arg4 : Memref sig .tc .vmem S128x512 .i32) (harg4 : arg4.IsWhole)
  (arg15 : Memref sig .tc .vmem S288x2x128 .bf16) (arg16 : Memref sig .tc .vmem S544x128 .i32)
  (arg17 : Memref sig .tc .vmem S288x2x128 .bf16) (arg18 : Memref sig .tc .vmem S32x2x128 .bf16)
  (x2 : Vec Ideal S128x512 .bf16) (x3 : Vec Ideal S128x512 .i32) (g : Ideal .f32)

/-- The rectangle of columns `128 c` to `128 c + 127`. -/
abbrev colsR (c : Fin 4) : Rect S128x512 := Rect.unit (s := S128x512) ![0, 128 * c.val] S128x128.size
  (by have := c.isLt; intro a; match a with
      | ⟨0, _⟩ => show 0 + 128 ≤ 128; omega
      | ⟨1, _⟩ => show 128 * c.val + 128 ≤ 512; omega)

/-- The chunk of the gradient, as loaded. -/
def dyC (c : Fin 4) : FVec Ideal S128x128 .bf16 := View.readAt (Elt Ideal) arg3.view (colsR c).toLoadRect (harg3.unread x2)

/-- The chunk of the gradient, transposed. -/
def dyT (c : Fin 4) : FVec Ideal S128x128 .bf16 :=
  transpose S128x128 [1, 0] (shapeCast S128x128 (dyC arg3 harg3 x2 c)
    shapeCasts_S128x128_S128x128) transposes_S128x128_p1_0_S128x128

/-- The chunk of the random bits, as loaded. -/
def rC (c : Fin 4) : IVec S128x128 32 := View.readAt (Elt Ideal) arg4.view (colsR c).toLoadRect (harg4.unread x3)

/-- The chunk of the random bits, transposed. -/
def rT (c : Fin 4) : IVec S128x128 32 :=
  transpose S128x128 [1, 0] (shapeCast S128x128 (rC arg4 harg4 x3 c)
    shapeCasts_S128x128_S128x128) transposes_S128x128_p1_0_S128x128

/-- The rectangle of block `k`'s words in chunk `c`. -/
abbrev wordR (c : Fin 4) (k : Fin 8) : Rect S288x2x128 := Rect.unit (s := S288x2x128) ![72 * c.val + 9 * k.val, 0, 0] S8x2x128.size
  (by have := c.isLt; have := k.isLt; intro a; match a with
      | ⟨0, _⟩ => show 72 * c.val + 9 * k.val + 8 ≤ 288; omega
      | ⟨1, _⟩ => show 0 + 2 ≤ 2; omega
      | ⟨2, _⟩ => show 0 + 128 ≤ 128; omega)

/-- The rectangle of word `j` of each of the eight blocks of chunk `c`. -/
abbrev strideR (c : Fin 4) (j : Fin 8) : Rect S288x2x128 :=
  { off := ![72 * c.val + j.val, 0, 0], size := S8x2x128.size, stride := ![9, 1, 1],
    inb := (by have := c.isLt; have := j.isLt; intro a; match a with
      | ⟨0, _⟩ => right; show 72 * c.val + j.val + 9 * 7 < 288; omega
      | ⟨1, _⟩ => show 2 = 0 ∨ 0 + 1 * (2 - 1) < 2; omega
      | ⟨2, _⟩ => show 128 = 0 ∨ 0 + 1 * (128 - 1) < 128; omega)
    stride_pos := (by intro a; match a with
      | ⟨0, _⟩ => show 0 < 9; omega
      | ⟨1, _⟩ => show 0 < 1; omega
      | ⟨2, _⟩ => show 0 < 1; omega) }

/-- The rectangle of eight rows of random bits: rows `8 t` of chunk `c`. -/
abbrev randR (c : Fin 4) (t : Fin 16) : Rect S544x128 := Rect.unit (s := S544x128) ![136 * c.val + 17 * (t.val / 2) + 8 * (t.val % 2), 0] S8x128.size
  (by have := c.isLt; have := t.isLt; intro a; match a with
      | ⟨0, _⟩ => show 136 * c.val + 17 * (t.val / 2) + 8 * (t.val % 2) + 8 ≤ 544; omega
      | ⟨1, _⟩ => show 0 + 128 ≤ 128; omega)

/-- The rectangle of random row `t` of each of the eight blocks of chunk `c`. -/
abbrev randS (c : Fin 4) (t : Fin 16) : LoadRect S544x128 :=
  { off := ![136 * c.val + t.val, 0], size := S8x128.size, stride := ![17, 1],
    inb := (by have := c.isLt; have := t.isLt; intro a; match a with
      | ⟨0, _⟩ => right; show 136 * c.val + t.val + 17 * 7 < 544; omega
      | ⟨1, _⟩ => show 128 = 0 ∨ 0 + 1 * (128 - 1) < 128; omega) }

/-- The rectangle of the chunk's scales. -/
abbrev sclR (c : Fin 4) : Rect S32x2x128 := Rect.unit (s := S32x2x128) ![8 * c.val, 0, 0] S8x2x128.size
  (by have := c.isLt; intro a; match a with
      | ⟨0, _⟩ => show 8 * c.val + 8 ≤ 32; omega
      | ⟨1, _⟩ => show 0 + 2 ≤ 2; omega
      | ⟨2, _⟩ => show 0 + 128 ≤ 128; omega)

/-- The words of block `k`. -/
def xP (d : FVec Ideal S128x128 .bf16) (k : Fin 8) : FVec Ideal S8x2x128 .bf16 :=
  word8 (extractStridedSlice S8x128 ![8 * k.val, 0] (rowsOfParity 0 S64x128 d bitcasts_S128x128_w16_S64x128_w32)
      (by have := k.isLt; refine ⟨rfl, fun a => ?_⟩; match a with
          | ⟨0, _⟩ => show 8 * k.val + 8 ≤ 64; omega
          | ⟨1, _⟩ => show 0 + 128 ≤ 128; omega))
    (extractStridedSlice S8x128 ![8 * k.val, 0] (rowsOfParity 1 S64x128 d bitcasts_S128x128_w16_S64x128_w32)
      (by have := k.isLt; refine ⟨rfl, fun a => ?_⟩; match a with
          | ⟨0, _⟩ => show 8 * k.val + 8 ≤ 64; omega
          | ⟨1, _⟩ => show 0 + 128 ≤ 128; omega))

/-- Eight rows of random bits. -/
def rP (r : IVec S128x128 32) (t : Fin 16) : IVec S8x128 32 :=
  shapeCast S8x128 (extractStridedSlice S8x128 ![8 * t.val, 0] r
      (by have := t.isLt; refine ⟨rfl, fun a => ?_⟩; match a with
          | ⟨0, _⟩ => show 8 * t.val + 8 ≤ 128; omega
          | ⟨1, _⟩ => show 0 + 128 ≤ 128; omega)) shapeCasts_S8x128_S8x128

/-- The stores of a chunk's words, newest first, over earlier ones. -/
def xsL (c : Fin 4) (L : List (View.Piece (Elt Ideal) S288x2x128 .bf16)) : List (View.Piece (Elt Ideal) S288x2x128 .bf16) :=
  ⟨wordR c 7, xP (dyT arg3 harg3 x2 c) 7⟩ :: ⟨wordR c 6, xP (dyT arg3 harg3 x2 c) 6⟩ :: ⟨wordR c 5, xP (dyT arg3 harg3 x2 c) 5⟩ :: ⟨wordR c 4, xP (dyT arg3 harg3 x2 c) 4⟩ :: ⟨wordR c 3, xP (dyT arg3 harg3 x2 c) 3⟩ :: ⟨wordR c 2, xP (dyT arg3 harg3 x2 c) 2⟩ :: ⟨wordR c 1, xP (dyT arg3 harg3 x2 c) 1⟩ :: ⟨wordR c 0, xP (dyT arg3 harg3 x2 c) 0⟩ :: L

/-- The stores of a chunk's random bits, newest first, over earlier ones. -/
def rsL (c : Fin 4) (L : List (View.Piece (Elt Ideal) S544x128 .i32)) : List (View.Piece (Elt Ideal) S544x128 .i32) :=
  ⟨randR c 15, rP (rT arg4 harg4 x3 c) 15⟩ :: ⟨randR c 14, rP (rT arg4 harg4 x3 c) 14⟩ :: ⟨randR c 13, rP (rT arg4 harg4 x3 c) 13⟩ :: ⟨randR c 12, rP (rT arg4 harg4 x3 c) 12⟩ :: ⟨randR c 11, rP (rT arg4 harg4 x3 c) 11⟩ :: ⟨randR c 10, rP (rT arg4 harg4 x3 c) 10⟩ :: ⟨randR c 9, rP (rT arg4 harg4 x3 c) 9⟩ :: ⟨randR c 8, rP (rT arg4 harg4 x3 c) 8⟩ :: ⟨randR c 7, rP (rT arg4 harg4 x3 c) 7⟩ :: ⟨randR c 6, rP (rT arg4 harg4 x3 c) 6⟩ :: ⟨randR c 5, rP (rT arg4 harg4 x3 c) 5⟩ :: ⟨randR c 4, rP (rT arg4 harg4 x3 c) 4⟩ :: ⟨randR c 3, rP (rT arg4 harg4 x3 c) 3⟩ :: ⟨randR c 2, rP (rT arg4 harg4 x3 c) 2⟩ :: ⟨randR c 1, rP (rT arg4 harg4 x3 c) 1⟩ :: ⟨randR c 0, rP (rT arg4 harg4 x3 c) 0⟩ :: L

/-- The stores after each chunk. -/
def xsA : Fin 4 → List (View.Piece (Elt Ideal) S288x2x128 .bf16)
  | 0 => xsL arg3 harg3 x2 0 []
  | 1 => xsL arg3 harg3 x2 1 (xsL arg3 harg3 x2 0 [])
  | 2 => xsL arg3 harg3 x2 2 (xsL arg3 harg3 x2 1 (xsL arg3 harg3 x2 0 []))
  | 3 => xsL arg3 harg3 x2 3 (xsL arg3 harg3 x2 2 (xsL arg3 harg3 x2 1 (xsL arg3 harg3 x2 0 [])))

/-- The stores after each chunk. -/
def rsA : Fin 4 → List (View.Piece (Elt Ideal) S544x128 .i32)
  | 0 => rsL arg4 harg4 x3 0 []
  | 1 => rsL arg4 harg4 x3 1 (rsL arg4 harg4 x3 0 [])
  | 2 => rsL arg4 harg4 x3 2 (rsL arg4 harg4 x3 1 (rsL arg4 harg4 x3 0 []))
  | 3 => rsL arg4 harg4 x3 3 (rsL arg4 harg4 x3 2 (rsL arg4 harg4 x3 1 (rsL arg4 harg4 x3 0 [])))

/-- Word `j` of each block of chunk `c`, as loaded. -/
def xw (c : Fin 4) (j : Fin 8) : FVec Ideal S8x2x128 .bf16 := arg15.view.readCov (xsA arg3 harg3 x2 c) (strideR c j).toLoadRect

/-- Random row `t` of each block of chunk `c`, as loaded. -/
def rw' (c : Fin 4) (t : Fin 16) : IVec S8x128 32 := arg16.view.readCov (rsA arg4 harg4 x3 c) (randS c t)

/-- The largest magnitude of each block of chunk `c`. -/
def amV (c : Fin 4) : FVec Ideal S8x128 .f32 :=
  maxV (F := Ideal) (xw arg3 harg3 arg15 x2 c 0) (xw arg3 harg3 arg15 x2 c 1) (xw arg3 harg3 arg15 x2 c 2) (xw arg3 harg3 arg15 x2 c 3) (xw arg3 harg3 arg15 x2 c 4) (xw arg3 harg3 arg15 x2 c 5) (xw arg3 harg3 arg15 x2 c 6) (xw arg3 harg3 arg15 x2 c 7)

/-- The scale of each block of chunk `c`. -/
def scV (c : Fin 4) : FVec Ideal S8x128 .f32 := sclV g (amV arg3 harg3 arg15 x2 c)

/-- The quantised words `j` of chunk `c`. -/
def qP (c : Fin 4) (j : Fin 8) (r0 r1 : Fin 16) : FVec Ideal S8x2x128 .bf16 :=
  payQ (F := Ideal) (xw arg3 harg3 arg15 x2 c j) (invV g (scV arg3 harg3 arg15 x2 g c))
    (rw' arg4 harg4 arg16 x3 c r0) (rw' arg4 harg4 arg16 x3 c r1)

/-- The stores of a chunk's quantised words, newest first, over earlier ones. -/
def qsL (c : Fin 4) (L : List (View.Piece (Elt Ideal) S288x2x128 .bf16)) : List (View.Piece (Elt Ideal) S288x2x128 .bf16) :=
  ⟨strideR c 7, qP arg3 harg3 arg4 harg4 arg15 arg16 x2 x3 g c 7 14 15⟩ :: ⟨strideR c 6, qP arg3 harg3 arg4 harg4 arg15 arg16 x2 x3 g c 6 12 13⟩ :: ⟨strideR c 5, qP arg3 harg3 arg4 harg4 arg15 arg16 x2 x3 g c 5 10 11⟩ :: ⟨strideR c 4, qP arg3 harg3 arg4 harg4 arg15 arg16 x2 x3 g c 4 8 9⟩ :: ⟨strideR c 3, qP arg3 harg3 arg4 harg4 arg15 arg16 x2 x3 g c 3 6 7⟩ :: ⟨strideR c 2, qP arg3 harg3 arg4 harg4 arg15 arg16 x2 x3 g c 2 4 5⟩ :: ⟨strideR c 1, qP arg3 harg3 arg4 harg4 arg15 arg16 x2 x3 g c 1 2 3⟩ :: ⟨strideR c 0, qP arg3 harg3 arg4 harg4 arg15 arg16 x2 x3 g c 0 0 1⟩ :: L

/-- The scales as the words stored. -/
def sP (c : Fin 4) : FVec Ideal S8x2x128 .bf16 :=
  word8 (truncf .bf16 (scV arg3 harg3 arg15 x2 g c) bitsLt_bf16_f32) (truncf .bf16 (scV arg3 harg3 arg15 x2 g c) bitsLt_bf16_f32)

/-- The store of a chunk's scales over earlier ones. -/
def ssL (c : Fin 4) (L : List (View.Piece (Elt Ideal) S32x2x128 .bf16)) : List (View.Piece (Elt Ideal) S32x2x128 .bf16) :=
  ⟨sclR c, sP arg3 harg3 arg15 x2 g c⟩ :: L

/-- The stores after each chunk. -/
def qsA : Fin 4 → List (View.Piece (Elt Ideal) S288x2x128 .bf16)
  | 0 => qsL arg3 harg3 arg4 harg4 arg15 arg16 x2 x3 g 0 []
  | 1 => qsL arg3 harg3 arg4 harg4 arg15 arg16 x2 x3 g 1 (qsL arg3 harg3 arg4 harg4 arg15 arg16 x2 x3 g 0 [])
  | 2 => qsL arg3 harg3 arg4 harg4 arg15 arg16 x2 x3 g 2 (qsL arg3 harg3 arg4 harg4 arg15 arg16 x2 x3 g 1 (qsL arg3 harg3 arg4 harg4 arg15 arg16 x2 x3 g 0 []))
  | 3 => qsL arg3 harg3 arg4 harg4 arg15 arg16 x2 x3 g 3 (qsL arg3 harg3 arg4 harg4 arg15 arg16 x2 x3 g 2 (qsL arg3 harg3 arg4 harg4 arg15 arg16 x2 x3 g 1 (qsL arg3 harg3 arg4 harg4 arg15 arg16 x2 x3 g 0 [])))

/-- The stores after each chunk. -/
def ssA : Fin 4 → List (View.Piece (Elt Ideal) S32x2x128 .bf16)
  | 0 => ssL arg3 harg3 arg15 x2 g 0 []
  | 1 => ssL arg3 harg3 arg15 x2 g 1 (ssL arg3 harg3 arg15 x2 g 0 [])
  | 2 => ssL arg3 harg3 arg15 x2 g 2 (ssL arg3 harg3 arg15 x2 g 1 (ssL arg3 harg3 arg15 x2 g 0 []))
  | 3 => ssL arg3 harg3 arg15 x2 g 3 (ssL arg3 harg3 arg15 x2 g 2 (ssL arg3 harg3 arg15 x2 g 1 (ssL arg3 harg3 arg15 x2 g 0 [])))

/-- The quantised words of block `k` of chunk `c`, as loaded. -/
def qw (c : Fin 4) (k : Fin 8) : FVec Ideal S8x2x128 .bf16 :=
  arg17.view.readCov (qsA arg3 harg3 arg4 harg4 arg15 arg16 x2 x3 g c) (wordR c k).toLoadRect

/-- The scales of chunk `c`, as loaded. -/
def sw (c : Fin 4) : FVec Ideal S8x2x128 .bf16 := arg18.view.readCov (ssA arg3 harg3 arg15 x2 g c) (sclR c).toLoadRect

/-- Block `k` of chunk `c`, quantised: sixteen rows. -/
def q16 (c : Fin 4) (k : Fin 8) : FVec Ideal S16x128 .bf16 :=
  inter (F := Ideal) (lo8 (F := Ideal) (qw arg3 harg3 arg4 harg4 arg15 arg16 arg17 x2 x3 g c k)) (hi8 (F := Ideal) (qw arg3 harg3 arg4 harg4 arg15 arg16 arg17 x2 x3 g c k))

/-- Chunk `c`, quantised: one row per column of the operand. -/
def qC (c : Fin 4) : FVec Ideal S128x128 .bf16 :=
  concatenate S128x128 0 [⟨S16x128, q16 arg3 harg3 arg4 harg4 arg15 arg16 arg17 x2 x3 g c 0⟩, ⟨S16x128, q16 arg3 harg3 arg4 harg4 arg15 arg16 arg17 x2 x3 g c 1⟩, ⟨S16x128, q16 arg3 harg3 arg4 harg4 arg15 arg16 arg17 x2 x3 g c 2⟩, ⟨S16x128, q16 arg3 harg3 arg4 harg4 arg15 arg16 arg17 x2 x3 g c 3⟩, ⟨S16x128, q16 arg3 harg3 arg4 harg4 arg15 arg16 arg17 x2 x3 g c 4⟩, ⟨S16x128, q16 arg3 harg3 arg4 harg4 arg15 arg16 arg17 x2 x3 g c 5⟩, ⟨S16x128, q16 arg3 harg3 arg4 harg4 arg15 arg16 arg17 x2 x3 g c 6⟩, ⟨S16x128, q16 arg3 harg3 arg4 harg4 arg15 arg16 arg17 x2 x3 g c 7⟩]
    concatenates_S16x128_S16x128_S16x128_S16x128_S16x128_S16x128_S16x128_S16x128_S128x128_d0

/-- Chunk `c`, quantised and scaled: one column per column of the operand. -/
def lhsV (c : Fin 4) : FVec Ideal S128x128 .bf16 :=
  shapeCast S128x128 (transpose S128x128 [1, 0] (mulf (qC arg3 harg3 arg4 harg4 arg15 arg16 arg17 x2 x3 g c)
    (shapeCast S128x128 (broadcastTo S8x16x128 (shapeCast S8x1x128 (shapeCast S8x1x128
      (truncf .bf16 (extf .f32 (lo8 (F := Ideal) (sw arg3 harg3 arg15 arg18 x2 g c)) bitsLt_bf16_f32 : FVec Ideal S8x128 .f32) bitsLt_bf16_f32 : FVec Ideal S8x128 .bf16)
      shapeCasts_S8x128_S8x1x128) shapeCasts_S8x1x128_S8x1x128) broadcasts_S8x1x128_S8x16x128)
      shapeCasts_S8x16x128_S128x128)) transposes_S128x128_p1_0_S128x128) shapeCasts_S128x128_S128x128

/-- The stores of the scaled operand, newest first. -/
def lhsL : List (View.Piece (Elt Ideal) S128x512 .bf16) :=
  [⟨colsR 3, lhsV arg3 harg3 arg4 harg4 arg15 arg16 arg17 arg18 x2 x3 g 3⟩, ⟨colsR 2, lhsV arg3 harg3 arg4 harg4 arg15 arg16 arg17 arg18 x2 x3 g 2⟩, ⟨colsR 1, lhsV arg3 harg3 arg4 harg4 arg15 arg16 arg17 arg18 x2 x3 g 1⟩, ⟨colsR 0, lhsV arg3 harg3 arg4 harg4 arg15 arg16 arg17 arg18 x2 x3 g 0⟩]

/-- The codes of the elements of one parity. -/
def codeH (q : FVec Ideal S64x128 .bf16) : IVec S64x128 32 :=
  let x : FVec Ideal S64x128 .f32 := extf .f32 q bitsLt_bf16_f32
  let a := absf x
  ori (fptosi 32 (select (cmpf .olt a (broadcast S64x128 (Scalar.ofBits .f32 0x40000000#32)))
      (mulf a (broadcast S64x128 (Scalar.ofBits .f32 0x40000000#32)))
      (select (cmpf .olt a (broadcast S64x128 (Scalar.ofBits .f32 0x40800000#32)))
        (addf a (broadcast S64x128 (Scalar.ofBits .f32 0x40000000#32)))
        (select (cmpf .olt a (broadcast S64x128 (Scalar.ofBits .f32 0x40A00000#32)))
          (broadcast S64x128 (Scalar.ofBits .f32 0x40C00000#32)) (broadcast S64x128 (Scalar.ofBits .f32 0x40E00000#32))))))
    (select (cmpf .olt x (broadcast S64x128 (Scalar.ofBits .f32 0x00000000#32))) (broadcast S64x128 8#32) (broadcast S64x128 0#32))

/-- The packed codes of a chunk. -/
def codeV (q : FVec Ideal S128x128 .bf16) : IVec S128x64 8 :=
  trunci 8 (transpose S128x64 [1, 0] (ori (codeH (rowsOfParity 0 S64x128 q bitcasts_S128x128_w16_S64x128_w32))
    (shli (codeH (rowsOfParity 1 S64x128 q bitcasts_S128x128_w16_S64x128_w32)) (broadcast S64x128 4#32)))
    transposes_S64x128_p1_0_S128x64) natLt_8_32

end K01
-- ==== Proof.Tile.lean ====
/-
  The weight tiles of one grid point: the decoded weights, their scales, and the stores into the accumulator, the scale
  buffer and the running largest magnitude.
-/
module

public import proofs.«01_k».proof.Proof.Gen.KernelIdeal.Skeleton
public import proofs.«01_k».proof.Proof.Chunk

@[expose] public section

set_option maxRecDepth 65536

noncomputable section

open Idealize.ShloMosaic Idealize.ShloMosaic.TcCoe Idealize.ShloMosaic.Tactic
open Cert.KernelIdeal Cert.KernelIdeal.Gen

namespace K01

variable (arg3 : Memref sig .tc .vmem S128x512 .bf16) (harg3 : arg3.IsWhole)
  (arg5 : Memref sig .tc .vmem S512x1792 .i8) (harg5 : arg5.IsWhole) (arg6 : Memref sig .tc .vmem S32x224 .fp8e4m3) (harg6 : arg6.IsWhole)
  (arg11 : Memref sig .tc .vmem S128x3584 .f32) (harg11 : arg11.IsWhole)
  (arg13 : Memref sig .tc .vmem S1184x128 .f32) (harg13 : arg13.IsWhole)
  (arg14 : Memref sig .tc .vmem S8x128 .f32) (harg14 : arg14.IsWhole)
  (arg15 : Memref sig .tc .vmem S288x2x128 .bf16) (arg19 : Memref sig .tc .vmem S14x32x2x128 .bf16)
  (x2 : Vec Ideal S128x512 .bf16) (x4 : Vec Ideal S512x1792 .i8) (x5 : Vec Ideal S32x224 .fp8e4m3) (g : Ideal .f32)

/-- The rectangle of rows `64 r` and columns `128 t` of the packed weights. -/
abbrev wR (t : Fin 14) (r : Fin 8) : Rect S512x1792 := Rect.unit (s := S512x1792) ![64 * r.val, 128 * t.val] S64x128.size
  (by have := t.isLt; have := r.isLt; intro a; match a with
      | ⟨0, _⟩ => show 64 * r.val + 64 ≤ 512; omega
      | ⟨1, _⟩ => show 128 * t.val + 128 ≤ 1792; omega)

/-- The rectangle of tile `t`'s columns of the accumulator. -/
abbrev accR (t : Fin 14) : Rect S128x3584 := Rect.unit (s := S128x3584) ![0, 256 * t.val] S128x256.size
  (by have := t.isLt; intro a; match a with
      | ⟨0, _⟩ => show 0 + 128 ≤ 128; omega
      | ⟨1, _⟩ => show 256 * t.val + 256 ≤ 3584; omega)

/-- The rectangle of tile `t`'s weight scales. -/
abbrev wssR (t : Fin 14) : Rect S14x32x2x128 := Rect.unit (s := S14x32x2x128) ![t.val, 0, 0, 0] S1x32x2x128.size
  (by have := t.isLt; intro a; match a with
      | ⟨0, _⟩ => show t.val + 1 ≤ 14; omega
      | ⟨1, _⟩ => show 0 + 32 ≤ 32; omega
      | ⟨2, _⟩ => show 0 + 2 ≤ 2; omega
      | ⟨3, _⟩ => show 0 + 128 ≤ 128; omega)

/-- Sixty-four rows of packed weights, as loaded. -/
def wP (t : Fin 14) (r : Fin 8) : IVec S64x128 8 := View.readAt (Elt Ideal) arg5.view (wR t r).toLoadRect (harg5.unread x4)

/-- The packed weights shifted, as words, by four bits. -/
def hiB (w : IVec S64x128 8) : IVec S64x128 8 :=
  bitcast S64x128 8 (shrui (bitcast S16x128 32 w bitcasts_S64x128_w8_S16x128_w32) (broadcast S16x128 4#32))
    bitcasts_S16x128_w32_S64x128_w8

/-- Four-bit floats decoded. -/
def decV (w : IVec S512x128 8) : FVec Ideal S512x128 .bf16 :=
  have b : IVec S512x128 32 := extui 32 w natLt_8_32
  have v : IVec S512x128 32 := andi b (broadcast S512x128 7#32)
  have p : IVec S512x128 32 := maxsi v (subi (muli (broadcast S512x128 2#32) v) (broadcast S512x128 4#32))
  have q : IVec S512x128 32 := maxsi p (subi (muli (broadcast S512x128 4#32) v) (broadcast S512x128 16#32))
  have h : FVec Ideal S512x128 .f32 := mulf (sitofp .f32 q) (broadcast S512x128 (Scalar.ofBits .f32 0x3F000000#32))
  truncf .bf16 (select (cmpi .ne (andi b (broadcast S512x128 8#32)) (broadcast S512x128 0#32))
    (subf (broadcast S512x128 (Scalar.ofBits .f32 0x00000000#32)) h) h) bitsLt_bf16_f32

/-- The low halves of a tile's packed weights. -/
def loW (t : Fin 14) : IVec S512x128 8 :=
  concatenate S512x128 0 [⟨S64x128, wP arg5 harg5 x4 t 0⟩, ⟨S64x128, wP arg5 harg5 x4 t 1⟩, ⟨S64x128, wP arg5 harg5 x4 t 2⟩, ⟨S64x128, wP arg5 harg5 x4 t 3⟩, ⟨S64x128, wP arg5 harg5 x4 t 4⟩, ⟨S64x128, wP arg5 harg5 x4 t 5⟩, ⟨S64x128, wP arg5 harg5 x4 t 6⟩, ⟨S64x128, wP arg5 harg5 x4 t 7⟩] concatenates_S64x128_S64x128_S64x128_S64x128_S64x128_S64x128_S64x128_S64x128_S512x128_d0

/-- The high halves of a tile's packed weights. -/
def hiW (t : Fin 14) : IVec S512x128 8 :=
  concatenate S512x128 0 [⟨S64x128, hiB (wP arg5 harg5 x4 t 0)⟩, ⟨S64x128, hiB (wP arg5 harg5 x4 t 1)⟩, ⟨S64x128, hiB (wP arg5 harg5 x4 t 2)⟩, ⟨S64x128, hiB (wP arg5 harg5 x4 t 3)⟩, ⟨S64x128, hiB (wP arg5 harg5 x4 t 4)⟩, ⟨S64x128, hiB (wP arg5 harg5 x4 t 5)⟩, ⟨S64x128, hiB (wP arg5 harg5 x4 t 6)⟩, ⟨S64x128, hiB (wP arg5 harg5 x4 t 7)⟩] concatenates_S64x128_S64x128_S64x128_S64x128_S64x128_S64x128_S64x128_S64x128_S512x128_d0

/-- The weight scales, widened. -/
def wsF : FVec Ideal S32x224 .f32 :=
  extf .f32 ((View.readAt (Elt Ideal) arg6.view (Rect.unit (s := S32x224) ![0, 0] S32x224.size inb_S32x224_S32x224_0_0).toLoadRect
    (harg6.unread x5) : FVec Ideal S32x224 .fp8e4m3)) bitsLt_fp8e4m3_f32

/-- The first 128 columns of the weight scales. -/
def wsA : FVec Ideal S32x128 .f32 := extractStridedSlice S32x128 ![0, 0] (wsF arg6 harg6 x5) slices_S32x224_o0_0_S32x128

/-- The last 96 columns of the weight scales, filled up with zeros. -/
def wsB : FVec Ideal S32x128 .f32 :=
  concatenate S32x128 1 [⟨S32x96, extractStridedSlice S32x96 ![0, 128] (wsF arg6 harg6 x5) slices_S32x224_o0_128_S32x96⟩,
    ⟨S32x32, broadcast S32x32 (Scalar.ofBits (F := Ideal) .f32 0x00000000#32)⟩] concatenates_S32x96_S32x32_S32x128_d1

/-- The lanes of a tile's scale columns, from the tile's first one. -/
def gIdx (off : BitVec 32) : IVec S32x128 32 :=
  have n : IVec S32x128 32 := iota .tc S32x128 32 [1] iota_S32x128_d1_w32
  have q : IVec S32x128 32 := divsi n (broadcast S32x128 8#32)
  have sg : IVec S32x128 32 := subi (extui 32 (cmpi .sgt n (broadcast S32x128 0#32)) natLt_1_32)
    (extui 32 (cmpi .slt n (broadcast S32x128 0#32)) natLt_1_32)
  have u : IVec S32x128 1 := cmpi .ne sg (broadcast S32x128
    (Scalar.subi (Scalar.extui (Scalar.cmpi .sgt 8#32 0#32)) (Scalar.extui (Scalar.cmpi .slt 8#32 0#32))))
  have f : IVec S32x128 32 := select (andi u (cmpi .ne (remsi n (broadcast S32x128 8#32)) (broadcast S32x128 0#32)))
    (subi q (broadcast S32x128 1#32)) q
  have a : IVec S32x128 32 := addi f (broadcast S32x128 off)
  shapeCast S32x128 (shapeCast S32x128x1 (select (cmpi .slt a (broadcast S32x128 0#32)) (addi a (broadcast S32x128 128#32)) a)
    shapeCasts_S32x128_S32x128x1) shapeCasts_S32x128x1_S32x128

/-- Scales stored as pairs. -/
def pairP (v : FVec Ideal S32x128 .f32) : FVec Ideal S1x32x2x128 .bf16 :=
  have h : FVec Ideal S1x32x128 .bf16 := shapeCast S1x32x128 (truncf .bf16 v bitsLt_bf16_f32 : FVec Ideal S32x128 .bf16) shapeCasts_S32x128_S1x32x128
  interleaveRows S1x32x2x128 (shapeCast S1x32x1x128 h shapeCasts_S1x32x128_S1x32x1x128)
    (shapeCast S1x32x1x128 h shapeCasts_S1x32x128_S1x32x1x128) bitcasts_S1x32x2x128_w16_S1x32x1x128_w32

/-- A tile's weight scales, one per lane. -/
def wssV : Fin 14 → FVec Ideal S32x128 .f32
  | ⟨0, _⟩ => dynamicGather 1 (wsA arg6 harg6 x5) (gIdx 0#32)
  | ⟨1, _⟩ => dynamicGather 1 (wsA arg6 harg6 x5) (gIdx 16#32)
  | ⟨2, _⟩ => dynamicGather 1 (wsA arg6 harg6 x5) (gIdx 32#32)
  | ⟨3, _⟩ => dynamicGather 1 (wsA arg6 harg6 x5) (gIdx 48#32)
  | ⟨4, _⟩ => dynamicGather 1 (wsA arg6 harg6 x5) (gIdx 64#32)
  | ⟨5, _⟩ => dynamicGather 1 (wsA arg6 harg6 x5) (gIdx 80#32)
  | ⟨6, _⟩ => dynamicGather 1 (wsA arg6 harg6 x5) (gIdx 96#32)
  | ⟨7, _⟩ => dynamicGather 1 (wsA arg6 harg6 x5) (gIdx 112#32)
  | ⟨8, _⟩ => dynamicGather 1 (wsB arg6 harg6 x5) (gIdx 0#32)
  | ⟨9, _⟩ => dynamicGather 1 (wsB arg6 harg6 x5) (gIdx 16#32)
  | ⟨10, _⟩ => dynamicGather 1 (wsB arg6 harg6 x5) (gIdx 32#32)
  | ⟨11, _⟩ => dynamicGather 1 (wsB arg6 harg6 x5) (gIdx 48#32)
  | ⟨12, _⟩ => dynamicGather 1 (wsB arg6 harg6 x5) (gIdx 64#32)
  | ⟨13, _⟩ => dynamicGather 1 (wsB arg6 harg6 x5) (gIdx 80#32)
  | ⟨n + 14, h⟩ => absurd h (by omega)

/-- The stores of all weight scales. -/
def wssL : List (View.Piece (Elt Ideal) S14x32x2x128 .bf16) := [⟨wssR 13, pairP (wssV arg6 harg6 x5 13)⟩, ⟨wssR 12, pairP (wssV arg6 harg6 x5 12)⟩, ⟨wssR 11, pairP (wssV arg6 harg6 x5 11)⟩, ⟨wssR 10, pairP (wssV arg6 harg6 x5 10)⟩, ⟨wssR 9, pairP (wssV arg6 harg6 x5 9)⟩, ⟨wssR 8, pairP (wssV arg6 harg6 x5 8)⟩, ⟨wssR 7, pairP (wssV arg6 harg6 x5 7)⟩, ⟨wssR 6, pairP (wssV arg6 harg6 x5 6)⟩, ⟨wssR 5, pairP (wssV arg6 harg6 x5 5)⟩, ⟨wssR 4, pairP (wssV arg6 harg6 x5 4)⟩, ⟨wssR 3, pairP (wssV arg6 harg6 x5 3)⟩, ⟨wssR 2, pairP (wssV arg6 harg6 x5 2)⟩, ⟨wssR 1, pairP (wssV arg6 harg6 x5 1)⟩, ⟨wssR 0, pairP (wssV arg6 harg6 x5 0)⟩]

/-- A tile's weight scales, one per weight of the tile's low or high halves. -/
def scT (t : Fin 14) : FVec Ideal S512x128 .bf16 :=
  have raw : FVec Ideal S1x32x2x128 .bf16 := arg19.view.readCov (wssL arg6 harg6 x5) (wssR t).toLoadRect
  have lo : FVec Ideal S1x32x128 .bf16 := shapeCast S1x32x128 (rowsOfParity 0 S1x32x1x128 raw bitcasts_S1x32x2x128_w16_S1x32x1x128_w32)
    shapeCasts_S1x32x1x128_S1x32x128
  have v : FVec Ideal S32x128 .bf16 := truncf .bf16
    (extf .f32 (shapeCast S32x128 lo shapeCasts_S1x32x128_S32x128 : FVec Ideal S32x128 .bf16) bitsLt_bf16_f32) bitsLt_bf16_f32
  shapeCast S512x128 (broadcastTo S32x16x128 (shapeCast S32x1x128 (shapeCast S32x1x128 v
    shapeCasts_S32x128_S32x1x128) shapeCasts_S32x1x128_S32x1x128) broadcasts_S32x1x128_S32x16x128) shapeCasts_S32x16x128_S512x128

/-- A tile's scaled weights. -/
def wV (t : Fin 14) : FVec Ideal S512x256 .bf16 :=
  have a : FVec Ideal S512x128 .bf16 := mulf (decV (loW arg5 harg5 x4 t)) (scT arg6 harg6 arg19 x5 t)
  have b : FVec Ideal S512x128 .bf16 := mulf (decV (hiW arg5 harg5 x4 t)) (scT arg6 harg6 arg19 x5 t)
  concatenate S512x256 1 [⟨S512x128, a⟩, ⟨S512x128, b⟩] concatenates_S512x128_S512x128_S512x256_d1

variable (lhs : FVec Ideal S128x512 .bf16)

/-- A tile's columns of the accumulator with the tile's product added. -/
def accP (t : Fin 14) (old : FVec Ideal S128x256 .f32) : FVec Ideal S128x256 .f32 :=
  shapeCast S128x256 (addf old (matmul dot_S128x512_S512x256_S128x256_1_0_0_1_n_n none lhs
    (wV arg5 harg5 arg6 harg6 arg19 x4 x5 t) (constant S128x256 .f32 0x00000000#32))) shapeCasts_S128x256_S128x256

/-- The store of a tile's columns over the contents `xs`. -/
def accBp (xs : Vec Ideal S128x3584 .f32) (t : Fin 14) : View.Piece (Elt Ideal) S128x3584 .f32 :=
  ⟨accR t, accP arg5 harg5 arg6 harg6 arg19 x4 x5 lhs t
    (View.readAt (Elt Ideal) arg11.view (accR t).toLoadRect (harg11.unread xs))⟩

/-- The stores of all tiles over the contents `xs`. -/
def accB (xs : Vec Ideal S128x3584 .f32) : List (View.Piece (Elt Ideal) S128x3584 .f32) := [accBp arg5 harg5 arg6 harg6 arg11 harg11 arg19 x4 x5 lhs xs 13, accBp arg5 harg5 arg6 harg6 arg11 harg11 arg19 x4 x5 lhs xs 12, accBp arg5 harg5 arg6 harg6 arg11 harg11 arg19 x4 x5 lhs xs 11, accBp arg5 harg5 arg6 harg6 arg11 harg11 arg19 x4 x5 lhs xs 10, accBp arg5 harg5 arg6 harg6 arg11 harg11 arg19 x4 x5 lhs xs 9, accBp arg5 harg5 arg6 harg6 arg11 harg11 arg19 x4 x5 lhs xs 8, accBp arg5 harg5 arg6 harg6 arg11 harg11 arg19 x4 x5 lhs xs 7, accBp arg5 harg5 arg6 harg6 arg11 harg11 arg19 x4 x5 lhs xs 6, accBp arg5 harg5 arg6 harg6 arg11 harg11 arg19 x4 x5 lhs xs 5, accBp arg5 harg5 arg6 harg6 arg11 harg11 arg19 x4 x5 lhs xs 4, accBp arg5 harg5 arg6 harg6 arg11 harg11 arg19 x4 x5 lhs xs 3, accBp arg5 harg5 arg6 harg6 arg11 harg11 arg19 x4 x5 lhs xs 2, accBp arg5 harg5 arg6 harg6 arg11 harg11 arg19 x4 x5 lhs xs 1, accBp arg5 harg5 arg6 harg6 arg11 harg11 arg19 x4 x5 lhs xs 0]

/-- The store of zeros over the accumulator. -/
def accA0 : List (View.Piece (Elt Ideal) S128x3584 .f32) :=
  [⟨Rect.unit (s := S128x3584) ![0, 0] S128x3584.size inb_S128x3584_S128x3584_0_0, (k0_pay22 : FVec Ideal S128x3584 .f32)⟩]

/-- The store of a tile's columns over what the stores `L` left. -/
def accAs (t : Fin 14) (L : List (View.Piece (Elt Ideal) S128x3584 .f32)) : List (View.Piece (Elt Ideal) S128x3584 .f32) :=
  ⟨accR t, accP arg5 harg5 arg6 harg6 arg19 x4 x5 lhs t (arg11.view.readCov L (accR t).toLoadRect)⟩ :: L
/-- The stores of the first 1 tiles over zeros. -/
def accA1 : List (View.Piece (Elt Ideal) S128x3584 .f32) := accAs arg5 harg5 arg6 harg6 arg11 arg19 x4 x5 lhs 0 accA0
/-- The stores of the first 2 tiles over zeros. -/
def accA2 : List (View.Piece (Elt Ideal) S128x3584 .f32) := accAs arg5 harg5 arg6 harg6 arg11 arg19 x4 x5 lhs 1 (accA1 arg5 harg5 arg6 harg6 arg11 arg19 x4 x5 lhs)
/-- The stores of the first 3 tiles over zeros. -/
def accA3 : List (View.Piece (Elt Ideal) S128x3584 .f32) := accAs arg5 harg5 arg6 harg6 arg11 arg19 x4 x5 lhs 2 (accA2 arg5 harg5 arg6 harg6 arg11 arg19 x4 x5 lhs)
/-- The stores of the first 4 tiles over zeros. -/
def accA4 : List (View.Piece (Elt Ideal) S128x3584 .f32) := accAs arg5 harg5 arg6 harg6 arg11 arg19 x4 x5 lhs 3 (accA3 arg5 harg5 arg6 harg6 arg11 arg19 x4 x5 lhs)
/-- The stores of the first 5 tiles over zeros. -/
def accA5 : List (View.Piece (Elt Ideal) S128x3584 .f32) := accAs arg5 harg5 arg6 harg6 arg11 arg19 x4 x5 lhs 4 (accA4 arg5 harg5 arg6 harg6 arg11 arg19 x4 x5 lhs)
/-- The stores of the first 6 tiles over zeros. -/
def accA6 : List (View.Piece (Elt Ideal) S128x3584 .f32) := accAs arg5 harg5 arg6 harg6 arg11 arg19 x4 x5 lhs 5 (accA5 arg5 harg5 arg6 harg6 arg11 arg19 x4 x5 lhs)
/-- The stores of the first 7 tiles over zeros. -/
def accA7 : List (View.Piece (Elt Ideal) S128x3584 .f32) := accAs arg5 harg5 arg6 harg6 arg11 arg19 x4 x5 lhs 6 (accA6 arg5 harg5 arg6 harg6 arg11 arg19 x4 x5 lhs)
/-- The stores of the first 8 tiles over zeros. -/
def accA8 : List (View.Piece (Elt Ideal) S128x3584 .f32) := accAs arg5 harg5 arg6 harg6 arg11 arg19 x4 x5 lhs 7 (accA7 arg5 harg5 arg6 harg6 arg11 arg19 x4 x5 lhs)
/-- The stores of the first 9 tiles over zeros. -/
def accA9 : List (View.Piece (Elt Ideal) S128x3584 .f32) := accAs arg5 harg5 arg6 harg6 arg11 arg19 x4 x5 lhs 8 (accA8 arg5 harg5 arg6 harg6 arg11 arg19 x4 x5 lhs)
/-- The stores of the first 10 tiles over zeros. -/
def accA10 : List (View.Piece (Elt Ideal) S128x3584 .f32) := accAs arg5 harg5 arg6 harg6 arg11 arg19 x4 x5 lhs 9 (accA9 arg5 harg5 arg6 harg6 arg11 arg19 x4 x5 lhs)
/-- The stores of the first 11 tiles over zeros. -/
def accA11 : List (View.Piece (Elt Ideal) S128x3584 .f32) := accAs arg5 harg5 arg6 harg6 arg11 arg19 x4 x5 lhs 10 (accA10 arg5 harg5 arg6 harg6 arg11 arg19 x4 x5 lhs)
/-- The stores of the first 12 tiles over zeros. -/
def accA12 : List (View.Piece (Elt Ideal) S128x3584 .f32) := accAs arg5 harg5 arg6 harg6 arg11 arg19 x4 x5 lhs 11 (accA11 arg5 harg5 arg6 harg6 arg11 arg19 x4 x5 lhs)
/-- The stores of the first 13 tiles over zeros. -/
def accA13 : List (View.Piece (Elt Ideal) S128x3584 .f32) := accAs arg5 harg5 arg6 harg6 arg11 arg19 x4 x5 lhs 12 (accA12 arg5 harg5 arg6 harg6 arg11 arg19 x4 x5 lhs)
/-- The stores of the first 14 tiles over zeros. -/
def accA14 : List (View.Piece (Elt Ideal) S128x3584 .f32) := accAs arg5 harg5 arg6 harg6 arg11 arg19 x4 x5 lhs 13 (accA13 arg5 harg5 arg6 harg6 arg11 arg19 x4 x5 lhs)

/-- The scales of the point's chunks. -/
def sclP : FVec Ideal S32x128 .f32 :=
  concatenate S32x128 0 [⟨S8x128, scV arg3 harg3 arg15 x2 g 0⟩, ⟨S8x128, scV arg3 harg3 arg15 x2 g 1⟩,
    ⟨S8x128, scV arg3 harg3 arg15 x2 g 2⟩, ⟨S8x128, scV arg3 harg3 arg15 x2 g 3⟩]
    concatenates_S8x128_S8x128_S8x128_S8x128_S32x128_d0

/-- The scale buffer after point `n`, from its contents before. -/
def stP (n : BitVec 32) (old : FVec Ideal S1184x128 .f32) : FVec Ideal S1184x128 .f32 :=
  k0_pay672 n (sclP arg3 harg3 arg15 x2 g) (iota .tc S1184x128 32 [0] iota_S1184x128_d0_w32) 32#32 k0_pay671 0#32 old

/-- The whole rectangle of the scale buffer. -/
abbrev stR : Rect S1184x128 := Rect.unit (s := S1184x128) ![0, 0] S1184x128.size inb_S1184x128_S1184x128_0_0
/-- The store of the scale buffer over the contents `xs`. -/
def stB (n : BitVec 32) (xs : Vec Ideal S1184x128 .f32) : List (View.Piece (Elt Ideal) S1184x128 .f32) :=
  [⟨stR, stP arg3 harg3 arg15 x2 g n (View.readAt (Elt Ideal) arg13.view stR.toLoadRect (harg13.unread xs))⟩]
/-- The store of zeros over the scale buffer. -/
def stZ : List (View.Piece (Elt Ideal) S1184x128 .f32) := [⟨stR, (k0_pay24 : FVec Ideal S1184x128 .f32)⟩]
/-- The stores of the scale buffer at the first point. -/
def stA (n : BitVec 32) : List (View.Piece (Elt Ideal) S1184x128 .f32) :=
  ⟨stR, stP arg3 harg3 arg15 x2 g n (arg13.view.readCov stZ stR.toLoadRect)⟩ :: stZ

/-- The whole rectangle of the largest-magnitude buffer. -/
abbrev mxR : Rect S8x128 := Rect.unit (s := S8x128) ![0, 0] S8x128.size inb_S8x128_S8x128_0_0
/-- The largest magnitudes with a chunk's taken in. -/
def mxP (c : Fin 4) (old : FVec Ideal S8x128 .f32) : FVec Ideal S8x128 .f32 :=
  shapeCast S8x128 (maximumf old (amV arg3 harg3 arg15 x2 c)) shapeCasts_S8x128_S8x128
/-- The stores of the largest magnitudes, the first chunk's from `old`. -/
def mx1 (old : FVec Ideal S8x128 .f32) (L : List (View.Piece (Elt Ideal) S8x128 .f32)) : List (View.Piece (Elt Ideal) S8x128 .f32) :=
  ⟨mxR, mxP arg3 harg3 arg15 x2 0 old⟩ :: L
/-- The same, through the second chunk. -/
def mx2 (old : FVec Ideal S8x128 .f32) (L : List (View.Piece (Elt Ideal) S8x128 .f32)) : List (View.Piece (Elt Ideal) S8x128 .f32) :=
  ⟨mxR, mxP arg3 harg3 arg15 x2 1 (arg14.view.readCov (mx1 arg3 harg3 arg15 x2 old L) mxR.toLoadRect)⟩ :: mx1 arg3 harg3 arg15 x2 old L
/-- The same, through the third chunk. -/
def mx3 (old : FVec Ideal S8x128 .f32) (L : List (View.Piece (Elt Ideal) S8x128 .f32)) : List (View.Piece (Elt Ideal) S8x128 .f32) :=
  ⟨mxR, mxP arg3 harg3 arg15 x2 2 (arg14.view.readCov (mx2 arg3 harg3 arg14 arg15 x2 old L) mxR.toLoadRect)⟩ :: mx2 arg3 harg3 arg14 arg15 x2 old L
/-- The same, through the fourth chunk. -/
def mx4 (old : FVec Ideal S8x128 .f32) (L : List (View.Piece (Elt Ideal) S8x128 .f32)) : List (View.Piece (Elt Ideal) S8x128 .f32) :=
  ⟨mxR, mxP arg3 harg3 arg15 x2 3 (arg14.view.readCov (mx3 arg3 harg3 arg14 arg15 x2 old L) mxR.toLoadRect)⟩ :: mx3 arg3 harg3 arg14 arg15 x2 old L
/-- The store of zeros over the largest magnitudes. -/
def mxZ : List (View.Piece (Elt Ideal) S8x128 .f32) := [⟨mxR, (k0_pay23 : FVec Ideal S8x128 .f32)⟩]
/-- The stores of the largest magnitudes over the contents `xs`. -/
def mxB (xs : Vec Ideal S8x128 .f32) : List (View.Piece (Elt Ideal) S8x128 .f32) :=
  mx4 arg3 harg3 arg14 arg15 x2 (View.readAt (Elt Ideal) arg14.view mxR.toLoadRect (harg14.unread xs)) []
/-- The stores of the largest magnitudes at the first point. -/
def mxA : List (View.Piece (Elt Ideal) S8x128 .f32) :=
  mx4 arg3 harg3 arg14 arg15 x2 (arg14.view.readCov mxZ mxR.toLoadRect) mxZ

/-- The stores of the output's tiles from the accumulator the stores `L` left. -/
def dxL (gg : Ideal .f32) (L : List (View.Piece (Elt Ideal) S128x3584 .f32)) : List (View.Piece (Elt Ideal) S128x3584 .bf16) := [⟨accR 13, (k0_pay2 (k0_pay6 k0_pay5) gg (arg11.view.readCov L (accR 13).toLoadRect) : FVec Ideal S128x256 .bf16)⟩, ⟨accR 12, (k0_pay2 (k0_pay6 k0_pay5) gg (arg11.view.readCov L (accR 12).toLoadRect) : FVec Ideal S128x256 .bf16)⟩, ⟨accR 11, (k0_pay2 (k0_pay6 k0_pay5) gg (arg11.view.readCov L (accR 11).toLoadRect) : FVec Ideal S128x256 .bf16)⟩, ⟨accR 10, (k0_pay2 (k0_pay6 k0_pay5) gg (arg11.view.readCov L (accR 10).toLoadRect) : FVec Ideal S128x256 .bf16)⟩, ⟨accR 9, (k0_pay2 (k0_pay6 k0_pay5) gg (arg11.view.readCov L (accR 9).toLoadRect) : FVec Ideal S128x256 .bf16)⟩, ⟨accR 8, (k0_pay2 (k0_pay6 k0_pay5) gg (arg11.view.readCov L (accR 8).toLoadRect) : FVec Ideal S128x256 .bf16)⟩, ⟨accR 7, (k0_pay2 (k0_pay6 k0_pay5) gg (arg11.view.readCov L (accR 7).toLoadRect) : FVec Ideal S128x256 .bf16)⟩, ⟨accR 6, (k0_pay2 (k0_pay6 k0_pay5) gg (arg11.view.readCov L (accR 6).toLoadRect) : FVec Ideal S128x256 .bf16)⟩, ⟨accR 5, (k0_pay2 (k0_pay6 k0_pay5) gg (arg11.view.readCov L (accR 5).toLoadRect) : FVec Ideal S128x256 .bf16)⟩, ⟨accR 4, (k0_pay2 (k0_pay6 k0_pay5) gg (arg11.view.readCov L (accR 4).toLoadRect) : FVec Ideal S128x256 .bf16)⟩, ⟨accR 3, (k0_pay2 (k0_pay6 k0_pay5) gg (arg11.view.readCov L (accR 3).toLoadRect) : FVec Ideal S128x256 .bf16)⟩, ⟨accR 2, (k0_pay2 (k0_pay6 k0_pay5) gg (arg11.view.readCov L (accR 2).toLoadRect) : FVec Ideal S128x256 .bf16)⟩, ⟨accR 1, (k0_pay2 (k0_pay6 k0_pay5) gg (arg11.view.readCov L (accR 1).toLoadRect) : FVec Ideal S128x256 .bf16)⟩, ⟨accR 0, (k0_pay2 (k0_pay6 k0_pay5) gg (arg11.view.readCov L (accR 0).toLoadRect) : FVec Ideal S128x256 .bf16)⟩]

/-- The stores of the codes, chunk by chunk. -/
def codeL (q : Fin 4 → FVec Ideal S128x128 .bf16) : List (View.Piece (Elt Ideal) S128x256 .i8) := [⟨Rect.unit (s := S128x256) ![0, 192] S128x64.size inb_S128x256_S128x64_0_192, codeV (q 3)⟩, ⟨Rect.unit (s := S128x256) ![0, 128] S128x64.size inb_S128x256_S128x64_0_128, codeV (q 2)⟩, ⟨Rect.unit (s := S128x256) ![0, 64] S128x64.size inb_S128x256_S128x64_0_64, codeV (q 1)⟩, ⟨Rect.unit (s := S128x256) ![0, 0] S128x64.size inb_S128x256_S128x64_0_0, codeV (q 0)⟩]

end K01
-- ==== Proof.Sem.lean ====
/-
  What the quantiser of one grid point leaves in each scratch buffer and loads back from it, at an index.
-/
module

public import proofs.«01_k».proof.Proof.Chunk
public import Idealize.ShloMosaic.Lib.Pipeline.ReadBack

@[expose] public section

set_option maxRecDepth 65536

noncomputable section

open Idealize.ShloMosaic Idealize.ShloMosaic.TcCoe Idealize.ShloMosaic.Tactic
open Cert.KernelIdeal Cert.KernelIdeal.Gen

namespace K01

variable (arg3 : Memref sig .tc .vmem S128x512 .bf16) (harg3 : arg3.IsWhole) (arg4 : Memref sig .tc .vmem S128x512 .i32) (harg4 : arg4.IsWhole)
  (arg15 : Memref sig .tc .vmem S288x2x128 .bf16) (arg16 : Memref sig .tc .vmem S544x128 .i32)
  (arg17 : Memref sig .tc .vmem S288x2x128 .bf16) (arg18 : Memref sig .tc .vmem S32x2x128 .bf16)
  (x2 : Vec Ideal S128x512 .bf16) (x3 : Vec Ideal S128x512 .i32) (g : EReal)

/-- A load, at an index some store covers, of stores that all agree with one function. -/
theorem readCov_of {κ : Kind} {sp : Space} {s : Shape} {e : EltTy} (v : View sig κ sp s e)
    (L : List (View.Piece (Elt Ideal) s e)) (G : s.Idx → Elt Ideal e) (hP : View.PiecesOf G L) (B : LoadRect s) (j : B.shape.Idx)
    (hc : ∃ p ∈ L, B.idx j ∈ p.1.set) : v.readCov L B j = G (B.idx j) := by
  rw [View.readCov_eq_canon']
  exact View.canon_apply_of_pieces G L hP.mem _ hc

/-- The element of the operand at row `m`, column `n` of the block. -/
def Xf (m n : ℕ) : EReal := at2 (a := 128) (b := 512) x2 m n
/-- The random word at row `m`, column `n` of the block. -/
def Rf (m n : ℕ) : BitVec 32 := at2 (a := 128) (b := 512) x3 m n
/-- The largest magnitude of block `b` of row `m`. -/
def Af (m b : ℕ) : EReal := (Finset.range 16).sup fun p => mag (Xf x2 m (16 * b + p))
/-- The scale of block `b` of row `m`. -/
def Sf (m b : ℕ) : EReal := scaleOf g (Af x2 m b)
/-- The quantised element at row `m`, column `n` of the block. -/
def Qf (m n : ℕ) : EReal := kq (Xf x2 m n) (kinv g (Sf x2 g m (n / 16))) (Rf x3 m n)

/-- The layout of the word buffers: row `72 c + 9 k + j`, half `h`, lane `m` holds column `128 c + 16 k + 2 j + h`. -/
def Vw (f : ℕ → ℕ → EReal) (y : S288x2x128.Idx) : EReal :=
  f (y 2).val (128 * ((y 0).val / 72) + 16 * ((y 0).val % 72 / 9) + 2 * ((y 0).val % 72 % 9) + (y 1).val)

/-- The layout of the random buffer: row `136 c + 17 k + p`, lane `m` holds column `128 c + 16 k + p`. -/
def Vr (f : ℕ → ℕ → BitVec 32) (y : S544x128.Idx) : BitVec 32 :=
  f (y 1).val (128 * ((y 0).val / 136) + 16 * ((y 0).val % 136 / 17) + (y 0).val % 136 % 17)

theorem at2_dyT (c : Fin 4) (i m : ℕ) (hi : i < 128) (hm : m < 128) :
    at2 (a := 128) (b := 128) (dyT arg3 harg3 x2 c) i m = Xf x2 m (128 * c.val + i) := by
  have := c.isLt
  unfold dyT
  rw [at2_transpose, shapeCast_self]
  unfold dyC
  rw [View.readAt_eq_ld, Memref.IsWhole.read_unread]
  refine at2_of (a := 128) (b := 512) x2 _ _ _ ?_ ?_
  · show 0 + 1 * (m % 128) = m % 128; omega
  · show 128 * c.val + 1 * (i % 128) = (128 * c.val + i) % 512; omega

theorem at2_rT (c : Fin 4) (i m : ℕ) (hi : i < 128) (hm : m < 128) :
    at2 (a := 128) (b := 128) (rT arg4 harg4 x3 c) i m = Rf x3 m (128 * c.val + i) := by
  have := c.isLt
  unfold rT
  rw [at2_transpose, shapeCast_self]
  unfold rC
  rw [View.readAt_eq_ld, Memref.IsWhole.read_unread]
  refine at2_of (a := 128) (b := 512) x3 _ _ _ ?_ ?_
  · show 0 + 1 * (m % 128) = m % 128; omega
  · show 128 * c.val + 1 * (i % 128) = (128 * c.val + i) % 512; omega

theorem at3_xP (d : FVec Ideal S128x128 .bf16) (k : Fin 8) (p h m : ℕ) (hp : p < 8) (hh : h < 2) (hm : m < 128) :
    at3 (a := 8) (b := 2) (c := 128) (xP d k) p h m = at2 (a := 128) (b := 128) d (16 * k.val + 2 * p + h) m := by
  have := k.isLt
  unfold xP
  rw [at3_word8 _ _ _ _ _ hh, at2_slice _ _ _ _ _ hp hm, at2_slice _ _ _ _ _ hp hm]
  show (if h = 0 then at2 _ (8 * k.val + p) (0 + m) else at2 _ (8 * k.val + p) (0 + m)) = _
  rw [at2_rows (c := 64) 0 d _ _ _ (by omega), at2_rows (c := 64) 1 d _ _ _ (by omega)]
  rcases (by omega : h = 0 ∨ h = 1) with rfl | rfl
  · rw [if_pos rfl, Nat.zero_add]; congr 1; show 2 * (8 * k.val + p) + 0 = _; omega
  · rw [if_neg one_ne_zero, Nat.zero_add]; congr 1; show 2 * (8 * k.val + p) + 1 = _; omega

theorem at2_rP (r : IVec S128x128 32) (t : Fin 16) (p m : ℕ) (hp : p < 8) (hm : m < 128) :
    at2 (a := 8) (b := 128) (rP r t) p m = at2 (a := 128) (b := 128) r (8 * t.val + p) m := by
  unfold rP
  rw [shapeCast_self, at2_slice _ _ _ _ _ hp hm]
  show at2 _ (8 * t.val + p) (0 + m) = _
  rw [Nat.zero_add]

/-- A store of a block of words in chunk `c` agrees with the layout. -/
theorem piece_word (f : ℕ → ℕ → EReal) (c : Fin 4) (k : Fin 8) (w : FVec Ideal S8x2x128 .bf16)
    (hw : ∀ p h m, p < 8 → h < 2 → m < 128 → at3 (a := 8) (b := 2) (c := 128) w p h m = f m (128 * c.val + 16 * k.val + 2 * p + h))
    (x : S8x2x128.Idx) : w x = Vw f ((wordR c k).emb x) := by
  have := c.isLt; have := k.isLt
  have h0 : (x 0).val < 8 := (x 0).isLt
  have h1 : (x 1).val < 2 := (x 1).isLt
  have h2 : (x 2).val < 128 := (x 2).isLt
  rw [at3_self (a := 8) (b := 2) (c := 128) w x, hw _ _ _ h0 h1 h2]
  unfold Vw
  have e0 : ((wordR c k).emb x 0).val = 72 * c.val + 9 * k.val + 1 * (x 0).val := rfl
  have e1 : ((wordR c k).emb x 1).val = 0 + 1 * (x 1).val := rfl
  have e2 : ((wordR c k).emb x 2).val = 0 + 1 * (x 2).val := rfl
  rw [e0, e1, e2]
  congr 1 <;> omega

/-- A store of word `j` of each block of chunk `c` agrees with the layout. -/
theorem piece_stride (f : ℕ → ℕ → EReal) (c : Fin 4) (j : Fin 8) (w : FVec Ideal S8x2x128 .bf16)
    (hw : ∀ k h m, k < 8 → h < 2 → m < 128 → at3 (a := 8) (b := 2) (c := 128) w k h m = f m (128 * c.val + 16 * k + 2 * j.val + h))
    (x : S8x2x128.Idx) : w x = Vw f ((strideR c j).emb x) := by
  have := c.isLt; have := j.isLt
  have h0 : (x 0).val < 8 := (x 0).isLt
  have h1 : (x 1).val < 2 := (x 1).isLt
  have h2 : (x 2).val < 128 := (x 2).isLt
  rw [at3_self (a := 8) (b := 2) (c := 128) w x, hw _ _ _ h0 h1 h2]
  unfold Vw
  have e0 : ((strideR c j).emb x 0).val = 72 * c.val + j.val + 9 * (x 0).val := rfl
  have e1 : ((strideR c j).emb x 1).val = 0 + 1 * (x 1).val := rfl
  have e2 : ((strideR c j).emb x 2).val = 0 + 1 * (x 2).val := rfl
  rw [e0, e1, e2]
  congr 1 <;> omega

theorem piece_rand (f : ℕ → ℕ → BitVec 32) (c : Fin 4) (t : Fin 16) (w : IVec S8x128 32)
    (hw : ∀ p m, p < 8 → m < 128 → at2 (a := 8) (b := 128) w p m = f m (128 * c.val + 8 * t.val + p))
    (x : S8x128.Idx) : w x = Vr f ((randR c t).emb x) := by
  have := c.isLt; have := t.isLt
  have h0 : (x 0).val < 8 := (x 0).isLt
  have h1 : (x 1).val < 128 := (x 1).isLt
  rw [at2_self (a := 8) (b := 128) w x, hw _ _ h0 h1]
  unfold Vr
  have e0 : ((randR c t).emb x 0).val = 136 * c.val + 17 * (t.val / 2) + 8 * (t.val % 2) + 1 * (x 0).val := rfl
  have e1 : ((randR c t).emb x 1).val = 0 + 1 * (x 1).val := rfl
  rw [e0, e1]
  congr 1 <;> omega

theorem xsL_of (c : Fin 4) (L : List (View.Piece (Elt Ideal) S288x2x128 .bf16)) (hL : View.PiecesOf (Vw (Xf x2)) L) :
    View.PiecesOf (Vw (Xf x2)) (xsL arg3 harg3 x2 c L) := by
  have h : ∀ (k : Fin 8) (x : S8x2x128.Idx), xP (dyT arg3 harg3 x2 c) k x = Vw (Xf x2) ((wordR c k).emb x) := fun k x =>
    piece_word _ c k _ (fun p h m hp hh hm => by
      have := k.isLt
      rw [at3_xP _ _ _ _ _ hp hh hm, at2_dyT _ _ _ _ _ _ (by omega) hm]; congr 1; omega) x
  exact ⟨h 7, h 6, h 5, h 4, h 3, h 2, h 1, h 0, hL⟩

theorem rsL_of (c : Fin 4) (L : List (View.Piece (Elt Ideal) S544x128 .i32)) (hL : View.PiecesOf (Vr (Rf x3)) L) :
    View.PiecesOf (Vr (Rf x3)) (rsL arg4 harg4 x3 c L) := by
  have h : ∀ (t : Fin 16) (x : S8x128.Idx), rP (rT arg4 harg4 x3 c) t x = Vr (Rf x3) ((randR c t).emb x) := fun t x =>
    piece_rand _ c t _ (fun p m hp hm => by
      have := t.isLt
      rw [at2_rP _ _ _ _ hp hm, at2_rT _ _ _ _ _ _ (by omega) hm]; congr 1; omega) x
  exact ⟨h 15, h 14, h 13, h 12, h 11, h 10, h 9, h 8, h 7, h 6, h 5, h 4, h 3, h 2, h 1, h 0, hL⟩

theorem xsA_of : ∀ c : Fin 4, View.PiecesOf (Vw (Xf x2)) (xsA arg3 harg3 x2 c)
  | 0 => xsL_of _ _ _ 0 _ trivial
  | 1 => xsL_of _ _ _ 1 _ (xsL_of _ _ _ 0 _ trivial)
  | 2 => xsL_of _ _ _ 2 _ (xsL_of _ _ _ 1 _ (xsL_of _ _ _ 0 _ trivial))
  | 3 => xsL_of _ _ _ 3 _ (xsL_of _ _ _ 2 _ (xsL_of _ _ _ 1 _ (xsL_of _ _ _ 0 _ trivial)))

theorem rsA_of : ∀ c : Fin 4, View.PiecesOf (Vr (Rf x3)) (rsA arg4 harg4 x3 c)
  | 0 => rsL_of _ _ _ 0 _ trivial
  | 1 => rsL_of _ _ _ 1 _ (rsL_of _ _ _ 0 _ trivial)
  | 2 => rsL_of _ _ _ 2 _ (rsL_of _ _ _ 1 _ (rsL_of _ _ _ 0 _ trivial))
  | 3 => rsL_of _ _ _ 3 _ (rsL_of _ _ _ 2 _ (rsL_of _ _ _ 1 _ (rsL_of _ _ _ 0 _ trivial)))

theorem xs_mem (c : Fin 4) : ∀ k : Fin 8, (⟨wordR c k, xP (dyT arg3 harg3 x2 c) k⟩ : View.Piece (Elt Ideal) S288x2x128 .bf16) ∈ xsA arg3 harg3 x2 c :=
  match c with
  | 0 => fun k => match k with
    | ⟨0, _⟩ => List.mem_of_getElem? (i := 7) rfl
    | ⟨1, _⟩ => List.mem_of_getElem? (i := 6) rfl
    | ⟨2, _⟩ => List.mem_of_getElem? (i := 5) rfl
    | ⟨3, _⟩ => List.mem_of_getElem? (i := 4) rfl
    | ⟨4, _⟩ => List.mem_of_getElem? (i := 3) rfl
    | ⟨5, _⟩ => List.mem_of_getElem? (i := 2) rfl
    | ⟨6, _⟩ => List.mem_of_getElem? (i := 1) rfl
    | ⟨7, _⟩ => List.mem_of_getElem? (i := 0) rfl
    | ⟨n + 8, h⟩ => absurd h (by omega)
  | 1 => fun k => match k with
    | ⟨0, _⟩ => List.mem_of_getElem? (i := 7) rfl
    | ⟨1, _⟩ => List.mem_of_getElem? (i := 6) rfl
    | ⟨2, _⟩ => List.mem_of_getElem? (i := 5) rfl
    | ⟨3, _⟩ => List.mem_of_getElem? (i := 4) rfl
    | ⟨4, _⟩ => List.mem_of_getElem? (i := 3) rfl
    | ⟨5, _⟩ => List.mem_of_getElem? (i := 2) rfl
    | ⟨6, _⟩ => List.mem_of_getElem? (i := 1) rfl
    | ⟨7, _⟩ => List.mem_of_getElem? (i := 0) rfl
    | ⟨n + 8, h⟩ => absurd h (by omega)
  | 2 => fun k => match k with
    | ⟨0, _⟩ => List.mem_of_getElem? (i := 7) rfl
    | ⟨1, _⟩ => List.mem_of_getElem? (i := 6) rfl
    | ⟨2, _⟩ => List.mem_of_getElem? (i := 5) rfl
    | ⟨3, _⟩ => List.mem_of_getElem? (i := 4) rfl
    | ⟨4, _⟩ => List.mem_of_getElem? (i := 3) rfl
    | ⟨5, _⟩ => List.mem_of_getElem? (i := 2) rfl
    | ⟨6, _⟩ => List.mem_of_getElem? (i := 1) rfl
    | ⟨7, _⟩ => List.mem_of_getElem? (i := 0) rfl
    | ⟨n + 8, h⟩ => absurd h (by omega)
  | 3 => fun k => match k with
    | ⟨0, _⟩ => List.mem_of_getElem? (i := 7) rfl
    | ⟨1, _⟩ => List.mem_of_getElem? (i := 6) rfl
    | ⟨2, _⟩ => List.mem_of_getElem? (i := 5) rfl
    | ⟨3, _⟩ => List.mem_of_getElem? (i := 4) rfl
    | ⟨4, _⟩ => List.mem_of_getElem? (i := 3) rfl
    | ⟨5, _⟩ => List.mem_of_getElem? (i := 2) rfl
    | ⟨6, _⟩ => List.mem_of_getElem? (i := 1) rfl
    | ⟨7, _⟩ => List.mem_of_getElem? (i := 0) rfl
    | ⟨n + 8, h⟩ => absurd h (by omega)

theorem rs_mem (c : Fin 4) : ∀ k : Fin 16, (⟨randR c k, rP (rT arg4 harg4 x3 c) k⟩ : View.Piece (Elt Ideal) S544x128 .i32) ∈ rsA arg4 harg4 x3 c :=
  match c with
  | 0 => fun k => match k with
    | ⟨0, _⟩ => List.mem_of_getElem? (i := 15) rfl
    | ⟨1, _⟩ => List.mem_of_getElem? (i := 14) rfl
    | ⟨2, _⟩ => List.mem_of_getElem? (i := 13) rfl
    | ⟨3, _⟩ => List.mem_of_getElem? (i := 12) rfl
    | ⟨4, _⟩ => List.mem_of_getElem? (i := 11) rfl
    | ⟨5, _⟩ => List.mem_of_getElem? (i := 10) rfl
    | ⟨6, _⟩ => List.mem_of_getElem? (i := 9) rfl
    | ⟨7, _⟩ => List.mem_of_getElem? (i := 8) rfl
    | ⟨8, _⟩ => List.mem_of_getElem? (i := 7) rfl
    | ⟨9, _⟩ => List.mem_of_getElem? (i := 6) rfl
    | ⟨10, _⟩ => List.mem_of_getElem? (i := 5) rfl
    | ⟨11, _⟩ => List.mem_of_getElem? (i := 4) rfl
    | ⟨12, _⟩ => List.mem_of_getElem? (i := 3) rfl
    | ⟨13, _⟩ => List.mem_of_getElem? (i := 2) rfl
    | ⟨14, _⟩ => List.mem_of_getElem? (i := 1) rfl
    | ⟨15, _⟩ => List.mem_of_getElem? (i := 0) rfl
    | ⟨n + 16, h⟩ => absurd h (by omega)
  | 1 => fun k => match k with
    | ⟨0, _⟩ => List.mem_of_getElem? (i := 15) rfl
    | ⟨1, _⟩ => List.mem_of_getElem? (i := 14) rfl
    | ⟨2, _⟩ => List.mem_of_getElem? (i := 13) rfl
    | ⟨3, _⟩ => List.mem_of_getElem? (i := 12) rfl
    | ⟨4, _⟩ => List.mem_of_getElem? (i := 11) rfl
    | ⟨5, _⟩ => List.mem_of_getElem? (i := 10) rfl
    | ⟨6, _⟩ => List.mem_of_getElem? (i := 9) rfl
    | ⟨7, _⟩ => List.mem_of_getElem? (i := 8) rfl
    | ⟨8, _⟩ => List.mem_of_getElem? (i := 7) rfl
    | ⟨9, _⟩ => List.mem_of_getElem? (i := 6) rfl
    | ⟨10, _⟩ => List.mem_of_getElem? (i := 5) rfl
    | ⟨11, _⟩ => List.mem_of_getElem? (i := 4) rfl
    | ⟨12, _⟩ => List.mem_of_getElem? (i := 3) rfl
    | ⟨13, _⟩ => List.mem_of_getElem? (i := 2) rfl
    | ⟨14, _⟩ => List.mem_of_getElem? (i := 1) rfl
    | ⟨15, _⟩ => List.mem_of_getElem? (i := 0) rfl
    | ⟨n + 16, h⟩ => absurd h (by omega)
  | 2 => fun k => match k with
    | ⟨0, _⟩ => List.mem_of_getElem? (i := 15) rfl
    | ⟨1, _⟩ => List.mem_of_getElem? (i := 14) rfl
    | ⟨2, _⟩ => List.mem_of_getElem? (i := 13) rfl
    | ⟨3, _⟩ => List.mem_of_getElem? (i := 12) rfl
    | ⟨4, _⟩ => List.mem_of_getElem? (i := 11) rfl
    | ⟨5, _⟩ => List.mem_of_getElem? (i := 10) rfl
    | ⟨6, _⟩ => List.mem_of_getElem? (i := 9) rfl
    | ⟨7, _⟩ => List.mem_of_getElem? (i := 8) rfl
    | ⟨8, _⟩ => List.mem_of_getElem? (i := 7) rfl
    | ⟨9, _⟩ => List.mem_of_getElem? (i := 6) rfl
    | ⟨10, _⟩ => List.mem_of_getElem? (i := 5) rfl
    | ⟨11, _⟩ => List.mem_of_getElem? (i := 4) rfl
    | ⟨12, _⟩ => List.mem_of_getElem? (i := 3) rfl
    | ⟨13, _⟩ => List.mem_of_getElem? (i := 2) rfl
    | ⟨14, _⟩ => List.mem_of_getElem? (i := 1) rfl
    | ⟨15, _⟩ => List.mem_of_getElem? (i := 0) rfl
    | ⟨n + 16, h⟩ => absurd h (by omega)
  | 3 => fun k => match k with
    | ⟨0, _⟩ => List.mem_of_getElem? (i := 15) rfl
    | ⟨1, _⟩ => List.mem_of_getElem? (i := 14) rfl
    | ⟨2, _⟩ => List.mem_of_getElem? (i := 13) rfl
    | ⟨3, _⟩ => List.mem_of_getElem? (i := 12) rfl
    | ⟨4, _⟩ => List.mem_of_getElem? (i := 11) rfl
    | ⟨5, _⟩ => List.mem_of_getElem? (i := 10) rfl
    | ⟨6, _⟩ => List.mem_of_getElem? (i := 9) rfl
    | ⟨7, _⟩ => List.mem_of_getElem? (i := 8) rfl
    | ⟨8, _⟩ => List.mem_of_getElem? (i := 7) rfl
    | ⟨9, _⟩ => List.mem_of_getElem? (i := 6) rfl
    | ⟨10, _⟩ => List.mem_of_getElem? (i := 5) rfl
    | ⟨11, _⟩ => List.mem_of_getElem? (i := 4) rfl
    | ⟨12, _⟩ => List.mem_of_getElem? (i := 3) rfl
    | ⟨13, _⟩ => List.mem_of_getElem? (i := 2) rfl
    | ⟨14, _⟩ => List.mem_of_getElem? (i := 1) rfl
    | ⟨15, _⟩ => List.mem_of_getElem? (i := 0) rfl
    | ⟨n + 16, h⟩ => absurd h (by omega)

/-- The words loaded, at an index. -/
theorem at3_xw (c : Fin 4) (j : Fin 8) (k h m : ℕ) (hk : k < 8) (hh : h < 2) (hm : m < 128) :
    at3 (a := 8) (b := 2) (c := 128) (xw arg3 harg3 arg15 x2 c j) k h m = Xf x2 m (128 * c.val + 16 * k + 2 * j.val + h) := by
  have := c.isLt; have := j.isLt
  unfold at3 xw
  refine (readCov_of _ _ (Vw (Xf x2)) (xsA_of arg3 harg3 x2 c) _ _ ⟨_, xs_mem arg3 harg3 x2 c ⟨k, hk⟩, ?_⟩).trans ?_
  · refine (LoadRect.mem_set _).mpr fun a => ?_
    match a with
    | ⟨0, _⟩ => exact ⟨j.val, j.isLt, by show 72 * c.val + j.val + 9 * (k % 8) = 72 * c.val + 9 * k + 1 * j.val; omega⟩
    | ⟨1, _⟩ => exact ⟨h, hh, by show 0 + 1 * (h % 2) = 0 + 1 * h; omega⟩
    | ⟨2, _⟩ => exact ⟨m, hm, by show 0 + 1 * (m % 128) = 0 + 1 * m; omega⟩
  · show Xf x2 (0 + 1 * (m % 128)) (128 * ((72 * c.val + j.val + 9 * (k % 8)) / 72) + 16 * ((72 * c.val + j.val + 9 * (k % 8)) % 72 / 9)
      + 2 * ((72 * c.val + j.val + 9 * (k % 8)) % 72 % 9) + (0 + 1 * (h % 2))) = _
    congr 1 <;> omega

/-- The random words loaded, at an index. -/
theorem at2_rw (c : Fin 4) (t : Fin 16) (k m : ℕ) (hk : k < 8) (hm : m < 128) :
    at2 (a := 8) (b := 128) (rw' arg4 harg4 arg16 x3 c t) k m = Rf x3 m (128 * c.val + 16 * k + t.val) := by
  have := c.isLt; have := t.isLt
  unfold at2 rw'
  refine (readCov_of _ _ (Vr (Rf x3)) (rsA_of arg4 harg4 x3 c) _ _ ⟨_, rs_mem arg4 harg4 x3 c ⟨2 * k + t.val / 8, by omega⟩, ?_⟩).trans ?_
  · refine (LoadRect.mem_set _).mpr fun a => ?_
    match a with
    | ⟨0, _⟩ => exact ⟨t.val % 8, by show t.val % 8 < 8; omega, by
        show 136 * c.val + t.val + 17 * (k % 8) = 136 * c.val + 17 * ((2 * k + t.val / 8) / 2) + 8 * ((2 * k + t.val / 8) % 2) + 1 * (t.val % 8); omega⟩
    | ⟨1, _⟩ => exact ⟨m, hm, by show 0 + 1 * (m % 128) = 0 + 1 * m; omega⟩
  · show Rf x3 (0 + 1 * (m % 128)) (128 * ((136 * c.val + t.val + 17 * (k % 8)) / 136) + 16 * ((136 * c.val + t.val + 17 * (k % 8)) % 136 / 17)
      + (136 * c.val + t.val + 17 * (k % 8)) % 136 % 17) = _
    congr 1 <;> omega

/-- The largest magnitudes at an index. -/
theorem at2_amV (c : Fin 4) (k m : ℕ) (hk : k < 8) (hm : m < 128) :
    at2 (a := 8) (b := 128) (amV arg3 harg3 arg15 x2 c) k m = Af x2 m (8 * c.val + k) := by
  unfold amV Af
  refine (at2_maxV _ _ _ _ _ _ _ _ k m hk (fun p => Xf x2 m (16 * (8 * c.val + k) + p)) ?_ ?_ ?_ ?_ ?_ ?_ ?_ ?_)
  · intro h hh; rw [at3_xw _ _ _ _ _ _ _ _ _ hk hh hm]; congr 1; show 128 * c.val + 16 * k + 2 * 0 + h = _; omega
  · intro h hh; rw [at3_xw _ _ _ _ _ _ _ _ _ hk hh hm]; congr 1; show 128 * c.val + 16 * k + 2 * 1 + h = _; omega
  · intro h hh; rw [at3_xw _ _ _ _ _ _ _ _ _ hk hh hm]; congr 1; show 128 * c.val + 16 * k + 2 * 2 + h = _; omega
  · intro h hh; rw [at3_xw _ _ _ _ _ _ _ _ _ hk hh hm]; congr 1; show 128 * c.val + 16 * k + 2 * 3 + h = _; omega
  · intro h hh; rw [at3_xw _ _ _ _ _ _ _ _ _ hk hh hm]; congr 1; show 128 * c.val + 16 * k + 2 * 4 + h = _; omega
  · intro h hh; rw [at3_xw _ _ _ _ _ _ _ _ _ hk hh hm]; congr 1; show 128 * c.val + 16 * k + 2 * 5 + h = _; omega
  · intro h hh; rw [at3_xw _ _ _ _ _ _ _ _ _ hk hh hm]; congr 1; show 128 * c.val + 16 * k + 2 * 6 + h = _; omega
  · intro h hh; rw [at3_xw _ _ _ _ _ _ _ _ _ hk hh hm]; congr 1; show 128 * c.val + 16 * k + 2 * 7 + h = _; omega

theorem at2_scV (c : Fin 4) (k m : ℕ) (hk : k < 8) (hm : m < 128) :
    at2 (a := 8) (b := 128) (scV arg3 harg3 arg15 x2 g c) k m = Sf x2 g m (8 * c.val + k) := by
  unfold scV Sf
  rw [at2_sclV, at2_amV _ _ _ _ _ _ _ hk hm]

theorem at3_qP (c : Fin 4) (j : Fin 8) (r0 r1 : Fin 16) (h0 : r0.val = 2 * j.val) (h1 : r1.val = 2 * j.val + 1)
    (k h m : ℕ) (hk : k < 8) (hh : h < 2) (hm : m < 128) :
    at3 (a := 8) (b := 2) (c := 128) (qP arg3 harg3 arg4 harg4 arg15 arg16 x2 x3 g c j r0 r1) k h m
      = Qf x2 x3 g m (128 * c.val + 16 * k + 2 * j.val + h) := by
  have := c.isLt; have := j.isLt
  unfold qP Qf
  rw [at3_payQ _ _ _ _ _ _ _ hk hh, at2_invV, at2_scV _ _ _ _ _ _ _ _ hk hm, at3_xw _ _ _ _ _ _ _ _ _ hk hh hm,
    at2_rw _ _ _ _ _ _ _ _ hk hm, at2_rw _ _ _ _ _ _ _ _ hk hm, h0, h1]
  have e : (128 * c.val + 16 * k + 2 * j.val + h) / 16 = 8 * c.val + k := by omega
  rw [e]
  congr 1
  rcases (by omega : h = 0 ∨ h = 1) with rfl | rfl
  · rw [if_pos rfl]; rfl
  · rw [if_neg one_ne_zero]; rfl

theorem qsL_of (c : Fin 4) (L : List (View.Piece (Elt Ideal) S288x2x128 .bf16)) (hL : View.PiecesOf (Vw (Qf x2 x3 g)) L) :
    View.PiecesOf (Vw (Qf x2 x3 g)) (qsL arg3 harg3 arg4 harg4 arg15 arg16 x2 x3 g c L) := by
  have h : ∀ (j : Fin 8) (r0 r1 : Fin 16) (h0 : r0.val = 2 * j.val) (h1 : r1.val = 2 * j.val + 1) (x : S8x2x128.Idx),
      qP arg3 harg3 arg4 harg4 arg15 arg16 x2 x3 g c j r0 r1 x = Vw (Qf x2 x3 g) ((strideR c j).emb x) := fun j r0 r1 h0 h1 x =>
    piece_stride _ c j _ (fun k h m hk hh hm => at3_qP _ _ _ _ _ _ _ _ _ _ _ _ _ h0 h1 _ _ _ hk hh hm) x
  exact ⟨h 7 14 15 rfl rfl, h 6 12 13 rfl rfl, h 5 10 11 rfl rfl, h 4 8 9 rfl rfl, h 3 6 7 rfl rfl, h 2 4 5 rfl rfl, h 1 2 3 rfl rfl, h 0 0 1 rfl rfl, hL⟩

theorem qsA_of : ∀ c : Fin 4, View.PiecesOf (Vw (Qf x2 x3 g)) (qsA arg3 harg3 arg4 harg4 arg15 arg16 x2 x3 g c)
  | 0 => qsL_of _ _ _ _ _ _ _ _ _ 0 _ trivial
  | 1 => qsL_of _ _ _ _ _ _ _ _ _ 1 _ (qsL_of _ _ _ _ _ _ _ _ _ 0 _ trivial)
  | 2 => qsL_of _ _ _ _ _ _ _ _ _ 2 _ (qsL_of _ _ _ _ _ _ _ _ _ 1 _ (qsL_of _ _ _ _ _ _ _ _ _ 0 _ trivial))
  | 3 => qsL_of _ _ _ _ _ _ _ _ _ 3 _ (qsL_of _ _ _ _ _ _ _ _ _ 2 _ (qsL_of _ _ _ _ _ _ _ _ _ 1 _ (qsL_of _ _ _ _ _ _ _ _ _ 0 _ trivial)))

/-- The two random rows of word `j`. -/
def ra0 (j : Fin 8) : Fin 16 := ⟨2 * j.val, by omega⟩
def ra1 (j : Fin 8) : Fin 16 := ⟨2 * j.val + 1, by omega⟩

theorem qs_mem (c : Fin 4) : ∀ k : Fin 8, (⟨strideR c k, qP arg3 harg3 arg4 harg4 arg15 arg16 x2 x3 g c k (ra0 k) (ra1 k)⟩ : View.Piece (Elt Ideal) S288x2x128 .bf16) ∈ qsA arg3 harg3 arg4 harg4 arg15 arg16 x2 x3 g c :=
  match c with
  | 0 => fun k => match k with
    | ⟨0, _⟩ => List.mem_of_getElem? (i := 7) rfl
    | ⟨1, _⟩ => List.mem_of_getElem? (i := 6) rfl
    | ⟨2, _⟩ => List.mem_of_getElem? (i := 5) rfl
    | ⟨3, _⟩ => List.mem_of_getElem? (i := 4) rfl
    | ⟨4, _⟩ => List.mem_of_getElem? (i := 3) rfl
    | ⟨5, _⟩ => List.mem_of_getElem? (i := 2) rfl
    | ⟨6, _⟩ => List.mem_of_getElem? (i := 1) rfl
    | ⟨7, _⟩ => List.mem_of_getElem? (i := 0) rfl
    | ⟨n + 8, h⟩ => absurd h (by omega)
  | 1 => fun k => match k with
    | ⟨0, _⟩ => List.mem_of_getElem? (i := 7) rfl
    | ⟨1, _⟩ => List.mem_of_getElem? (i := 6) rfl
    | ⟨2, _⟩ => List.mem_of_getElem? (i := 5) rfl
    | ⟨3, _⟩ => List.mem_of_getElem? (i := 4) rfl
    | ⟨4, _⟩ => List.mem_of_getElem? (i := 3) rfl
    | ⟨5, _⟩ => List.mem_of_getElem? (i := 2) rfl
    | ⟨6, _⟩ => List.mem_of_getElem? (i := 1) rfl
    | ⟨7, _⟩ => List.mem_of_getElem? (i := 0) rfl
    | ⟨n + 8, h⟩ => absurd h (by omega)
  | 2 => fun k => match k with
    | ⟨0, _⟩ => List.mem_of_getElem? (i := 7) rfl
    | ⟨1, _⟩ => List.mem_of_getElem? (i := 6) rfl
    | ⟨2, _⟩ => List.mem_of_getElem? (i := 5) rfl
    | ⟨3, _⟩ => List.mem_of_getElem? (i := 4) rfl
    | ⟨4, _⟩ => List.mem_of_getElem? (i := 3) rfl
    | ⟨5, _⟩ => List.mem_of_getElem? (i := 2) rfl
    | ⟨6, _⟩ => List.mem_of_getElem? (i := 1) rfl
    | ⟨7, _⟩ => List.mem_of_getElem? (i := 0) rfl
    | ⟨n + 8, h⟩ => absurd h (by omega)
  | 3 => fun k => match k with
    | ⟨0, _⟩ => List.mem_of_getElem? (i := 7) rfl
    | ⟨1, _⟩ => List.mem_of_getElem? (i := 6) rfl
    | ⟨2, _⟩ => List.mem_of_getElem? (i := 5) rfl
    | ⟨3, _⟩ => List.mem_of_getElem? (i := 4) rfl
    | ⟨4, _⟩ => List.mem_of_getElem? (i := 3) rfl
    | ⟨5, _⟩ => List.mem_of_getElem? (i := 2) rfl
    | ⟨6, _⟩ => List.mem_of_getElem? (i := 1) rfl
    | ⟨7, _⟩ => List.mem_of_getElem? (i := 0) rfl
    | ⟨n + 8, h⟩ => absurd h (by omega)

/-- The quantised words loaded, at an index. -/
theorem at3_qw (c : Fin 4) (k : Fin 8) (p h m : ℕ) (hp : p < 8) (hh : h < 2) (hm : m < 128) :
    at3 (a := 8) (b := 2) (c := 128) (qw arg3 harg3 arg4 harg4 arg15 arg16 arg17 x2 x3 g c k) p h m
      = Qf x2 x3 g m (128 * c.val + 16 * k.val + 2 * p + h) := by
  have := c.isLt; have := k.isLt
  unfold at3 qw
  refine (readCov_of _ _ (Vw (Qf x2 x3 g)) (qsA_of arg3 harg3 arg4 harg4 arg15 arg16 x2 x3 g c) _ _
    ⟨_, qs_mem arg3 harg3 arg4 harg4 arg15 arg16 x2 x3 g c ⟨p, hp⟩, ?_⟩).trans ?_
  · refine (LoadRect.mem_set _).mpr fun a => ?_
    match a with
    | ⟨0, _⟩ => exact ⟨k.val, k.isLt, by show 72 * c.val + 9 * k.val + 1 * (p % 8) = 72 * c.val + p + 9 * k.val; omega⟩
    | ⟨1, _⟩ => exact ⟨h, hh, by show 0 + 1 * (h % 2) = 0 + 1 * h; omega⟩
    | ⟨2, _⟩ => exact ⟨m, hm, by show 0 + 1 * (m % 128) = 0 + 1 * m; omega⟩
  · show Qf x2 x3 g (0 + 1 * (m % 128)) (128 * ((72 * c.val + 9 * k.val + 1 * (p % 8)) / 72) + 16 * ((72 * c.val + 9 * k.val + 1 * (p % 8)) % 72 / 9)
      + 2 * ((72 * c.val + 9 * k.val + 1 * (p % 8)) % 72 % 9) + (0 + 1 * (h % 2))) = _
    congr 1 <;> omega

theorem ssA_cons : ∀ c : Fin 4, ∃ L, ssA arg3 harg3 arg15 x2 g c = ⟨sclR c, sP arg3 harg3 arg15 x2 g c⟩ :: L
  | 0 => ⟨_, rfl⟩
  | 1 => ⟨_, rfl⟩
  | 2 => ⟨_, rfl⟩
  | 3 => ⟨_, rfl⟩

/-- The low halves of the scales loaded. -/
theorem at2_sw (c : Fin 4) (k m : ℕ) (hk : k < 8) (hm : m < 128) :
    at2 (a := 8) (b := 128) (lo8 (F := Ideal) (sw arg3 harg3 arg15 arg18 x2 g c)) k m = Sf x2 g m (8 * c.val + k) := by
  obtain ⟨L, hL⟩ := ssA_cons arg3 harg3 arg15 x2 g c
  rw [at2_lo8]
  unfold sw
  rw [hL, View.readCov_cons_toLoadRect]
  unfold sP
  rw [at3_word8 _ _ _ _ _ (by omega), if_pos rfl, ← at2_scV arg3 harg3 arg15 x2 g c k m hk hm]
  rfl

theorem at2_q16 (c : Fin 4) (k : Fin 8) (i m : ℕ) (hi : i < 16) (hm : m < 128) :
    at2 (a := 16) (b := 128) (q16 arg3 harg3 arg4 harg4 arg15 arg16 arg17 x2 x3 g c k) i m = Qf x2 x3 g m (128 * c.val + 16 * k.val + i) := by
  unfold q16
  rw [at2_words _ _ _ hi, at3_qw _ _ _ _ _ _ _ _ _ _ _ _ _ _ _ (by omega) (by omega) hm]
  congr 1; omega

/-- The chunk quantised, at an index. -/
theorem at2_qC (c : Fin 4) (i m : ℕ) (hi : i < 128) (hm : m < 128) :
    at2 (a := 128) (b := 128) (qC arg3 harg3 arg4 harg4 arg15 arg16 arg17 x2 x3 g c) i m = Qf x2 x3 g m (128 * c.val + i) := by
  have key : ∀ k : Fin 8, i / 16 = k.val → at2 (a := 128) (b := 128) (qC arg3 harg3 arg4 harg4 arg15 arg16 arg17 x2 x3 g c) i m
      = at2 (a := 16) (b := 128) (q16 arg3 harg3 arg4 harg4 arg15 arg16 arg17 x2 x3 g c k) (i % 16) m := by
    intro k hk
    unfold at2 qC
    refine concatenate_apply_piece (t := S128x128) 0 _ _ _ k.val ?_ S16x128 (q16 arg3 harg3 arg4 harg4 arg15 arg16 arg17 x2 x3 g c k) ?_ rfl (16 * k.val) ?_ _ ?_ ?_
    · exact k.isLt
    · match k with
      | 0 => rfl
      | 1 => rfl
      | 2 => rfl
      | 3 => rfl
      | 4 => rfl
      | 5 => rfl
      | 6 => rfl
      | 7 => rfl
    · match k with
      | 0 => rfl
      | 1 => rfl
      | 2 => rfl
      | 3 => rfl
      | 4 => rfl
      | 5 => rfl
      | 6 => rfl
      | 7 => rfl
    · intro b hb
      match b with
      | ⟨0, _⟩ => exact absurd rfl hb
      | ⟨1, _⟩ => rfl
    · show 16 * k.val + i % 16 % 16 = i % 128; omega
  rw [key ⟨i / 16, by omega⟩ rfl, at2_q16 _ _ _ _ _ _ _ _ _ _ _ _ _ _ (by omega) hm]
  congr 1
  show 128 * c.val + 16 * (i / 16) + i % 16 = _; omega

/-- The scaled operand of a chunk, at an index. -/
theorem at2_lhsV (c : Fin 4) (m i : ℕ) (hi : i < 128) (hm : m < 128) :
    at2 (a := 128) (b := 128) (lhsV arg3 harg3 arg4 harg4 arg15 arg16 arg17 arg18 x2 x3 g c) m i
      = Qf x2 x3 g m (128 * c.val + i) * Sf x2 g m (8 * c.val + i / 16) := by
  unfold lhsV
  rw [shapeCast_self, at2_transpose]
  have em : ∀ a b : FVec Ideal S128x128 .bf16, at2 (a := 128) (b := 128) (mulf a b) i m
    = at2 (a := 128) (b := 128) a i m * at2 (a := 128) (b := 128) b i m := fun _ _ => rfl
  rw [em, at2_qC _ _ _ _ _ _ _ _ _ _ _ _ _ hi hm, at2_merge (a := 8) (b := 16) (c := 128) (d := 128) _ _ rfl _ _ hi, at3_broadcastMid, shapeCast_self, at3_addUnit]
  congr 1
  exact at2_sw arg3 harg3 arg15 arg18 x2 g c (i / 16) m (by omega) hm

/-- The layout of the scaled operand. -/
def Vl (y : S128x512.Idx) : EReal := Qf x2 x3 g (y 0).val (y 1).val * Sf x2 g (y 0).val ((y 1).val / 16)

theorem lhsL_of : View.PiecesOf (Vl x2 x3 g) (lhsL arg3 harg3 arg4 harg4 arg15 arg16 arg17 arg18 x2 x3 g) := by
  have h : ∀ (c : Fin 4) (x : S128x128.Idx), lhsV arg3 harg3 arg4 harg4 arg15 arg16 arg17 arg18 x2 x3 g c x = Vl x2 x3 g ((colsR c).emb x) := by
    intro c x
    have h0 : (x 0).val < 128 := (x 0).isLt
    have h1 : (x 1).val < 128 := (x 1).isLt
    rw [at2_self (a := 128) (b := 128) (lhsV arg3 harg3 arg4 harg4 arg15 arg16 arg17 arg18 x2 x3 g c) x, at2_lhsV _ _ _ _ _ _ _ _ _ _ _ _ _ _ h1 h0]
    unfold Vl
    have e0 : ((colsR c).emb x 0).val = 0 + 1 * (x 0).val := rfl
    have e1 : ((colsR c).emb x 1).val = 128 * c.val + 1 * (x 1).val := rfl
    rw [e0, e1]
    congr 2 <;> omega
  exact ⟨h 3, h 2, h 1, h 0, trivial⟩

theorem lhs_mem : ∀ c : Fin 4, (⟨colsR c, lhsV arg3 harg3 arg4 harg4 arg15 arg16 arg17 arg18 x2 x3 g c⟩ : View.Piece (Elt Ideal) S128x512 .bf16)
    ∈ lhsL arg3 harg3 arg4 harg4 arg15 arg16 arg17 arg18 x2 x3 g
  | 0 => List.mem_of_getElem? (i := 3) rfl
  | 1 => List.mem_of_getElem? (i := 2) rfl
  | 2 => List.mem_of_getElem? (i := 1) rfl
  | 3 => List.mem_of_getElem? (i := 0) rfl

/-- The scaled operand loaded whole, at an index. -/
theorem at2_lhs (v : View sig .tc .vmem S128x512 .bf16) (m n : ℕ) (hm : m < 128) (hn : n < 512)
    (inb : ∀ a, ![0, 0] a + S128x512.size a ≤ S128x512.size a) :
    at2 (a := 128) (b := 512) (v.readCov (lhsL arg3 harg3 arg4 harg4 arg15 arg16 arg17 arg18 x2 x3 g)
      (Rect.unit (s := S128x512) ![0, 0] S128x512.size inb).toLoadRect) m n = Qf x2 x3 g m n * Sf x2 g m (n / 16) := by
  unfold at2
  refine (readCov_of _ _ (Vl x2 x3 g) (lhsL_of arg3 harg3 arg4 harg4 arg15 arg16 arg17 arg18 x2 x3 g) _ _
    ⟨_, lhs_mem arg3 harg3 arg4 harg4 arg15 arg16 arg17 arg18 x2 x3 g ⟨n / 128, by omega⟩, ?_⟩).trans ?_
  · refine (LoadRect.mem_set _).mpr fun a => ?_
    match a with
    | ⟨0, _⟩ => exact ⟨m, hm, by show 0 + 1 * (m % 128) = 0 + 1 * m; omega⟩
    | ⟨1, _⟩ => exact ⟨n % 128, by show n % 128 < 128; omega, by show 0 + 1 * (n % 512) = 128 * (n / 128) + 1 * (n % 128); omega⟩
  · show Qf x2 x3 g (0 + 1 * (m % 128)) (0 + 1 * (n % 512)) * Sf x2 g (0 + 1 * (m % 128)) ((0 + 1 * (n % 512)) / 16) = _
    congr 2 <;> omega

/-- The packed codes of a chunk, at an index. -/
theorem at2_codeV (q : FVec Ideal S128x128 .bf16) (m i : ℕ) (hi : i < 64) :
    at2 (a := 128) (b := 64) (codeV q) m i = (IntOp.ori (kcode (at2 (a := 128) (b := 128) q (2 * i) m))
      (IntOp.shli .vector (kcode (at2 (a := 128) (b := 128) q (2 * i + 1) m)) 4#32)).setWidth 8 := by
  have e0 := at2_rows (c := 64) 0 q bitcasts_S128x128_w16_S64x128_w32 i m hi
  have e1 := at2_rows (c := 64) 1 q bitcasts_S128x128_w16_S64x128_w32 i m hi
  rw [show 2 * i + (0 : Fin 2).val = 2 * i from rfl] at e0
  rw [show 2 * i + (1 : Fin 2).val = 2 * i + 1 from rfl] at e1
  rw [← e0, ← e1]
  unfold codeV
  have et : ∀ v : IVec S128x64 32, at2 (a := 128) (b := 64) (trunci 8 v natLt_8_32) m i
    = (at2 (a := 128) (b := 64) v m i).setWidth 8 := fun _ => rfl
  rw [et, at2_transpose]
  rfl

end K01
-- ==== Proof.Round.lean ====
/-
  The two programs' stochastic roundings agree: the kernel's one rounding step with its correction below one, and the
  reference's three cases, are one function of the scaled magnitude and the uniform.
-/
module

public import proofs.«01_k».proof.Proof.Quant

@[expose] public section

noncomputable section

open Idealize.ShloMosaic

namespace K01

/-- Division by a positive real is the product with its inverse. -/
theorem div_pos (x : EReal) (y : ℝ) (hy : 0 < y) : Ideal.div x (y : EReal) = x * ((y⁻¹ : ℝ) : EReal) := by
  have h : ((y : ℝ) : EReal) ≠ 0 := by exact_mod_cast hy.ne'
  rw [Ideal.div, if_neg h, EReal.coe_inv]

theorem div_real (x y : ℝ) (hy : 0 < y) : Ideal.div (x : EReal) (y : EReal) = ((x / y : ℝ) : EReal) := by
  rw [div_pos _ _ hy, ← EReal.coe_mul, div_eq_mul_inv]

/-- One stochastic rounding step on the multiples of `s`, over the reals. -/
def sr (s z u : ℝ) : ℝ := if (⌊z / s⌋ : ℝ) * s + u * s < z then (⌊z / s⌋ : ℝ) * s + s else (⌊z / s⌋ : ℝ) * s

/-- The spacing about `z`, over the reals. -/
def st (z : ℝ) : ℝ := if z < 1 then 1 / 4 else if z < 2 then 1 / 2 else if z < 4 then 1 else 2

theorem st_pos (z : ℝ) : 0 < st z := by
  unfold st; split_ifs <;> norm_num

theorem coe_ite (p : Prop) [Decidable p] (a b : ℝ) :
    (if p then (a : EReal) else (b : EReal)) = ((if p then a else b : ℝ) : EReal) := by
  split_ifs <;> rfl

theorem kstep_real (z : ℝ) : kstep (z : EReal) = (st z : EReal) := by
  simp only [kstep, sel_lt, c_one, c_two, c_four, c_half, c_quarter, EReal.coe_lt_coe_iff, coe_ite]
  rfl

theorem kround_real (z u : ℝ) (r : BitVec 32) (hu : unif r = (u : EReal)) :
    kround (z : EReal) r = (sr (st z) z u : EReal) := by
  simp only [kround, kstep_real, div_real _ _ (st_pos z), hu, Ideal.liftRound_coe, sel_lt, ← EReal.coe_mul,
    ← EReal.coe_add, ← EReal.coe_sub, EReal.coe_lt_coe_iff, coe_ite]
  have h : ∀ l : ℝ, (u < (z - l) / st z) = (l + u * st z < z) := fun l => by
    rw [lt_div_iff₀ (st_pos z)]; exact propext ⟨fun h => by linarith, fun h => by linarith⟩
  simp only [h]
  rfl

/-- The rounded magnitude, over the reals. -/
def rmag (a u : ℝ) : ℝ :=
  if a < 2 then (if u < 2 * a - ⌊2 * a⌋ then (⌊2 * a⌋ : ℝ) / 2 + 1 / 2 else (⌊2 * a⌋ : ℝ) / 2)
  else if a < 4 then (if u < a - ⌊a⌋ then (⌊a⌋ : ℝ) + 1 else (⌊a⌋ : ℝ))
  else if a < 6 then (if u < (a - 4) / 2 then 6 else 4) else 6

theorem grid_0 : grid 0 = 0 := rfl
theorem grid_1 : grid 1 = 1 / 2 := rfl
theorem grid_2 : grid 2 = 1 := rfl
theorem grid_3 : grid 3 = 3 / 2 := rfl
theorem grid_4 : grid 4 = 2 := rfl
theorem grid_5 : grid 5 = 3 := rfl
theorem grid_6 : grid 6 = 4 := rfl
theorem grid_7 : grid 7 = 6 := rfl

/-- Every rounded magnitude is one of the format's eight. -/
theorem rmag_grid (a u : ℝ) (ha : 0 ≤ a) : ∃ n : Fin 8, rmag a u = grid n := by
  unfold rmag
  split_ifs with h2 h h4 h h6 h
  all_goals first
    | (have l : 0 ≤ ⌊2 * a⌋ := Int.floor_nonneg.2 (by linarith)
       have l' : ⌊2 * a⌋ < 4 := Int.floor_lt.2 (by push_cast; linarith)
       generalize ⌊2 * a⌋ = k at *
       interval_cases k
       all_goals first
         | (refine ⟨0, ?_⟩; rw [grid_0]; norm_num; done)
         | (refine ⟨1, ?_⟩; rw [grid_1]; norm_num; done)
         | (refine ⟨2, ?_⟩; rw [grid_2]; norm_num; done)
         | (refine ⟨3, ?_⟩; rw [grid_3]; norm_num; done)
         | (refine ⟨4, ?_⟩; rw [grid_4]; norm_num; done))
    | (have l : 2 ≤ ⌊a⌋ := Int.le_floor.2 (by push_cast; linarith)
       have l' : ⌊a⌋ < 4 := Int.floor_lt.2 (by push_cast; linarith)
       generalize ⌊a⌋ = k at *
       interval_cases k
       all_goals first
         | (refine ⟨4, ?_⟩; rw [grid_4]; norm_num; done)
         | (refine ⟨5, ?_⟩; rw [grid_5]; norm_num; done)
         | (refine ⟨6, ?_⟩; rw [grid_6]; norm_num; done))
    | exact ⟨6, rfl⟩
    | exact ⟨7, rfl⟩

/-- The kernel's magnitude over the reals: rounded, clipped at six, corrected below one. -/
theorem kmag_real (a u : ℝ) (ha : 0 ≤ a) (hu : 0 ≤ u) :
    min (sr (st (max a (a * (1 / 2) + 1 / 2))) (max a (a * (1 / 2) + 1 / 2)) u) 6
      - max (1 - min (sr (st (max a (a * (1 / 2) + 1 / 2))) (max a (a * (1 / 2) + 1 / 2)) u) 6) 0 = rmag a u := by
  rcases lt_or_ge a 1 with h1 | h1
  · have e : max a (a * (1 / 2) + 1 / 2) = a * (1 / 2) + 1 / 2 := max_eq_right (by linarith)
    have hs : st (a * (1 / 2) + 1 / 2) = 1 / 4 := by unfold st; rw [if_pos (by linarith)]
    have hf : ⌊(a * (1 / 2) + 1 / 2) / (1 / 4)⌋ = ⌊2 * a⌋ + 2 := by
      rw [show (a * (1 / 2) + 1 / 2) / (1 / 4) = 2 * a + (2 : ℤ) by push_cast; ring, Int.floor_add_intCast]
    have l : 0 ≤ ⌊2 * a⌋ := Int.floor_nonneg.2 (by linarith)
    have l' : ⌊2 * a⌋ < 2 := Int.floor_lt.2 (by push_cast; linarith)
    rw [e, hs, sr, hf, rmag, if_pos (by linarith : a < 2)]
    generalize ⌊2 * a⌋ = k at *
    have hl : (0 : ℝ) ≤ k := by exact_mod_cast l
    have hl' : (k : ℝ) ≤ 1 := by exact_mod_cast (by omega : k ≤ 1)
    push_cast
    by_cases h : u < 2 * a - k
    · rw [if_pos h, if_pos (by linarith), min_eq_left (by linarith), max_eq_left (by linarith)]; ring
    · rw [if_neg h, if_neg (by linarith), min_eq_left (by linarith), max_eq_left (by linarith)]; ring
  · have e : max a (a * (1 / 2) + 1 / 2) = a := max_eq_left (by linarith)
    rw [e]
    rcases lt_or_ge a 2 with h2 | h2
    · have hs : st a = 1 / 2 := by unfold st; rw [if_neg (by linarith), if_pos h2]
      have hf : ⌊a / (1 / 2)⌋ = ⌊2 * a⌋ := by rw [show a / (1 / 2) = 2 * a by ring]
      have l : 2 ≤ ⌊2 * a⌋ := Int.le_floor.2 (by push_cast; linarith)
      have l' : ⌊2 * a⌋ < 4 := Int.floor_lt.2 (by push_cast; linarith)
      rw [hs, sr, hf, rmag, if_pos h2]
      generalize ⌊2 * a⌋ = k at *
      have hl : (2 : ℝ) ≤ k := by exact_mod_cast l
      have hl' : (k : ℝ) ≤ 3 := by exact_mod_cast (by omega : k ≤ 3)
      by_cases h : u < 2 * a - k
      · rw [if_pos h, if_pos (by linarith), min_eq_left (by linarith), max_eq_right (by linarith)]; ring
      · rw [if_neg h, if_neg (by linarith), min_eq_left (by linarith), max_eq_right (by linarith)]; ring
    · rcases lt_or_ge a 4 with h4 | h4
      · have hs : st a = 1 := by unfold st; rw [if_neg (by linarith), if_neg (by linarith), if_pos h4]
        have l : 2 ≤ ⌊a⌋ := Int.le_floor.2 (by push_cast; linarith)
        have l' : ⌊a⌋ < 4 := Int.floor_lt.2 (by push_cast; linarith)
        rw [hs, sr, div_one, rmag, if_neg (not_lt.2 h2), if_pos h4]
        generalize ⌊a⌋ = k at *
        have hl : (2 : ℝ) ≤ k := by exact_mod_cast l
        have hl' : (k : ℝ) ≤ 3 := by exact_mod_cast (by omega : k ≤ 3)
        by_cases h : u < a - k
        · rw [if_pos h, if_pos (by linarith), min_eq_left (by linarith), max_eq_right (by linarith)]; ring
        · rw [if_neg h, if_neg (by linarith), min_eq_left (by linarith), max_eq_right (by linarith)]; ring
      · have hs : st a = 2 := by unfold st; rw [if_neg (by linarith), if_neg (by linarith), if_neg (by linarith)]
        rw [hs, sr, rmag, if_neg (not_lt.2 h2), if_neg (not_lt.2 h4)]
        rcases lt_or_ge a 6 with h6 | h6
        · have hf : ⌊a / 2⌋ = 2 := by rw [Int.floor_eq_iff]; constructor <;> push_cast <;> linarith
          rw [if_pos h6, hf]
          push_cast
          by_cases h : u < (a - 4) / 2
          · rw [if_pos h, if_pos (by linarith), min_eq_left (by linarith), max_eq_right (by linarith)]; ring
          · rw [if_neg h, if_neg (by linarith), min_eq_left (by linarith), max_eq_right (by linarith)]; ring
        · have l : 3 ≤ ⌊a / 2⌋ := Int.le_floor.2 (by push_cast; linarith)
          have hl : (3 : ℝ) ≤ ⌊a / 2⌋ := by exact_mod_cast l
          rw [if_neg (not_lt.2 h6), min_eq_right (by split_ifs <;> linarith), max_eq_right (by linarith)]; ring

/-- The reference's rounded magnitude of a real. -/
theorem rq_real (a u : ℝ) (r : BitVec 32) (hu : unif r = (u : EReal)) (ha : 0 ≤ a) (hu0 : 0 ≤ u) :
    rq (min (a : EReal) (c32 0x40C00000#32)) r = (rmag a u : EReal) := by
  have hm : min (a : EReal) (c32 0x40C00000#32) = ((min a 6 : ℝ) : EReal) := by
    rw [c_six]; exact (EReal.coe_strictMono.monotone.map_min).symm
  rw [hm]
  simp only [rq, rlo, rstep, sel_lt, c_one, c_two, c_four, c_half, EReal.coe_lt_coe_iff, coe_ite, hu,
    Ideal.liftRound_coe, ← EReal.coe_mul, ← EReal.coe_add, ← EReal.coe_sub]
  have hp : 0 < (if min a 6 < 2 then (1 / 2 : ℝ) else if min a 6 < 4 then 1 else 2) := by split_ifs <;> norm_num
  rw [div_real _ _ hp, ← EReal.coe_mul]
  simp only [EReal.coe_lt_coe_iff, coe_ite]
  congr 1
  rcases lt_or_ge a 2 with h2 | h2
  · rw [min_eq_left (by linarith : a ≤ 6), rmag, if_pos h2, if_pos h2, if_pos h2, mul_comm a 2]
    by_cases h : u < 2 * a - ⌊2 * a⌋
    · rw [if_pos h, if_pos (by linarith)]; ring
    · rw [if_neg h, if_neg (by linarith)]; ring
  · rcases lt_or_ge a 4 with h4 | h4
    · rw [min_eq_left (by linarith : a ≤ 6), rmag]
      simp only [if_neg (not_lt.2 h2), if_pos h4]
      by_cases h : u < a - ⌊a⌋
      · rw [if_pos h, if_pos (by linarith)]
      · rw [if_neg h, if_neg (by linarith)]
    · rcases lt_or_ge a 6 with h6 | h6
      · have hf : ⌊(a - 4) * (1 / 2)⌋ = 0 := by rw [Int.floor_eq_iff]; constructor <;> push_cast <;> linarith
        rw [min_eq_left (by linarith : a ≤ 6), rmag]
        simp only [if_neg (not_lt.2 h2), if_neg (not_lt.2 h4), if_pos h6, hf]
        push_cast
        by_cases h : u < (a - 4) / 2
        · rw [if_pos h, if_pos (by linarith)]; ring
        · rw [if_neg h, if_neg (by linarith)]; ring
      · have hf : ⌊((6 : ℝ) - 4) * (1 / 2)⌋ = 1 := by rw [Int.floor_eq_iff]; constructor <;> norm_num
        rw [min_eq_right (by linarith : (6 : ℝ) ≤ a), rmag]
        rw [if_neg (by linarith : ¬ a < 2), if_neg (by linarith : ¬ a < 4), if_neg (by linarith : ¬ a < 6)]
        rw [if_neg (by norm_num : ¬ (6 : ℝ) < 2), if_neg (by norm_num : ¬ (6 : ℝ) < 4), hf,
          if_neg (by norm_num : ¬ (6 : ℝ) < 2), if_neg (by norm_num : ¬ (6 : ℝ) < 4)]
        rw [if_neg (by push_cast; linarith)]
        norm_num

end K01
-- ==== Proof.Elem.lean ====
/-
  One element's quantised value and code agree between the two programs, and so do the values of a weight's code.
-/
module

public import proofs.«01_k».proof.Proof.Round

@[expose] public section

noncomputable section

open Idealize.ShloMosaic

namespace K01

/-- The sixteen values of the four-bit format (the ninth pattern, a negative zero, is zero). -/
def dec16 (c : Fin 16) : ℝ :=
  ![0, 1 / 2, 1, 3 / 2, 2, 3, 4, 6, 0, -(1 / 2), -1, -(3 / 2), -2, -3, -4, -6] c

/-- A positive divisor: what the two programs divide by is a positive real whenever the scale is positive. -/
theorem divisor_real (g A : EReal) (hg : g ≠ 0) (hA : 0 ≤ A) (hs : 0 < scaleOf g A) :
    ∃ e : ℝ, 0 < e ∧ divisor g (scaleOf g A) = (e : EReal) := by
  have hd : divisor g (scaleOf g A) = scaleOf g A * g := by
    rw [divisor, sel_gt, c_zero, if_pos (by exact_mod_cast hs)]
  have h448 : scaleOf g A ≤ ((448 : ℝ) : EReal) := by rw [scaleOf, c_448]; exact min_le_left _ _
  have hdiv : 0 < Ideal.div A (c32 0x40C00000#32 * g) := by
    rw [scaleOf, c_448, c_zero] at hs
    rcases lt_max_iff.1 (lt_min_iff.1 hs).2 with h | h
    · exact absurd h (by simp)
    · exact h
  obtain ⟨t, ht⟩ : ∃ t : ℝ, scaleOf g A = (t : EReal) := by
    induction h : scaleOf g A using EReal.rec with
    | bot => rw [h] at hs; simp at hs
    | top => rw [h] at h448; simp at h448
    | coe t => exact ⟨t, rfl⟩
  rw [ht] at hs
  have htp : 0 < t := by exact_mod_cast hs
  rw [hd, ht]
  rw [c_six] at hdiv
  induction g using EReal.rec with
  | bot =>
    rw [EReal.coe_mul_bot_of_pos (by norm_num)] at hdiv
    simp [Ideal.div] at hdiv
  | top =>
    rw [EReal.coe_mul_top_of_pos (by norm_num)] at hdiv
    simp [Ideal.div] at hdiv
  | coe g =>
    have hg' : g ≠ 0 := by rintro rfl; exact hg rfl
    rcases lt_or_gt_of_ne hg' with h | h
    · exfalso
      rw [← EReal.coe_mul, Ideal.div, if_neg (by exact_mod_cast (by linarith : (6 * g : ℝ) < 0).ne), ← EReal.coe_inv] at hdiv
      have : ((6 * g)⁻¹ : ℝ) ≤ 0 := inv_nonpos.2 (by linarith)
      exact absurd hdiv (not_lt.2 (EReal.mul_nonpos_iff.2 (Or.inl ⟨hA, by exact_mod_cast this⟩)))
    · exact ⟨t * g, mul_pos htp h, by rw [EReal.coe_mul]⟩

theorem coe_max' (a b : ℝ) : max (a : EReal) (b : EReal) = ((max a b : ℝ) : EReal) :=
  (EReal.coe_strictMono.monotone.map_max).symm

theorem coe_min' (a b : ℝ) : min (a : EReal) (b : EReal) = ((min a b : ℝ) : EReal) :=
  (EReal.coe_strictMono.monotone.map_min).symm

/-- The kernel's magnitude before the sign, corrected: over a real scaled magnitude `a`, the rounded magnitude. -/
theorem kmag_coe (x inv : EReal) (a u : ℝ) (r : BitVec 32) (h : max x (-x) * inv = (a : EReal)) (ha : 0 ≤ a)
    (hu : unif r = (u : EReal)) (hu0 : 0 ≤ u) :
    ∃ b f : ℝ, kb x inv r = (b : EReal) ∧ kfix x inv r = (f : EReal) ∧ b - f = rmag a u := by
  have hz : kz x inv = ((max a (a * (1 / 2) + 1 / 2) : ℝ) : EReal) := by
    rw [kz, h, c_half, ← EReal.coe_mul, ← EReal.coe_add, coe_max']
  have hb : kb x inv r = ((min (sr (st (max a (a * (1 / 2) + 1 / 2))) (max a (a * (1 / 2) + 1 / 2)) u) 6 : ℝ) : EReal) := by
    rw [kb, hz, kround_real _ _ _ hu, b_six, coe_min']
  refine ⟨_, _, hb, ?_, kmag_real a u ha hu0⟩
  rw [kfix, hb, b_one, b_zero, ← EReal.coe_sub, coe_max']

/-- The kernel's magnitude where the scaled magnitude is infinite. -/
theorem kmag_top (x inv : EReal) (r : BitVec 32) (u : ℝ) (h : max x (-x) * inv = ⊤) (hu : unif r = (u : EReal)) :
    kb x inv r = ((6 : ℝ) : EReal) ∧ kfix x inv r = ((0 : ℝ) : EReal) := by
  have hz : kz x inv = ⊤ := by rw [kz, h]; simp
  have hs : kstep ⊤ = ((2 : ℝ) : EReal) := by
    simp [kstep, sel_lt, c_two, c_one, c_four]
  have hb : kb x inv r = ((6 : ℝ) : EReal) := by
    rw [kb, hz, kround, hs, div_pos ⊤ 2 (by norm_num), EReal.top_mul_coe_of_pos (by norm_num), Ideal.liftRound_top,
      EReal.top_mul_coe_of_pos (by norm_num), hu, sel_lt, EReal.top_add_coe, ite_self, b_six]
    simp
  refine ⟨hb, ?_⟩
  rw [kfix, hb, b_one, b_zero, ← EReal.coe_sub, coe_max']
  norm_num

/-- The kernel's quantised element from its magnitude. -/
theorem kq_of (x inv : EReal) (r : BitVec 32) (b f : ℝ) (hb : kb x inv r = (b : EReal)) (hf : kfix x inv r = (f : EReal)) :
    kq x inv r = ((if x < 0 then -(b - f) else b - f : ℝ) : EReal) := by
  have e0 : ((0 : ℝ) : EReal) = 0 := rfl
  rw [kq, hb, hf, b_zero, sel_lt, sel_lt, e0]
  split_ifs with h
  · rw [← e0, ← EReal.coe_sub, ← EReal.coe_sub, ← EReal.coe_sub]; congr 1; ring
  · rw [← EReal.coe_sub]

/-- **The element's value.** With a nonzero global scale and a block magnitude that is not negative, the kernel's
    quantised element is the reference's rounded magnitude, signed as the reference signs it. -/
theorem elem_value (g A x : EReal) (r : BitVec 32) (hg : g ≠ 0) (hA : 0 ≤ A) :
    ∃ n : Fin 8, rq (ra (rv g (scaleOf g A) x)) r = (grid n : EReal) ∧
      kq x (kinv g (scaleOf g A)) r
        = ((if rv g (scaleOf g A) x < 0 ∧ 0 < grid n then -grid n else grid n : ℝ) : EReal) := by
  obtain ⟨u, hu0, hu⟩ := unif_real r
  by_cases hs : 0 < scaleOf g A
  · obtain ⟨e, he, hd⟩ := divisor_real g A hg hA hs
    have hk : kinv g (scaleOf g A) = ((e⁻¹ : ℝ) : EReal) := by
      rw [kinv, sel_gt, c_zero, if_pos (by exact_mod_cast hs), hd, c_one, div_pos _ _ he, ← EReal.coe_mul, one_mul]
    have hv : rv g (scaleOf g A) x = x * ((e⁻¹ : ℝ) : EReal) := by
      rw [rv, sel_gt, c_zero, if_pos (by exact_mod_cast hs), hd, div_pos _ _ he]
    have hi : 0 < e⁻¹ := inv_pos.2 he
    rw [hk, hv]
    induction x using EReal.rec with
    | coe x =>
      have h1 : max ((x : ℝ) : EReal) (-((x : ℝ) : EReal)) * ((e⁻¹ : ℝ) : EReal) = ((|x| * e⁻¹ : ℝ) : EReal) := by
        rw [← EReal.coe_neg, coe_max', ← EReal.coe_mul]; rfl
      have ha : 0 ≤ |x| * e⁻¹ := by positivity
      obtain ⟨b, f, hb, hf, hbf⟩ := kmag_coe _ _ _ u r h1 ha hu hu0
      obtain ⟨n, hn⟩ := rmag_grid (|x| * e⁻¹) u ha
      refine ⟨n, ?_, ?_⟩
      · rw [ra, ← EReal.coe_mul, ← EReal.coe_neg, coe_max', show max (x * e⁻¹) (-(x * e⁻¹)) = |x| * e⁻¹ by
          rw [← abs_of_pos hi, ← abs_mul, abs_of_pos hi]; rfl, rq_real _ _ _ hu ha hu0, hn]
      · rw [kq_of _ _ _ b f hb hf, hbf, hn]
        congr 1
        have e1 : ((x : EReal) < 0) ↔ x < 0 := by exact_mod_cast Iff.rfl
        have e2 : ((x : EReal) * ((e⁻¹ : ℝ) : EReal) < 0) ↔ x < 0 := by
          rw [← EReal.coe_mul]
          have : ((x * e⁻¹ : ℝ) : EReal) < 0 ↔ x * e⁻¹ < 0 := by exact_mod_cast Iff.rfl
          rw [this]
          exact ⟨fun h => by by_contra h'; exact absurd h (not_lt.2 (mul_nonneg (not_lt.1 h') hi.le)),
            fun h => mul_neg_of_neg_of_pos h hi⟩
        simp only [e1, e2]
        have hg0 : 0 ≤ grid n := by fin_cases n <;> norm_num [grid] <;> rfl
        by_cases hx : x < 0
        · by_cases hgn : 0 < grid n
          · simp [hx, hgn]
          · have : grid n = 0 := le_antisymm (not_lt.1 hgn) hg0
            simp [hx, this]
        · simp [hx]
    | top =>
      have h1 : max (⊤ : EReal) (-⊤) * ((e⁻¹ : ℝ) : EReal) = ⊤ := by simp [EReal.top_mul_coe_of_pos hi]
      obtain ⟨hb, hf⟩ := kmag_top _ _ r u h1 hu
      refine ⟨7, ?_, ?_⟩
      · rw [EReal.top_mul_coe_of_pos hi, ra, show max (⊤ : EReal) (-⊤) = ⊤ by simp]
        have := rq_real 6 u r hu (by norm_num) hu0
        rw [c_six] at this ⊢
        rw [min_eq_right (by simp)]
        rw [min_self] at this
        rw [this]; norm_num [rmag, grid] <;> rfl
      · rw [kq_of _ _ _ 6 0 hb hf, EReal.top_mul_coe_of_pos hi]; norm_num [grid] <;> rfl
    | bot =>
      have h1 : max (⊥ : EReal) (-⊥) * ((e⁻¹ : ℝ) : EReal) = ⊤ := by simp [EReal.top_mul_coe_of_pos hi]
      obtain ⟨hb, hf⟩ := kmag_top _ _ r u h1 hu
      refine ⟨7, ?_, ?_⟩
      · rw [EReal.bot_mul_coe_of_pos hi, ra, show max (⊥ : EReal) (-⊥) = ⊤ by simp]
        have := rq_real 6 u r hu (by norm_num) hu0
        rw [c_six] at this ⊢
        rw [min_eq_right (by simp)]
        rw [min_self] at this
        rw [this]; norm_num [rmag, grid] <;> rfl
      · rw [kq_of _ _ _ 6 0 hb hf, EReal.bot_mul_coe_of_pos hi, show grid 7 = 6 from rfl]
        norm_num
  · have hs' : ¬ (((0 : ℝ) : EReal) < scaleOf g A) := hs
    have hk : kinv g (scaleOf g A) = 0 := by rw [kinv, sel_gt, c_zero, if_neg hs']; rfl
    have hv : rv g (scaleOf g A) x = 0 := by rw [rv, sel_gt, c_zero, if_neg hs']; rfl
    rw [hk, hv]
    have h1 : max x (-x) * 0 = ((0 : ℝ) : EReal) := by simp
    obtain ⟨b, f, hb, hf, hbf⟩ := kmag_coe _ _ 0 u r h1 le_rfl hu hu0
    have h0 : rmag 0 u = 0 := by
      rw [rmag, if_pos (by norm_num)]; simp [not_lt.2 hu0]
    refine ⟨0, ?_, ?_⟩
    · have := rq_real 0 u r hu le_rfl hu0
      rw [ra, show max (0 : EReal) (-0) = ((0 : ℝ) : EReal) by simp, this, h0]; rfl
    · rw [kq_of _ _ _ b f hb hf, hbf, h0]; norm_num [grid] <;> rfl

theorem fptosi_nat (k : ℕ) (hk : k < 8) : Ideal.fptosi 32 (((k : ℝ) : ℝ) : EReal) = BitVec.ofNat 32 k := by
  have : (0 : ℝ) ≤ (k : ℝ) := by positivity
  have h : Ideal.fptosi 32 (((k : ℝ) : ℝ) : EReal) = BitVec.ofInt 32 (max (-↑(2 ^ (32 - 1) : ℕ)) (min (↑(2 ^ (32 - 1) : ℕ) - 1)
      (if (0 : ℝ) ≤ (k : ℝ) then ⌊(k : ℝ)⌋ else ⌈(k : ℝ)⌉))) := rfl
  rw [h, if_pos this, Int.floor_natCast]
  interval_cases k <;> rfl

/-- **The element's code.** Both programs' codes are one of the sixteen, and the kernel's element is its value. -/
theorem elem_code (g A x : EReal) (r : BitVec 32) (hg : g ≠ 0) (hA : 0 ≤ A) :
    ∃ c : Fin 16, rcode (rv g (scaleOf g A) x) r = BitVec.ofNat 32 c ∧
      kcode (kq x (kinv g (scaleOf g A)) r) = BitVec.ofNat 32 c ∧
      kq x (kinv g (scaleOf g A)) r = (dec16 c : EReal) := by
  obtain ⟨n, h1, h2⟩ := elem_value g A x r hg hA
  rw [h2]
  simp only [rcode, h1, kcode, sel_lt, sel_eq, sel_and, c_zero, c_two, c_four, c_five, c_six, c_seven,
    ← EReal.coe_neg, coe_max', ← EReal.coe_mul, ← EReal.coe_add, EReal.coe_lt_coe_iff, EReal.coe_eq_coe_iff, coe_ite]
  have e0 : ((0 : ℝ) : EReal) = 0 := rfl
  rw [e0]
  have f0 := fptosi_nat 0 (by norm_num)
  have f1 := fptosi_nat 1 (by norm_num)
  have f2 := fptosi_nat 2 (by norm_num)
  have f3 := fptosi_nat 3 (by norm_num)
  have f4 := fptosi_nat 4 (by norm_num)
  have f5 := fptosi_nat 5 (by norm_num)
  have f6 := fptosi_nat 6 (by norm_num)
  have f7 := fptosi_nat 7 (by norm_num)
  norm_num at f0 f1 f2 f3 f4 f5 f6 f7
  by_cases hv : rv g (scaleOf g A) x < 0
  · fin_cases n
    · refine ⟨0, ?_, ?_, ?_⟩ <;> norm_num [grid, dec16, hv, f0, IntOp.ori] <;> rfl
    · refine ⟨9, ?_, ?_, ?_⟩ <;> norm_num [grid, dec16, hv, f1, IntOp.ori] <;> rfl
    · refine ⟨10, ?_, ?_, ?_⟩ <;> norm_num [grid, dec16, hv, f2, IntOp.ori] <;> rfl
    · refine ⟨11, ?_, ?_, ?_⟩ <;> norm_num [grid, dec16, hv, f3, IntOp.ori] <;> rfl
    · refine ⟨12, ?_, ?_, ?_⟩ <;> norm_num [grid, dec16, hv, f4, IntOp.ori] <;> rfl
    · refine ⟨13, ?_, ?_, ?_⟩ <;> norm_num [grid, dec16, hv, f5, IntOp.ori] <;> rfl
    · refine ⟨14, ?_, ?_, ?_⟩ <;> norm_num [grid, dec16, hv, f6, IntOp.ori] <;> rfl
    · refine ⟨15, ?_, ?_, ?_⟩ <;> norm_num [grid, dec16, hv, f7, IntOp.ori] <;> rfl
  · fin_cases n
    · refine ⟨0, ?_, ?_, ?_⟩ <;> norm_num [grid, dec16, hv, f0, IntOp.ori] <;> rfl
    · refine ⟨1, ?_, ?_, ?_⟩ <;> norm_num [grid, dec16, hv, f1, IntOp.ori] <;> rfl
    · refine ⟨2, ?_, ?_, ?_⟩ <;> norm_num [grid, dec16, hv, f2, IntOp.ori] <;> rfl
    · refine ⟨3, ?_, ?_, ?_⟩ <;> norm_num [grid, dec16, hv, f3, IntOp.ori] <;> rfl
    · refine ⟨4, ?_, ?_, ?_⟩ <;> norm_num [grid, dec16, hv, f4, IntOp.ori] <;> rfl
    · refine ⟨5, ?_, ?_, ?_⟩ <;> norm_num [grid, dec16, hv, f5, IntOp.ori] <;> rfl
    · refine ⟨6, ?_, ?_, ?_⟩ <;> norm_num [grid, dec16, hv, f6, IntOp.ori] <;> rfl
    · refine ⟨7, ?_, ?_, ?_⟩ <;> norm_num [grid, dec16, hv, f7, IntOp.ori] <;> rfl

theorem rdec_sign (c : Fin 16) : IntOp.cmpi .eq (IntOp.andi (IntOp.shrsi .vector (BitVec.ofNat 32 c) 3#32) 1#32) 1#32
    = BitVec.ofBool (decide (8 ≤ c.val)) := by revert c; decide
theorem rdec_ex0 (c : Fin 16) : IntOp.cmpi .eq (IntOp.andi (IntOp.shrsi .vector (BitVec.ofNat 32 c) 1#32) 3#32) 0#32
    = BitVec.ofBool (decide (c.val / 2 % 4 = 0)) := by revert c; decide
theorem rdec_ex1 (c : Fin 16) : IntOp.cmpi .eq (IntOp.andi (IntOp.shrsi .vector (BitVec.ofNat 32 c) 1#32) 3#32) 1#32
    = BitVec.ofBool (decide (c.val / 2 % 4 = 1)) := by revert c; decide
theorem rdec_ex2 (c : Fin 16) : IntOp.cmpi .eq (IntOp.andi (IntOp.shrsi .vector (BitVec.ofNat 32 c) 1#32) 3#32) 2#32
    = BitVec.ofBool (decide (c.val / 2 % 4 = 2)) := by revert c; decide
theorem rdec_man (c : Fin 16) : (IntOp.andi (BitVec.ofNat 32 c) 1#32).toInt = ((c.val % 2 : ℕ) : ℤ) := by
  revert c; decide

theorem sel_ofBool {α : Type} (p : Prop) [Decidable p] (a b : α) :
    Scalar.select (BitVec.ofBool (decide p)) a b = if p then a else b := by
  by_cases h : p <;> simp [Scalar.select, h]

/-- The reference's value of a code. -/
theorem rdec_eq (c : Fin 16) : rdec (BitVec.ofNat 32 c) = (dec16 c : EReal) := by
  simp only [rdec, rdec_sign, rdec_ex0, rdec_ex1, rdec_ex2, rdec_man, sel_ofBool, c_zero, c_half, c_one, c_two, c_four,
    ← EReal.coe_mul, ← EReal.coe_add, ← EReal.coe_sub, coe_ite]
  congr 1
  fin_cases c <;> norm_num [dec16]

/-- Twice the magnitude of a code, as the kernel computes it. -/
def kmant (c : BitVec 32) : BitVec 32 :=
  IntOp.maxsi (IntOp.maxsi (IntOp.andi c 7#32) (IntOp.subi (IntOp.muli 2#32 (IntOp.andi c 7#32)) 4#32))
    (IntOp.subi (IntOp.muli 4#32 (IntOp.andi c 7#32)) 16#32)

theorem kmant_eq (c : Fin 16) : (kmant (BitVec.ofNat 32 c)).toInt = (![0, 1, 2, 3, 4, 6, 8, 12, 0, 1, 2, 3, 4, 6, 8, 12] : Fin 16 → ℤ) c := by
  revert c; decide
theorem kmant_low (w : BitVec 8) : kmant (w.setWidth 32) = kmant (BitVec.ofNat 32 (w.toNat % 16)) := by
  revert w; decide
theorem ksign_eq (w : BitVec 8) : IntOp.cmpi .ne (IntOp.andi (w.setWidth 32) 8#32) 0#32
    = BitVec.ofBool (decide (8 ≤ w.toNat % 16)) := by revert w; decide

/-- The kernel's value of a code, whatever the bits above it. -/
theorem kdec_eq (w : BitVec 8) (c : Fin 16) (h : w.toNat % 16 = c.val) : kdec w = (dec16 c : EReal) := by
  have e : kdec w = Scalar.select (IntOp.cmpi .ne (IntOp.andi (w.setWidth 32) 8#32) 0#32)
      (c32 0x00000000#32 - (((kmant (w.setWidth 32)).toInt : ℝ) : EReal) * c32 0x3F000000#32)
      ((((kmant (w.setWidth 32)).toInt : ℝ) : EReal) * c32 0x3F000000#32) := rfl
  rw [e, kmant_low, ksign_eq, h, kmant_eq, sel_ofBool, c_zero, c_half, ← EReal.coe_mul, ← EReal.coe_sub, coe_ite]
  congr 1
  clear e h
  fin_cases c <;> norm_num [dec16]

end K01
-- ==== Proof.WSem.lean ====
/-
  The weight tiles of one grid point, at an index.
-/
module

public import proofs.«01_k».proof.Proof.Tile
public import proofs.«01_k».proof.Proof.Sem
public import proofs.«01_k».proof.Proof.Elem
public import Idealize.ShloMosaic.Lib.BitcastPair
public import Idealize.ShloMosaic.Lib.MatmulPlain

@[expose] public section

set_option maxRecDepth 65536

noncomputable section

open Idealize.ShloMosaic Idealize.ShloMosaic.TcCoe Idealize.ShloMosaic.Tactic
open Cert.KernelIdeal Cert.KernelIdeal.Gen

namespace K01

variable (arg5 : Memref sig .tc .vmem S512x1792 .i8) (harg5 : arg5.IsWhole) (arg6 : Memref sig .tc .vmem S32x224 .fp8e4m3) (harg6 : arg6.IsWhole)
  (arg19 : Memref sig .tc .vmem S14x32x2x128 .bf16)
  (x4 : Vec Ideal S512x1792 .i8) (x5 : Vec Ideal S32x224 .fp8e4m3)

/-- The packed weight byte at row `k`, byte column `n` of the block. -/
def Bf (k n : ℕ) : BitVec 8 := at2 (a := 512) (b := 1792) x4 k n
/-- The weight scale at row `k`, column `n` of the block's scales. -/
def Wsf (k n : ℕ) : EReal := at2 (a := 32) (b := 224) x5 k n
/-- Half `h` of a byte, as a four-bit code. -/
def nib (w : BitVec 8) (h : ℕ) : Fin 16 := if h = 0 then ⟨w.toNat % 16, Nat.mod_lt _ (by omega)⟩ else ⟨w.toNat / 16, by have := w.isLt; omega⟩
/-- The weight at row `k`, column `n` of the block. -/
def Wf (k n : ℕ) : EReal := (dec16 (nib (Bf x4 k (n / 2)) (n % 2)) : EReal) * Wsf x5 (k / 16) (n / 16)

theorem at2_wP (t : Fin 14) (r : Fin 8) (p c : ℕ) (hp : p < 64) (hc : c < 128) :
    at2 (a := 64) (b := 128) (wP arg5 harg5 x4 t r) p c = Bf x4 (64 * r.val + p) (128 * t.val + c) := by
  have := t.isLt; have := r.isLt
  unfold wP
  rw [View.readAt_eq_ld, Memref.IsWhole.read_unread]
  refine at2_of (a := 512) (b := 1792) x4 _ _ _ ?_ ?_
  · show 64 * r.val + 1 * (p % 64) = (64 * r.val + p) % 512; omega
  · show 128 * t.val + 1 * (c % 128) = (128 * t.val + c) % 1792; omega

/-- The low four bits of the shifted byte are the byte's high four. -/
theorem hiB_nib (w : IVec S64x128 8) (p c : ℕ) (hp : p < 64) (hc : c < 128) :
    (at2 (a := 64) (b := 128) (hiB w) p c).toNat % 16 = (at2 (a := 64) (b := 128) w p c).toNat / 16 := by
  have hw := (at2 (a := 64) (b := 128) w p c).isLt
  have key : (at2 (a := 64) (b := 128) (hiB w) p c).setWidth 4 = ((at2 (a := 64) (b := 128) w p c) >>> 4).setWidth 4 := by
    refine BitVec.eq_of_getLsbD_eq fun q hq => ?_
    rw [BitVec.getLsbD_setWidth, BitVec.getLsbD_setWidth, BitVec.getLsbD_ushiftRight]
    congr 1
    unfold hiB at2
    rw [bitcast_getLsbD _ _ _ q (by omega) (by omega)]
    set j := Shape.Bitcasts.srcIdx bitcasts_S16x128_w32_S64x128_w8 (ix2 (a := 64) (b := 128) p c) _ _ with hj
    have hrow : S64x128.row (ix2 (a := 64) (b := 128) p c) = p := by
      show p % 64 = p; omega
    have j0 : (j 0).val = p / 4 := by
      rw [hj, Shape.Bitcasts.srcIdx_row _ _ _ _ 0 rfl, hrow]; omega
    have j1 : (j 1).val = c := by
      rw [hj, Shape.Bitcasts.srcIdx_other _ _ _ _ 1 (by decide)]; show c % 128 = c; omega
    have es : shrui (bitcast S16x128 32 w bitcasts_S64x128_w8_S16x128_w32) (broadcast S16x128 4#32) j
      = (bitcast S16x128 32 w bitcasts_S64x128_w8_S16x128_w32 j) >>> 4 := rfl
    rw [es, BitVec.getLsbD_ushiftRight, hrow, bitcast_getLsbD _ _ _ _ (by omega) (by omega)]
    have hrj : S16x128.row j = p / 4 := j0
    have e2 : (S16x128.row j * 32 + (4 + (p * 8 + q) % 32)) % 8 = 4 + q := by rw [hrj]; omega
    rw [e2]
    refine congrArg (fun z : BitVec 8 => z.getLsbD (4 + q)) ?_
    refine at2_of (a := 64) (b := 128) w _ _ _ ?_ ?_
    · rw [Shape.Bitcasts.srcIdx_row _ _ _ _ 0 rfl, hrj]; omega
    · rw [Shape.Bitcasts.srcIdx_other _ _ _ _ 1 (by decide)]; show (j 1).val = _; rw [j1]; omega
  have k2 := congrArg BitVec.toNat key
  rw [BitVec.toNat_setWidth, BitVec.toNat_setWidth, BitVec.toNat_ushiftRight, Nat.shiftRight_eq_div_pow] at k2
  omega

theorem at2_decV (w : IVec S512x128 8) (k c : ℕ) :
    at2 (a := 512) (b := 128) (decV w) k c = kdec (at2 (a := 512) (b := 128) w k c) := rfl

theorem at2_loW_piece (t : Fin 14) (k c : ℕ) (hk : k < 512) (hc : c < 128) (r : Fin 8) (hr : r.val = k / 64) :
    at2 (a := 512) (b := 128) (loW arg5 harg5 x4 t) k c = at2 (a := 64) (b := 128) (wP arg5 harg5 x4 t r) (k % 64) c := by
  unfold at2 loW
  refine concatenate_apply_piece (t := S512x128) 0 _ _ _ r.val ?_ S64x128 (wP arg5 harg5 x4 t r) ?_ rfl (64 * r.val) ?_ _ ?_ ?_
  · exact r.isLt
  · match r with
      | 0 => rfl
      | 1 => rfl
      | 2 => rfl
      | 3 => rfl
      | 4 => rfl
      | 5 => rfl
      | 6 => rfl
      | 7 => rfl
  · match r with
      | 0 => rfl
      | 1 => rfl
      | 2 => rfl
      | 3 => rfl
      | 4 => rfl
      | 5 => rfl
      | 6 => rfl
      | 7 => rfl
  · intro b hb
    match b with
    | ⟨0, _⟩ => exact absurd rfl hb
    | ⟨1, _⟩ => rfl
  · show 64 * r.val + k % 64 % 64 = k % 512; omega

theorem at2_hiW_piece (t : Fin 14) (k c : ℕ) (hk : k < 512) (hc : c < 128) (r : Fin 8) (hr : r.val = k / 64) :
    at2 (a := 512) (b := 128) (hiW arg5 harg5 x4 t) k c = at2 (a := 64) (b := 128) (hiB (wP arg5 harg5 x4 t r)) (k % 64) c := by
  unfold at2 hiW
  refine concatenate_apply_piece (t := S512x128) 0 _ _ _ r.val ?_ S64x128 (hiB (wP arg5 harg5 x4 t r)) ?_ rfl (64 * r.val) ?_ _ ?_ ?_
  · exact r.isLt
  · match r with
      | 0 => rfl
      | 1 => rfl
      | 2 => rfl
      | 3 => rfl
      | 4 => rfl
      | 5 => rfl
      | 6 => rfl
      | 7 => rfl
  · match r with
      | 0 => rfl
      | 1 => rfl
      | 2 => rfl
      | 3 => rfl
      | 4 => rfl
      | 5 => rfl
      | 6 => rfl
      | 7 => rfl
  · intro b hb
    match b with
    | ⟨0, _⟩ => exact absurd rfl hb
    | ⟨1, _⟩ => rfl
  · show 64 * r.val + k % 64 % 64 = k % 512; omega

/-- A low half decoded. -/
theorem at2_decLo (t : Fin 14) (k c : ℕ) (hk : k < 512) (hc : c < 128) :
    at2 (a := 512) (b := 128) (decV (loW arg5 harg5 x4 t)) k c = (dec16 (nib (Bf x4 k (128 * t.val + c)) 0) : EReal) := by
  rw [at2_decV]
  refine kdec_eq _ _ ?_
  rw [at2_loW_piece arg5 harg5 x4 t k c hk hc ⟨k / 64, by omega⟩ rfl, at2_wP _ _ _ _ _ _ _ (by omega) hc]
  show (Bf x4 (64 * (k / 64) + k % 64) _).toNat % 16 = (Bf x4 k _).toNat % 16
  rw [Nat.div_add_mod]

/-- A high half decoded. -/
theorem at2_decHi (t : Fin 14) (k c : ℕ) (hk : k < 512) (hc : c < 128) :
    at2 (a := 512) (b := 128) (decV (hiW arg5 harg5 x4 t)) k c = (dec16 (nib (Bf x4 k (128 * t.val + c)) 1) : EReal) := by
  rw [at2_decV]
  refine kdec_eq _ _ ?_
  rw [at2_hiW_piece arg5 harg5 x4 t k c hk hc ⟨k / 64, by omega⟩ rfl, hiB_nib _ _ _ (by omega) hc, at2_wP _ _ _ _ _ _ _ (by omega) hc]
  show (Bf x4 (64 * (k / 64) + k % 64) _).toNat / 16 = (Bf x4 k _).toNat / 16
  rw [Nat.div_add_mod]

/-- The index of a rank-four shape with the four coordinates, each reduced modulo its extent. -/
def ix4 {a b c d : ℕ} [NeZero a] [NeZero b] [NeZero c] [NeZero d] (i j k l : ℕ) : (⟨4, ![a, b, c, d]⟩ : Shape).Idx := fun
  | ⟨0, _⟩ => Fin.ofNat a i
  | ⟨1, _⟩ => Fin.ofNat b j
  | ⟨2, _⟩ => Fin.ofNat c k
  | ⟨3, _⟩ => Fin.ofNat d l

/-- The lane index of a scale, as a word. -/
def gS (off x : BitVec 32) : BitVec 32 :=
  let q := IntOp.divsi .vector x 8#32
  let sg := IntOp.subi (BitVec.setWidth 32 (IntOp.cmpi .sgt x 0#32)) (BitVec.setWidth 32 (IntOp.cmpi .slt x 0#32))
  let u := IntOp.cmpi .ne sg
    (Scalar.subi (Scalar.extui (Scalar.cmpi .sgt 8#32 0#32)) (Scalar.extui (Scalar.cmpi .slt 8#32 0#32)))
  let f := Scalar.select (IntOp.andi u (IntOp.cmpi .ne (IntOp.remsi .vector x 8#32) 0#32)) (IntOp.subi q 1#32) q
  let a := IntOp.addi f off
  Scalar.select (IntOp.cmpi .slt a 0#32) (IntOp.addi a 128#32) a

theorem gS_eq : ∀ (o : Fin 8) (l : Fin 128), (gS (BitVec.ofNat 32 (16 * o.val)) (BitVec.ofNat 32 l.val)).toNat = 16 * o.val + l.val / 8 := by
  decide +kernel

theorem gIdx_at (off : BitVec 32) (j : S32x128.Idx) : gIdx off j = gS off (BitVec.ofNat 32 (j 1).val) := by
  unfold gIdx
  rw [shapeCast_shapeCast, ← iota_single_apply .tc S32x128 32 1 iota_S32x128_d1_w32 j]
  rfl

theorem at2_gather (x : FVec Ideal S32x128 .f32) (o : Fin 8) (i l : ℕ) (hi : i < 32) (hl : l < 128) :
    at2 (a := 32) (b := 128) (dynamicGather 1 x (gIdx (BitVec.ofNat 32 (16 * o.val)))) i l = at2 (a := 32) (b := 128) x i (16 * o.val + l / 8) := by
  have ho := o.isLt
  have hg : (gIdx (BitVec.ofNat 32 (16 * o.val)) (ix2 (a := 32) (b := 128) i l)).toNat = 16 * o.val + l / 8 := by
    rw [gIdx_at]
    have := gS_eq o ⟨l, hl⟩
    rw [show ((ix2 (a := 32) (b := 128) i l) 1).val = l from Nat.mod_eq_of_lt hl]
    exact this
  show x _ = _
  refine at2_of (a := 32) (b := 128) x _ _ _ ?_ ?_
  · rfl
  · show (gIdx (BitVec.ofNat 32 (16 * o.val)) (ix2 (a := 32) (b := 128) i l)).toNat % 128 = _
    rw [hg]

theorem at2_wsF (i j : ℕ) (hi : i < 32) (hj : j < 224) : at2 (a := 32) (b := 224) (wsF arg6 harg6 x5) i j = Wsf x5 i j := by
  unfold wsF
  rw [View.readAt_eq_ld, Memref.IsWhole.read_unread]
  refine at2_of (a := 32) (b := 224) x5 _ _ _ ?_ ?_
  · show 0 + 1 * (i % 32) = i % 32; omega
  · show 0 + 1 * (j % 224) = j % 224; omega

theorem at2_wsA (i j : ℕ) (hi : i < 32) (hj : j < 128) : at2 (a := 32) (b := 128) (wsA arg6 harg6 x5) i j = Wsf x5 i j := by
  unfold wsA
  rw [at2_slice _ _ _ _ _ hi hj]
  rw [show (![0, 0] : Fin 2 → ℕ) 0 + i = i by simp, show (![0, 0] : Fin 2 → ℕ) 1 + j = j by simp]
  exact at2_wsF arg6 harg6 x5 i j hi (by omega)

theorem at2_wsB (i j : ℕ) (hi : i < 32) (hj : j < 96) : at2 (a := 32) (b := 128) (wsB arg6 harg6 x5) i j = Wsf x5 i (128 + j) := by
  unfold wsB at2
  refine (concatenate_pair_apply_left (t := S32x128) (s₁ := S32x96) (s₂ := S32x32) 1 _ _ _ _ rfl (ix2 (a := 32) (b := 96) i j) (by
    intro b
    match b with
    | ⟨0, _⟩ => rfl
    | ⟨1, _⟩ => show j % 96 = j % 128; omega)).trans ?_
  change at2 (a := 32) (b := 96) (extractStridedSlice S32x96 ![0, 128] (wsF arg6 harg6 x5) slices_S32x224_o0_128_S32x96) i j = _
  rw [at2_slice _ _ _ _ _ hi hj]
  rw [show (![0, 128] : Fin 2 → ℕ) 0 + i = i by simp]
  exact at2_wsF arg6 harg6 x5 i (128 + j) hi (by omega)

/-- A tile's weight scales at a lane. -/
theorem at2_wssV (t : Fin 14) (i l : ℕ) (hi : i < 32) (hl : l < 128) :
    at2 (a := 32) (b := 128) (wssV arg6 harg6 x5 t) i l = Wsf x5 i (16 * t.val + l / 8) := by
  match t with
  | 0 => exact (at2_gather (wsA arg6 harg6 x5) 0 i l hi hl).trans (at2_wsA arg6 harg6 x5 _ _ hi (by show 16 * 0 + l / 8 < 128; omega))
  | 1 => exact (at2_gather (wsA arg6 harg6 x5) 1 i l hi hl).trans (at2_wsA arg6 harg6 x5 _ _ hi (by show 16 * 1 + l / 8 < 128; omega))
  | 2 => exact (at2_gather (wsA arg6 harg6 x5) 2 i l hi hl).trans (at2_wsA arg6 harg6 x5 _ _ hi (by show 16 * 2 + l / 8 < 128; omega))
  | 3 => exact (at2_gather (wsA arg6 harg6 x5) 3 i l hi hl).trans (at2_wsA arg6 harg6 x5 _ _ hi (by show 16 * 3 + l / 8 < 128; omega))
  | 4 => exact (at2_gather (wsA arg6 harg6 x5) 4 i l hi hl).trans (at2_wsA arg6 harg6 x5 _ _ hi (by show 16 * 4 + l / 8 < 128; omega))
  | 5 => exact (at2_gather (wsA arg6 harg6 x5) 5 i l hi hl).trans (at2_wsA arg6 harg6 x5 _ _ hi (by show 16 * 5 + l / 8 < 128; omega))
  | 6 => exact (at2_gather (wsA arg6 harg6 x5) 6 i l hi hl).trans (at2_wsA arg6 harg6 x5 _ _ hi (by show 16 * 6 + l / 8 < 128; omega))
  | 7 => exact (at2_gather (wsA arg6 harg6 x5) 7 i l hi hl).trans (at2_wsA arg6 harg6 x5 _ _ hi (by show 16 * 7 + l / 8 < 128; omega))
  | 8 => exact (at2_gather (wsB arg6 harg6 x5) 0 i l hi hl).trans ((at2_wsB arg6 harg6 x5 _ _ hi (by show 16 * 0 + l / 8 < 96; omega)).trans (congrArg (Wsf x5 i) (by show 128 + (16 * 0 + l / 8) = 16 * 8 + l / 8; omega)))
  | 9 => exact (at2_gather (wsB arg6 harg6 x5) 1 i l hi hl).trans ((at2_wsB arg6 harg6 x5 _ _ hi (by show 16 * 1 + l / 8 < 96; omega)).trans (congrArg (Wsf x5 i) (by show 128 + (16 * 1 + l / 8) = 16 * 9 + l / 8; omega)))
  | 10 => exact (at2_gather (wsB arg6 harg6 x5) 2 i l hi hl).trans ((at2_wsB arg6 harg6 x5 _ _ hi (by show 16 * 2 + l / 8 < 96; omega)).trans (congrArg (Wsf x5 i) (by show 128 + (16 * 2 + l / 8) = 16 * 10 + l / 8; omega)))
  | 11 => exact (at2_gather (wsB arg6 harg6 x5) 3 i l hi hl).trans ((at2_wsB arg6 harg6 x5 _ _ hi (by show 16 * 3 + l / 8 < 96; omega)).trans (congrArg (Wsf x5 i) (by show 128 + (16 * 3 + l / 8) = 16 * 11 + l / 8; omega)))
  | 12 => exact (at2_gather (wsB arg6 harg6 x5) 4 i l hi hl).trans ((at2_wsB arg6 harg6 x5 _ _ hi (by show 16 * 4 + l / 8 < 96; omega)).trans (congrArg (Wsf x5 i) (by show 128 + (16 * 4 + l / 8) = 16 * 12 + l / 8; omega)))
  | 13 => exact (at2_gather (wsB arg6 harg6 x5) 5 i l hi hl).trans ((at2_wsB arg6 harg6 x5 _ _ hi (by show 16 * 5 + l / 8 < 96; omega)).trans (congrArg (Wsf x5 i) (by show 128 + (16 * 5 + l / 8) = 16 * 13 + l / 8; omega)))

/-- The scales stored as pairs, at an index. -/
theorem pairP_at (v : FVec Ideal S32x128 .f32) (y : S1x32x2x128.Idx) : pairP v y = at2 (a := 32) (b := 128) v (y 1).val (y 3).val := by
  have h0 : (y 0).val = 0 := Nat.lt_one_iff.mp (y 0).isLt
  have h1 : (y 1).val < 32 := (y 1).isLt
  have h2 : (y 2).val < 2 := (y 2).isLt
  have h3 : (y 3).val < 128 := (y 3).isLt
  unfold pairP
  dsimp only
  rw [interleaveRows_apply, ite_self]
  rw [shapeCast_apply _ _ _ (ix3 (a := 1) (b := 32) (c := 128) 0 (y 1).val (y 3).val) (by
    rw [Shape.rowMajor_val_three, Shape.rowMajor_val_four]
    show (0 % 1 * 32 + (y 1).val % 32) * 128 + (y 3).val % 128 = (((y 0).val * 32 + (y 1).val) * 1 + (y 2).val / 2) * 128 + (y 3).val
    omega)]
  rw [shapeCast_apply _ _ _ (ix2 (a := 32) (b := 128) (y 1).val (y 3).val) (by
    rw [Shape.rowMajor_val_three, Shape.rowMajor_val_two]
    show (y 1).val % 32 * 128 + (y 3).val % 128 = (0 % 1 * 32 + (y 1).val % 32) * 128 + (y 3).val % 128
    omega)]
  rfl

/-- The scale buffer's contents. -/
def Vs (y : S14x32x2x128.Idx) : EReal := Wsf x5 (y 1).val (16 * (y 0).val + (y 3).val / 8)

theorem wssL_piece (t : Fin 14) (x : (wssR t).shape.Idx) : pairP (wssV arg6 harg6 x5 t) x = Vs x5 ((wssR t).emb x) := by
  have h0 : (x 0).val = 0 := Nat.lt_one_iff.mp (x 0).isLt
  have h1 : (x 1).val < 32 := (x 1).isLt
  have h3 : (x 3).val < 128 := (x 3).isLt
  rw [pairP_at, at2_wssV _ _ _ _ _ _ h1 h3]
  have e0 : ((wssR t).emb x 0).val = t.val + 1 * (x 0).val := rfl
  have e1 : ((wssR t).emb x 1).val = 0 + 1 * (x 1).val := rfl
  have e3 : ((wssR t).emb x 3).val = 0 + 1 * (x 3).val := rfl
  unfold Vs
  rw [e0, e1, e3, h0]
  congr 2 <;> omega

theorem wssL_pieces : View.PiecesOf (Vs x5) (wssL arg6 harg6 x5) := by
  unfold wssL
  exact ⟨wssL_piece arg6 harg6 x5 13, wssL_piece arg6 harg6 x5 12, wssL_piece arg6 harg6 x5 11, wssL_piece arg6 harg6 x5 10, wssL_piece arg6 harg6 x5 9, wssL_piece arg6 harg6 x5 8, wssL_piece arg6 harg6 x5 7, wssL_piece arg6 harg6 x5 6, wssL_piece arg6 harg6 x5 5, wssL_piece arg6 harg6 x5 4, wssL_piece arg6 harg6 x5 3, wssL_piece arg6 harg6 x5 2, wssL_piece arg6 harg6 x5 1, wssL_piece arg6 harg6 x5 0, trivial⟩

theorem wssL_mem (t : Fin 14) : (⟨wssR t, pairP (wssV arg6 harg6 x5 t)⟩ : View.Piece (Elt Ideal) S14x32x2x128 .bf16) ∈ wssL arg6 harg6 x5 := by
  unfold wssL
  match t with
  | 0 => exact .tail _ (.tail _ (.tail _ (.tail _ (.tail _ (.tail _ (.tail _ (.tail _ (.tail _ (.tail _ (.tail _ (.tail _ (.tail _ (.head _)))))))))))))
  | 1 => exact .tail _ (.tail _ (.tail _ (.tail _ (.tail _ (.tail _ (.tail _ (.tail _ (.tail _ (.tail _ (.tail _ (.tail _ (.head _))))))))))))
  | 2 => exact .tail _ (.tail _ (.tail _ (.tail _ (.tail _ (.tail _ (.tail _ (.tail _ (.tail _ (.tail _ (.tail _ (.head _)))))))))))
  | 3 => exact .tail _ (.tail _ (.tail _ (.tail _ (.tail _ (.tail _ (.tail _ (.tail _ (.tail _ (.tail _ (.head _))))))))))
  | 4 => exact .tail _ (.tail _ (.tail _ (.tail _ (.tail _ (.tail _ (.tail _ (.tail _ (.tail _ (.head _)))))))))
  | 5 => exact .tail _ (.tail _ (.tail _ (.tail _ (.tail _ (.tail _ (.tail _ (.tail _ (.head _))))))))
  | 6 => exact .tail _ (.tail _ (.tail _ (.tail _ (.tail _ (.tail _ (.tail _ (.head _)))))))
  | 7 => exact .tail _ (.tail _ (.tail _ (.tail _ (.tail _ (.tail _ (.head _))))))
  | 8 => exact .tail _ (.tail _ (.tail _ (.tail _ (.tail _ (.head _)))))
  | 9 => exact .tail _ (.tail _ (.tail _ (.tail _ (.head _))))
  | 10 => exact .tail _ (.tail _ (.tail _ (.head _)))
  | 11 => exact .tail _ (.tail _ (.head _))
  | 12 => exact .tail _ (.head _)
  | 13 => exact .head _

theorem at2_scT (t : Fin 14) (k l : ℕ) (hk : k < 512) (hl : l < 128) :
    at2 (a := 512) (b := 128) (scT arg6 harg6 arg19 x5 t) k l = Wsf x5 (k / 16) (16 * t.val + l / 8) := by
  have ht := t.isLt
  unfold scT
  dsimp only
  rw [at2_merge (a := 32) (b := 16) (c := 128) _ _ rfl _ _ hk, at3_broadcastMid, shapeCast_self, at3_addUnit]
  generalize hraw : (arg19.view.readCov (wssL arg6 harg6 x5) (wssR t).toLoadRect) = raw
  have ex : ∀ v : FVec Ideal S32x128 .bf16, at2 (a := 32) (b := 128) (truncf .bf16 (extf .f32 v bitsLt_bf16_f32) bitsLt_bf16_f32 : FVec Ideal S32x128 .bf16) (k / 16) l
    = v (ix2 (a := 32) (b := 128) (k / 16) l) := fun _ => rfl
  rw [ex, shapeCast_apply _ _ _ (ix3 (a := 1) (b := 32) (c := 128) 0 (k / 16) l) (by
    rw [Shape.rowMajor_val_three, Shape.rowMajor_val_two]
    show (0 % 1 * 32 + k / 16 % 32) * 128 + l % 128 = k / 16 % 32 * 128 + l % 128
    omega)]
  rw [shapeCast_apply _ _ _ (ix4 (a := 1) (b := 32) (c := 1) (d := 128) 0 (k / 16) 0 l) (by
    rw [Shape.rowMajor_val_three, Shape.rowMajor_val_four]
    show ((0 % 1 * 32 + k / 16 % 32) * 1 + 0 % 1) * 128 + l % 128 = (0 % 1 * 32 + k / 16 % 32) * 128 + l % 128
    omega)]
  have hr : ∀ z, raw z = Vs x5 ((wssR t).emb z) := by
    intro z
    rw [← hraw]
    refine readCov_of arg19.view _ (Vs x5) (wssL_pieces arg6 harg6 x5) _ _ ⟨⟨wssR t, pairP (wssV arg6 harg6 x5 t)⟩, ?_, ?_⟩
    · exact wssL_mem arg6 harg6 x5 t
    · exact (LoadRect.mem_set _).mpr fun a => ⟨(z a).val, (z a).isLt, rfl⟩
  rw [rowsOfParity_apply, hr]
  unfold Vs
  refine congrArg₂ (Wsf x5) ?_ ?_
  · show 0 + 1 * (k / 16 % 32) = k / 16; omega
  · show 16 * (t.val + 1 * (0 % 1)) + (0 + 1 * (l % 128)) / 8 = _; omega

end K01
-- ==== Proof.Loads.lean ====
/-
  The loads of the scalar operands and of the dequantised block.
-/
module

public import proofs.«01_k».proof.Proof.Chunk

@[expose] public section

set_option maxRecDepth 65536

noncomputable section

open Idealize.ShloMosaic Idealize.ShloMosaic.TcCoe Idealize.ShloMosaic.Tactic
open Cert.KernelIdeal Cert.KernelIdeal.Gen

namespace K01

variable (arg1 : Memref sig .tc .smem S1x1 .f32) (harg1 : arg1.IsWhole)
  (arg12 : Memref sig .tc .vmem S128x512 .bf16)
  (arg3 : Memref sig .tc .vmem S128x512 .bf16) (harg3 : arg3.IsWhole) (arg4 : Memref sig .tc .vmem S128x512 .i32) (harg4 : arg4.IsWhole)
  (arg15 : Memref sig .tc .vmem S288x2x128 .bf16) (arg16 : Memref sig .tc .vmem S544x128 .i32)
  (arg17 : Memref sig .tc .vmem S288x2x128 .bf16) (arg18 : Memref sig .tc .vmem S32x2x128 .bf16)
  (x0 : Vec Ideal S1x1 .f32) (x2 : Vec Ideal S128x512 .bf16) (x3 : Vec Ideal S128x512 .i32) (g : Ideal .f32)

/-- A scalar operand, as loaded. -/
def ld1 : Ideal .f32 :=
  View.readAt (Elt Ideal) arg1.view (Rect.unit (s := S1x1) ![0, 0] S1x1.size inb_S1x1_S1x1_0_0).toLoadRect (harg1.unread x0)
    (Shape.Idx.first (by decide))

/-- The scalar operand loaded is its one element. -/
theorem ld1_eq : ld1 arg1 harg1 x0 = at2 (a := 1) (b := 1) x0 0 0 := by
  unfold ld1
  rw [View.readAt_eq_ld, Memref.IsWhole.read_unread]
  refine at2_of (a := 1) (b := 1) x0 _ _ _ ?_ ?_
  · exact Nat.lt_one_iff.mp (Fin.isLt _)
  · exact Nat.lt_one_iff.mp (Fin.isLt _)

/-- The dequantised block, as loaded. -/
def ldL : FVec Ideal S128x512 .bf16 :=
  arg12.view.readCov (lhsL arg3 harg3 arg4 harg4 arg15 arg16 arg17 arg18 x2 x3 g)
    (Rect.unit (s := S128x512) ![0, 0] S128x512.size inb_S128x512_S128x512_0_0).toLoadRect

end K01
-- ==== Proof.LSem.lean ====
/-
  What the stores of one grid point leave in the accumulator, the scale buffer, the largest magnitudes, the codes and the
  result, at an index.
-/
module

public import proofs.«01_k».proof.Proof.WSem
public import proofs.«01_k».proof.Proof.Loads

@[expose] public section

set_option maxRecDepth 65536

noncomputable section

open Idealize.ShloMosaic Idealize.ShloMosaic.TcCoe Idealize.ShloMosaic.Tactic
open Cert.KernelIdeal Cert.KernelIdeal.Gen
open scoped BigOperators

namespace K01

variable (arg3 : Memref sig .tc .vmem S128x512 .bf16) (harg3 : arg3.IsWhole) (arg4 : Memref sig .tc .vmem S128x512 .i32) (harg4 : arg4.IsWhole)
  (arg5 : Memref sig .tc .vmem S512x1792 .i8) (harg5 : arg5.IsWhole) (arg6 : Memref sig .tc .vmem S32x224 .fp8e4m3) (harg6 : arg6.IsWhole)
  (arg11 : Memref sig .tc .vmem S128x3584 .f32) (harg11 : arg11.IsWhole)
  (arg12 : Memref sig .tc .vmem S128x512 .bf16)
  (arg13 : Memref sig .tc .vmem S1184x128 .f32) (harg13 : arg13.IsWhole)
  (arg14 : Memref sig .tc .vmem S8x128 .f32) (harg14 : arg14.IsWhole)
  (arg15 : Memref sig .tc .vmem S288x2x128 .bf16) (arg16 : Memref sig .tc .vmem S544x128 .i32)
  (arg17 : Memref sig .tc .vmem S288x2x128 .bf16) (arg18 : Memref sig .tc .vmem S32x2x128 .bf16)
  (arg19 : Memref sig .tc .vmem S14x32x2x128 .bf16)
  (x2 : Vec Ideal S128x512 .bf16) (x3 : Vec Ideal S128x512 .i32) (x4 : Vec Ideal S512x1792 .i8) (x5 : Vec Ideal S32x224 .fp8e4m3)
  (g : EReal) (lhs : FVec Ideal S128x512 .bf16)

/-- The result column an accumulator column holds. -/
def pn (y : ℕ) : ℕ := 256 * (y / 256) + 2 * (y % 128) + y % 256 / 128
/-- The accumulator column that holds a result column. -/
def qn (n : ℕ) : ℕ := 256 * (n / 256) + n % 256 / 2 + n % 2 * 128

theorem pn_add (t n : ℕ) (hn : n < 256) : pn (256 * t + n) = 256 * t + 2 * (n % 128) + n / 128 := by
  unfold pn
  rw [show (256 * t + n) / 256 = t by omega, show (256 * t + n) % 128 = n % 128 by omega, show (256 * t + n) % 256 = n by omega]

theorem pn_qn (n : ℕ) : pn (qn n) = n := by
  have e : qn n = 256 * (n / 256) + (n % 256 / 2 + n % 2 * 128) := by unfold qn; omega
  rw [e, pn_add _ _ (by omega)]
  obtain h | h : n % 2 = 0 ∨ n % 2 = 1 := by omega
  · rw [h]; omega
  · rw [h]; omega

/-- The product of the block's row `m` with the block's weight column of accumulator column `y`. -/
def Dl (m y : ℕ) : EReal := ∑ k : Fin 512, at2 (a := 128) (b := 512) lhs m k.val * Wf x4 x5 k.val (pn y)

theorem at2_wV (t : Fin 14) (k n : ℕ) (hk : k < 512) (hn : n < 256) :
    at2 (a := 512) (b := 256) (wV arg5 harg5 arg6 harg6 arg19 x4 x5 t) k n = Wf x4 x5 k (pn (256 * t.val + n)) := by
  have ht := t.isLt
  have em : ∀ u v : FVec Ideal S512x128 .bf16, ∀ c, at2 (a := 512) (b := 128) (mulf u v) k c
    = at2 (a := 512) (b := 128) u k c * at2 (a := 512) (b := 128) v k c := fun _ _ _ => rfl
  unfold wV
  dsimp only
  by_cases h : n < 128
  · refine (concatenate_pair_apply_left (t := S512x256) (s₁ := S512x128) (s₂ := S512x128) 1 _ _ _ _ rfl (ix2 (a := 512) (b := 128) k n) (by
      intro b
      match b with
      | ⟨0, _⟩ => rfl
      | ⟨1, _⟩ => show n % 128 = n % 256; omega)).trans ?_
    change at2 (a := 512) (b := 128) (mulf (decV (loW arg5 harg5 x4 t)) (scT arg6 harg6 arg19 x5 t)) k n = _
    rw [em, at2_decLo _ _ _ _ _ _ hk h, at2_scT _ _ _ _ _ _ _ hk h]
    unfold Wf
    rw [show pn (256 * t.val + n) / 2 = 128 * t.val + n by rw [pn_add _ _ hn]; omega,
      show pn (256 * t.val + n) % 2 = 0 by rw [pn_add _ _ hn]; omega, show pn (256 * t.val + n) / 16 = 16 * t.val + n / 8 by rw [pn_add _ _ hn]; omega]
  · refine (concatenate_pair_apply_right (t := S512x256) (s₁ := S512x128) (s₂ := S512x128) 1 _ _ _ _ rfl rfl (ix2 (a := 512) (b := 128) k (n - 128)) (by
      intro b hb
      match b with
      | ⟨0, _⟩ => rfl
      | ⟨1, _⟩ => exact absurd rfl hb) (by show (n - 128) % 128 + 128 = n % 256; omega)).trans ?_
    change at2 (a := 512) (b := 128) (mulf (decV (hiW arg5 harg5 x4 t)) (scT arg6 harg6 arg19 x5 t)) k (n - 128) = _
    rw [em, at2_decHi _ _ _ _ _ _ hk (by omega), at2_scT _ _ _ _ _ _ _ hk (by omega)]
    unfold Wf
    rw [show pn (256 * t.val + n) / 2 = 128 * t.val + (n - 128) by rw [pn_add _ _ hn]; omega,
      show pn (256 * t.val + n) % 2 = 1 by rw [pn_add _ _ hn]; omega,
      show pn (256 * t.val + n) / 16 = 16 * t.val + (n - 128) / 8 by rw [pn_add _ _ hn]; omega]

/-- A tile's payload. -/
theorem at2_accP (t : Fin 14) (old : FVec Ideal S128x256 .f32) (m n : ℕ) (hm : m < 128) (hn : n < 256) :
    at2 (a := 128) (b := 256) (accP arg5 harg5 arg6 harg6 arg19 x4 x5 lhs t old) m n
      = at2 (a := 128) (b := 256) old m n + Dl x4 x5 lhs m (256 * t.val + n) := by
  unfold accP
  rw [shapeCast_self]
  have e : ∀ w : FVec Ideal S512x256 .bf16, at2 (a := 128) (b := 256) (addf old (matmul dot_S128x512_S512x256_S128x256_1_0_0_1_n_n none lhs
      w (constant S128x256 .f32 0x00000000#32))) m n = at2 (a := 128) (b := 256) old m n + (c32 0x00000000#32 +
        ∑ k : Fin 512, at2 (a := 128) (b := 512) lhs m k.val * at2 (a := 512) (b := 256) w k.val n) := by
    intro w
    refine congrArg (at2 (a := 128) (b := 256) old m n + ·) ?_
    have hx : (ix2 (a := 128) (b := 256) m n) = ValueIdx.ix2 (⟨m, hm⟩ : Fin 128) (⟨n, hn⟩ : Fin 256) := by
      funext r
      match r with
      | ⟨0, _⟩ => exact Fin.ext (Nat.mod_eq_of_lt hm)
      | ⟨1, _⟩ => exact Fin.ext (Nat.mod_eq_of_lt hn)
    show FloatOps.matmul (DotDims.plain 128 512 256) none lhs w (constant S128x256 .f32 0x00000000#32) (ix2 (a := 128) (b := 256) m n) = _
    rw [hx, Ideal.matmul_plain_apply]
    refine congrArg (c32 0x00000000#32 + ·) (Finset.sum_congr rfl fun k _ => ?_)
    have hk := k.isLt
    refine congrArg₂ (· * ·) ?_ ?_
    · exact at2_of (a := 128) (b := 512) lhs _ _ _ (Nat.mod_eq_of_lt hm).symm (Nat.mod_eq_of_lt hk).symm
    · exact at2_of (a := 512) (b := 256) w _ _ _ (Nat.mod_eq_of_lt hk).symm (Nat.mod_eq_of_lt hn).symm
  rw [e, c_zero, EReal.coe_zero, zero_add]
  refine congrArg (at2 (a := 128) (b := 256) old m n + ·) (Finset.sum_congr rfl fun k _ => ?_)
  rw [at2_wV _ _ _ _ _ _ _ _ _ _ k.isLt hn]

/-- A column of a tile is in the tile's rectangle. -/
theorem mem_accR (t : Fin 14) (y : S128x3584.Idx) : y ∈ (accR t).set ↔ (y 1).val / 256 = t.val := by
  have h0 : (y 0).val < 128 := (y 0).isLt
  have h1 : (y 1).val < 3584 := (y 1).isLt
  constructor
  · intro h
    obtain ⟨j, hj, e⟩ := (LoadRect.mem_set _).mp h 1
    have hj' : j < 256 := hj
    have e' : (y 1).val = 256 * t.val + 1 * j := e
    omega
  · intro h
    refine (LoadRect.mem_set _).mpr fun a => ?_
    match a with
    | ⟨0, _⟩ => exact ⟨(y 0).val, h0, show (y 0).val = 0 + 1 * (y 0).val by omega⟩
    | ⟨1, _⟩ => exact ⟨(y 1).val % 256, show (y 1).val % 256 < 256 by omega, show (y 1).val = 256 * t.val + 1 * ((y 1).val % 256) by omega⟩

/-- The tile's payload at an index of its rectangle. -/
theorem accP_emb (t : Fin 14) (old : FVec Ideal S128x256 .f32) (x : (accR t).shape.Idx) :
    accP arg5 harg5 arg6 harg6 arg19 x4 x5 lhs t old x = old x + Dl x4 x5 lhs ((accR t).emb x 0).val ((accR t).emb x 1).val := by
  have h0 : (x 0).val < 128 := (x 0).isLt
  have h1 : (x 1).val < 256 := (x 1).isLt
  have e0 : ((accR t).emb x 0).val = 0 + 1 * (x 0).val := rfl
  have e1 : ((accR t).emb x 1).val = 256 * t.val + 1 * (x 1).val := rfl
  rw [e0, e1, Nat.zero_add, Nat.one_mul, Nat.one_mul]
  have := at2_accP arg5 harg5 arg6 harg6 arg19 x4 x5 lhs t old (x 0).val (x 1).val h0 h1
  rw [← at2_self (a := 128) (b := 256) _ x, ← at2_self (a := 128) (b := 256) _ x] at this
  exact this

theorem accBp_piece (xs : Vec Ideal S128x3584 .f32) (t : Fin 14) (x : (accR t).shape.Idx) :
    accP arg5 harg5 arg6 harg6 arg19 x4 x5 lhs t (View.readAt (Elt Ideal) arg11.view (accR t).toLoadRect (harg11.unread xs)) x
      = (fun y : S128x3584.Idx => (xs y + Dl x4 x5 lhs (y 0).val (y 1).val : EReal)) ((accR t).emb x) := by
  rw [accP_emb, View.readAt_eq_ld, Memref.IsWhole.read_unread]
  rfl

theorem accB_pieces (xs : Vec Ideal S128x3584 .f32) :
    View.PiecesOf (fun y : S128x3584.Idx => (xs y + Dl x4 x5 lhs (y 0).val (y 1).val : EReal))
      (accB arg5 harg5 arg6 harg6 arg11 harg11 arg19 x4 x5 lhs xs) := by
  unfold accB
  exact ⟨accBp_piece arg5 harg5 arg6 harg6 arg11 harg11 arg19 x4 x5 lhs xs 13, accBp_piece arg5 harg5 arg6 harg6 arg11 harg11 arg19 x4 x5 lhs xs 12, accBp_piece arg5 harg5 arg6 harg6 arg11 harg11 arg19 x4 x5 lhs xs 11, accBp_piece arg5 harg5 arg6 harg6 arg11 harg11 arg19 x4 x5 lhs xs 10, accBp_piece arg5 harg5 arg6 harg6 arg11 harg11 arg19 x4 x5 lhs xs 9, accBp_piece arg5 harg5 arg6 harg6 arg11 harg11 arg19 x4 x5 lhs xs 8, accBp_piece arg5 harg5 arg6 harg6 arg11 harg11 arg19 x4 x5 lhs xs 7, accBp_piece arg5 harg5 arg6 harg6 arg11 harg11 arg19 x4 x5 lhs xs 6, accBp_piece arg5 harg5 arg6 harg6 arg11 harg11 arg19 x4 x5 lhs xs 5, accBp_piece arg5 harg5 arg6 harg6 arg11 harg11 arg19 x4 x5 lhs xs 4, accBp_piece arg5 harg5 arg6 harg6 arg11 harg11 arg19 x4 x5 lhs xs 3, accBp_piece arg5 harg5 arg6 harg6 arg11 harg11 arg19 x4 x5 lhs xs 2, accBp_piece arg5 harg5 arg6 harg6 arg11 harg11 arg19 x4 x5 lhs xs 1, accBp_piece arg5 harg5 arg6 harg6 arg11 harg11 arg19 x4 x5 lhs xs 0, trivial⟩

theorem accB_mem (xs : Vec Ideal S128x3584 .f32) (t : Fin 14) :
    accBp arg5 harg5 arg6 harg6 arg11 harg11 arg19 x4 x5 lhs xs t ∈ accB arg5 harg5 arg6 harg6 arg11 harg11 arg19 x4 x5 lhs xs := by
  unfold accB
  match t with
  | 0 => exact .tail _ (.tail _ (.tail _ (.tail _ (.tail _ (.tail _ (.tail _ (.tail _ (.tail _ (.tail _ (.tail _ (.tail _ (.tail _ (.head _)))))))))))))
  | 1 => exact .tail _ (.tail _ (.tail _ (.tail _ (.tail _ (.tail _ (.tail _ (.tail _ (.tail _ (.tail _ (.tail _ (.tail _ (.head _))))))))))))
  | 2 => exact .tail _ (.tail _ (.tail _ (.tail _ (.tail _ (.tail _ (.tail _ (.tail _ (.tail _ (.tail _ (.tail _ (.head _)))))))))))
  | 3 => exact .tail _ (.tail _ (.tail _ (.tail _ (.tail _ (.tail _ (.tail _ (.tail _ (.tail _ (.tail _ (.head _))))))))))
  | 4 => exact .tail _ (.tail _ (.tail _ (.tail _ (.tail _ (.tail _ (.tail _ (.tail _ (.tail _ (.head _)))))))))
  | 5 => exact .tail _ (.tail _ (.tail _ (.tail _ (.tail _ (.tail _ (.tail _ (.tail _ (.head _))))))))
  | 6 => exact .tail _ (.tail _ (.tail _ (.tail _ (.tail _ (.tail _ (.tail _ (.head _)))))))
  | 7 => exact .tail _ (.tail _ (.tail _ (.tail _ (.tail _ (.tail _ (.head _))))))
  | 8 => exact .tail _ (.tail _ (.tail _ (.tail _ (.tail _ (.head _)))))
  | 9 => exact .tail _ (.tail _ (.tail _ (.tail _ (.head _))))
  | 10 => exact .tail _ (.tail _ (.tail _ (.head _)))
  | 11 => exact .tail _ (.tail _ (.head _))
  | 12 => exact .tail _ (.head _)
  | 13 => exact .head _

theorem accB_cover (xs : Vec Ideal S128x3584 .f32) (y : S128x3584.Idx) :
    ∃ p ∈ accB arg5 harg5 arg6 harg6 arg11 harg11 arg19 x4 x5 lhs xs, y ∈ p.1.set := by
  have h1 : (y 1).val < 3584 := (y 1).isLt
  exact ⟨_, accB_mem arg5 harg5 arg6 harg6 arg11 harg11 arg19 x4 x5 lhs xs ⟨(y 1).val / 256, by omega⟩, (mem_accR _ y).mpr rfl⟩

/-- The accumulator after a point that is not the first: the block's product added. -/
theorem canon_accB (xs : Vec Ideal S128x3584 .f32) (y : S128x3584.Idx) :
    View.canon (accB arg5 harg5 arg6 harg6 arg11 harg11 arg19 x4 x5 lhs xs) y = (xs y + Dl x4 x5 lhs (y 0).val (y 1).val : EReal) :=
  View.canon_apply_of_pieces (fun y : S128x3584.Idx => (xs y + Dl x4 x5 lhs (y 0).val (y 1).val : EReal)) _ (accB_pieces arg5 harg5 arg6 harg6 arg11 harg11 arg19 x4 x5 lhs xs).mem y
    (accB_cover arg5 harg5 arg6 harg6 arg11 harg11 arg19 x4 x5 lhs xs y)

theorem accAs_canon (t : Fin 14) (L : List (View.Piece (Elt Ideal) S128x3584 .f32))
    (hL : ∀ y, View.canon L y = if (y 1).val / 256 < t.val then (Dl x4 x5 lhs (y 0).val (y 1).val : EReal) else (0 : EReal)) (y : S128x3584.Idx) :
    View.canon (accAs arg5 harg5 arg6 harg6 arg11 arg19 x4 x5 lhs t L) y
      = if (y 1).val / 256 < t.val + 1 then (Dl x4 x5 lhs (y 0).val (y 1).val : EReal) else (0 : EReal) := by
  unfold accAs
  by_cases hm : y ∈ (accR t).set
  · have hy := (mem_accR t y).mp hm
    obtain ⟨x, hx⟩ := (accR t).exists_idx_of_mem hm
    have hx' : (accR t).emb x = y := hx
    have e : View.canon L y = (0 : EReal) := (hL y).trans (if_neg (by omega))
    rw [if_pos (by omega)]
    subst hx'
    refine (View.canon_cons_emb (accR t) _ L x).trans ((accP_emb arg5 harg5 arg6 harg6 arg19 x4 x5 lhs t _ x).trans ?_)
    rw [View.readCov_eq_canon']
    refine (congrArg (· + _) ?_).trans (zero_add _)
    exact e
  · have hy : (y 1).val / 256 ≠ t.val := fun h => hm ((mem_accR t y).mpr h)
    have e : ((y 1).val / 256 < t.val) ↔ ((y 1).val / 256 < t.val + 1) := by omega
    refine (View.canon_cons_of_not_mem (⟨accR t, _⟩ : View.Piece (Elt Ideal) S128x3584 .f32) L hm).trans ((hL y).trans ?_)
    simp only [e]

theorem zero2 : (![0, 0] : Fin 2 → ℕ) = fun _ => 0 := by
  funext a; match a with | ⟨0, _⟩ => rfl | ⟨1, _⟩ => rfl

theorem accA0_canon (y : S128x3584.Idx) :
    View.canon accA0 y = if (y 1).val / 256 < 0 then (Dl x4 x5 lhs (y 0).val (y 1).val : EReal) else (0 : EReal) := by
  unfold accA0
  rw [View.canon_unit_zero zero2, if_neg (by omega)]
  unfold k0_pay22
  rw [shapeCast_self]
  exact c_zero

theorem accA1_canon (y : S128x3584.Idx) : View.canon (accA1 arg5 harg5 arg6 harg6 arg11 arg19 x4 x5 lhs) y
    = if (y 1).val / 256 < 1 then (Dl x4 x5 lhs (y 0).val (y 1).val : EReal) else (0 : EReal) :=
  accAs_canon arg5 harg5 arg6 harg6 arg11 arg19 x4 x5 lhs 0 _ (accA0_canon x4 x5 lhs) y

theorem accA2_canon (y : S128x3584.Idx) : View.canon (accA2 arg5 harg5 arg6 harg6 arg11 arg19 x4 x5 lhs) y
    = if (y 1).val / 256 < 2 then (Dl x4 x5 lhs (y 0).val (y 1).val : EReal) else (0 : EReal) :=
  accAs_canon arg5 harg5 arg6 harg6 arg11 arg19 x4 x5 lhs 1 _ (accA1_canon arg5 harg5 arg6 harg6 arg11 arg19 x4 x5 lhs) y

theorem accA3_canon (y : S128x3584.Idx) : View.canon (accA3 arg5 harg5 arg6 harg6 arg11 arg19 x4 x5 lhs) y
    = if (y 1).val / 256 < 3 then (Dl x4 x5 lhs (y 0).val (y 1).val : EReal) else (0 : EReal) :=
  accAs_canon arg5 harg5 arg6 harg6 arg11 arg19 x4 x5 lhs 2 _ (accA2_canon arg5 harg5 arg6 harg6 arg11 arg19 x4 x5 lhs) y

theorem accA4_canon (y : S128x3584.Idx) : View.canon (accA4 arg5 harg5 arg6 harg6 arg11 arg19 x4 x5 lhs) y
    = if (y 1).val / 256 < 4 then (Dl x4 x5 lhs (y 0).val (y 1).val : EReal) else (0 : EReal) :=
  accAs_canon arg5 harg5 arg6 harg6 arg11 arg19 x4 x5 lhs 3 _ (accA3_canon arg5 harg5 arg6 harg6 arg11 arg19 x4 x5 lhs) y

theorem accA5_canon (y : S128x3584.Idx) : View.canon (accA5 arg5 harg5 arg6 harg6 arg11 arg19 x4 x5 lhs) y
    = if (y 1).val / 256 < 5 then (Dl x4 x5 lhs (y 0).val (y 1).val : EReal) else (0 : EReal) :=
  accAs_canon arg5 harg5 arg6 harg6 arg11 arg19 x4 x5 lhs 4 _ (accA4_canon arg5 harg5 arg6 harg6 arg11 arg19 x4 x5 lhs) y

theorem accA6_canon (y : S128x3584.Idx) : View.canon (accA6 arg5 harg5 arg6 harg6 arg11 arg19 x4 x5 lhs) y
    = if (y 1).val / 256 < 6 then (Dl x4 x5 lhs (y 0).val (y 1).val : EReal) else (0 : EReal) :=
  accAs_canon arg5 harg5 arg6 harg6 arg11 arg19 x4 x5 lhs 5 _ (accA5_canon arg5 harg5 arg6 harg6 arg11 arg19 x4 x5 lhs) y

theorem accA7_canon (y : S128x3584.Idx) : View.canon (accA7 arg5 harg5 arg6 harg6 arg11 arg19 x4 x5 lhs) y
    = if (y 1).val / 256 < 7 then (Dl x4 x5 lhs (y 0).val (y 1).val : EReal) else (0 : EReal) :=
  accAs_canon arg5 harg5 arg6 harg6 arg11 arg19 x4 x5 lhs 6 _ (accA6_canon arg5 harg5 arg6 harg6 arg11 arg19 x4 x5 lhs) y

theorem accA8_canon (y : S128x3584.Idx) : View.canon (accA8 arg5 harg5 arg6 harg6 arg11 arg19 x4 x5 lhs) y
    = if (y 1).val / 256 < 8 then (Dl x4 x5 lhs (y 0).val (y 1).val : EReal) else (0 : EReal) :=
  accAs_canon arg5 harg5 arg6 harg6 arg11 arg19 x4 x5 lhs 7 _ (accA7_canon arg5 harg5 arg6 harg6 arg11 arg19 x4 x5 lhs) y

theorem accA9_canon (y : S128x3584.Idx) : View.canon (accA9 arg5 harg5 arg6 harg6 arg11 arg19 x4 x5 lhs) y
    = if (y 1).val / 256 < 9 then (Dl x4 x5 lhs (y 0).val (y 1).val : EReal) else (0 : EReal) :=
  accAs_canon arg5 harg5 arg6 harg6 arg11 arg19 x4 x5 lhs 8 _ (accA8_canon arg5 harg5 arg6 harg6 arg11 arg19 x4 x5 lhs) y

theorem accA10_canon (y : S128x3584.Idx) : View.canon (accA10 arg5 harg5 arg6 harg6 arg11 arg19 x4 x5 lhs) y
    = if (y 1).val / 256 < 10 then (Dl x4 x5 lhs (y 0).val (y 1).val : EReal) else (0 : EReal) :=
  accAs_canon arg5 harg5 arg6 harg6 arg11 arg19 x4 x5 lhs 9 _ (accA9_canon arg5 harg5 arg6 harg6 arg11 arg19 x4 x5 lhs) y

theorem accA11_canon (y : S128x3584.Idx) : View.canon (accA11 arg5 harg5 arg6 harg6 arg11 arg19 x4 x5 lhs) y
    = if (y 1).val / 256 < 11 then (Dl x4 x5 lhs (y 0).val (y 1).val : EReal) else (0 : EReal) :=
  accAs_canon arg5 harg5 arg6 harg6 arg11 arg19 x4 x5 lhs 10 _ (accA10_canon arg5 harg5 arg6 harg6 arg11 arg19 x4 x5 lhs) y

theorem accA12_canon (y : S128x3584.Idx) : View.canon (accA12 arg5 harg5 arg6 harg6 arg11 arg19 x4 x5 lhs) y
    = if (y 1).val / 256 < 12 then (Dl x4 x5 lhs (y 0).val (y 1).val : EReal) else (0 : EReal) :=
  accAs_canon arg5 harg5 arg6 harg6 arg11 arg19 x4 x5 lhs 11 _ (accA11_canon arg5 harg5 arg6 harg6 arg11 arg19 x4 x5 lhs) y

theorem accA13_canon (y : S128x3584.Idx) : View.canon (accA13 arg5 harg5 arg6 harg6 arg11 arg19 x4 x5 lhs) y
    = if (y 1).val / 256 < 13 then (Dl x4 x5 lhs (y 0).val (y 1).val : EReal) else (0 : EReal) :=
  accAs_canon arg5 harg5 arg6 harg6 arg11 arg19 x4 x5 lhs 12 _ (accA12_canon arg5 harg5 arg6 harg6 arg11 arg19 x4 x5 lhs) y

theorem accA14_canon (y : S128x3584.Idx) : View.canon (accA14 arg5 harg5 arg6 harg6 arg11 arg19 x4 x5 lhs) y
    = if (y 1).val / 256 < 14 then (Dl x4 x5 lhs (y 0).val (y 1).val : EReal) else (0 : EReal) :=
  accAs_canon arg5 harg5 arg6 harg6 arg11 arg19 x4 x5 lhs 13 _ (accA13_canon arg5 harg5 arg6 harg6 arg11 arg19 x4 x5 lhs) y

/-- The accumulator after the first point: the block's product. -/
theorem canon_accA (y : S128x3584.Idx) :
    View.canon (accA14 arg5 harg5 arg6 harg6 arg11 arg19 x4 x5 lhs) y = (Dl x4 x5 lhs (y 0).val (y 1).val : EReal) := by
  have h1 : (y 1).val < 3584 := (y 1).isLt
  exact (accA14_canon arg5 harg5 arg6 harg6 arg11 arg19 x4 x5 lhs y).trans (if_pos (by omega))

end K01
-- ==== Proof.Perm.lean ====
/-
  A tile of the result: the accumulator's tile scaled, its columns put in order by a product with a permutation matrix.
-/
module

public import proofs.«01_k».proof.Proof.LSem

@[expose] public section

set_option maxRecDepth 65536

noncomputable section

open Idealize.ShloMosaic Idealize.ShloMosaic.TcCoe Idealize.ShloMosaic.Tactic
open Cert.KernelIdeal Cert.KernelIdeal.Gen
open scoped BigOperators

namespace K01

/-- A word divided by `d`, rounded down. -/
def fdW (x d : BitVec 32) : BitVec 32 :=
  let q := IntOp.divsi .vector x d
  let sg := IntOp.subi (BitVec.setWidth 32 (IntOp.cmpi .sgt x 0#32)) (BitVec.setWidth 32 (IntOp.cmpi .slt x 0#32))
  let u := IntOp.cmpi .ne sg
    (Scalar.subi (Scalar.extui (Scalar.cmpi .sgt d 0#32)) (Scalar.extui (Scalar.cmpi .slt d 0#32)))
  Scalar.select (IntOp.andi u (IntOp.cmpi .ne (IntOp.remsi .vector x d) 0#32)) (IntOp.subi q 1#32) q

/-- The row the permutation matrix has its one in, as a word function of the column. -/
def pW (x : BitVec 32) : BitVec 32 :=
  let d : BitVec 32 := Scalar.select (Scalar.cmpi .eq 2#32 0#32) 1#32 2#32
  let r := IntOp.remsi .vector x d
  let r' := Scalar.select (IntOp.andi (IntOp.xori (IntOp.cmpi .slt r 0#32) (Scalar.cmpi .slt d 0#32)) (IntOp.cmpi .ne r 0#32))
    (IntOp.addi r d) r
  IntOp.addi (fdW x 2#32) (IntOp.muli r' 128#32)

theorem pW_eq : ∀ n : Fin 256, pW (BitVec.ofNat 32 n.val) = BitVec.ofNat 32 (n.val / 2 + n.val % 2 * 128) := by decide +kernel

theorem pay5_at (j : S256x256.Idx) : k0_pay5 j = IntOp.cmpi .eq (BitVec.ofNat 32 (j 0).val) (pW (BitVec.ofNat 32 (j 1).val)) := by
  rw [← iota_single_apply .tc S256x256 32 0 iota_S256x256_d0_w32 j, ← iota_single_apply .tc S256x256 32 1 iota_S256x256_d1_w32 j]
  rfl

theorem cmpi_eq_self (x : BitVec 32) : IntOp.cmpi .eq x x = 1#1 := by simp [IntOp.cmpi]
theorem cmpi_eq_ne (x y : BitVec 32) (h : x ≠ y) : IntOp.cmpi .eq x y = 0#1 := by
  show BitVec.ofBool (x == y) = 0#1
  rw [beq_false_of_ne h]; rfl

theorem perm_at (k n : ℕ) (hk : k < 256) (hn : n < 256) :
    at2 (a := 256) (b := 256) (k0_pay6 k0_pay5 : FVec Ideal S256x256 .bf16) k n = if k = n / 2 + n % 2 * 128 then (1 : EReal) else 0 := by
  have e : at2 (a := 256) (b := 256) (k0_pay6 k0_pay5 : FVec Ideal S256x256 .bf16) k n
    = Scalar.select (k0_pay5 (ix2 (a := 256) (b := 256) k n)) (c32 0x3F800000#32) (c32 0x00000000#32) := rfl
  rw [e, pay5_at, show ((ix2 (a := 256) (b := 256) k n) 0).val = k from Nat.mod_eq_of_lt hk,
    show ((ix2 (a := 256) (b := 256) k n) 1).val = n from Nat.mod_eq_of_lt hn, pW_eq ⟨n, hn⟩, c_one, c_zero]
  by_cases h : k = n / 2 + n % 2 * 128
  · rw [if_pos h, ← h, cmpi_eq_self]; exact EReal.coe_one
  · rw [if_neg h, cmpi_eq_ne]
    · exact EReal.coe_zero
    · intro h'
      have := congrArg BitVec.toNat h'
      rw [BitVec.toNat_ofNat, BitVec.toNat_ofNat, Nat.mod_eq_of_lt (by omega), Nat.mod_eq_of_lt (by show n / 2 + n % 2 * 128 < _; omega)] at this
      exact h this

/-- A tile of the result. -/
theorem at2_pay2 (gg : EReal) (v : FVec Ideal S128x256 .f32) (m n : ℕ) (hm : m < 128) (hn : n < 256) :
    at2 (a := 128) (b := 256) (k0_pay2 (k0_pay6 k0_pay5) gg v : FVec Ideal S128x256 .bf16) m n
      = at2 (a := 128) (b := 256) v m (n / 2 + n % 2 * 128) * gg := by
  have hx : (ix2 (a := 128) (b := 256) m n) = ValueIdx.ix2 (⟨m, hm⟩ : Fin 128) (⟨n, hn⟩ : Fin 256) := by
    funext r
    match r with
    | ⟨0, _⟩ => exact Fin.ext (Nat.mod_eq_of_lt hm)
    | ⟨1, _⟩ => exact Fin.ext (Nat.mod_eq_of_lt hn)
  have e : ∀ p : FVec Ideal S256x256 .bf16, at2 (a := 128) (b := 256) (k0_pay2 p gg v : FVec Ideal S128x256 .bf16) m n
      = c32 0x00000000#32 + ∑ k : Fin 256, (at2 (a := 128) (b := 256) v m k.val * gg) * at2 (a := 256) (b := 256) p k.val n := by
    intro p
    show FloatOps.matmul (DotDims.plain 128 256 256) none (mulf v (broadcast S128x256 gg : FVec Ideal S128x256 .f32) : FVec Ideal S128x256 .f32) p
      (constant S128x256 .f32 0x00000000#32) (ix2 (a := 128) (b := 256) m n) = _
    rw [hx, Ideal.matmul_plain_apply]
    refine congrArg (c32 0x00000000#32 + ·) (Finset.sum_congr rfl fun k _ => ?_)
    have hk := k.isLt
    refine congrArg₂ (· * ·) (congrArg (· * gg) ?_) ?_
    · exact at2_of (a := 128) (b := 256) v _ _ _ (Nat.mod_eq_of_lt hm).symm (Nat.mod_eq_of_lt hk).symm
    · exact at2_of (a := 256) (b := 256) p _ _ _ (Nat.mod_eq_of_lt hk).symm (Nat.mod_eq_of_lt hn).symm
  rw [e, c_zero, EReal.coe_zero, zero_add, Finset.sum_eq_single (⟨n / 2 + n % 2 * 128, by omega⟩ : Fin 256)]
  · rw [perm_at _ _ (by show n / 2 + n % 2 * 128 < 256; omega) hn, if_pos rfl, mul_one]
  · intro k _ hk
    rw [perm_at _ _ k.isLt hn, if_neg (fun h => hk (Fin.ext h)), mul_zero]
  · intro h; exact absurd (Finset.mem_univ _) h

variable (arg11 : Memref sig .tc .vmem S128x3584 .f32) (gg : EReal)

theorem dxL_piece (L : List (View.Piece (Elt Ideal) S128x3584 .f32)) (t : Fin 14) (x : (accR t).shape.Idx) :
    (k0_pay2 (k0_pay6 k0_pay5) gg (arg11.view.readCov L (accR t).toLoadRect) : FVec Ideal S128x256 .bf16) x
      = (fun y : S128x3584.Idx => (at2 (a := 128) (b := 3584) (View.canon L) (y 0).val (qn (y 1).val) * gg : EReal)) ((accR t).emb x) := by
  have ht := t.isLt
  have h0 : (x 0).val < 128 := (x 0).isLt
  have h1 : (x 1).val < 256 := (x 1).isLt
  have h := at2_pay2 gg (arg11.view.readCov L (accR t).toLoadRect) (x 0).val (x 1).val h0 h1
  rw [← at2_self (a := 128) (b := 256) (k0_pay2 (k0_pay6 k0_pay5) gg (arg11.view.readCov L (accR t).toLoadRect)) x] at h
  refine h.trans (congrArg (· * gg) ?_)
  have e0 : ((accR t).emb x 0).val = 0 + 1 * (x 0).val := rfl
  have e1 : ((accR t).emb x 1).val = 256 * t.val + 1 * (x 1).val := rfl
  have eq : qn (256 * t.val + 1 * (x 1).val) = 256 * t.val + ((x 1).val / 2 + (x 1).val % 2 * 128) := by
    unfold qn
    rw [show (256 * t.val + 1 * (x 1).val) / 256 = t.val by omega, show (256 * t.val + 1 * (x 1).val) % 256 = (x 1).val by omega,
      show (256 * t.val + 1 * (x 1).val) % 2 = (x 1).val % 2 by omega]
    omega
  show _ = at2 (a := 128) (b := 3584) (View.canon L) ((accR t).emb x 0).val (qn ((accR t).emb x 1).val)
  rw [e0, e1, eq, View.readCov_eq_canon']
  refine at2_of (a := 128) (b := 3584) (View.canon L) _ _ _ ?_ ?_
  · show 0 + 1 * ((x 0).val % 128) = (0 + 1 * (x 0).val) % 128; omega
  · show 256 * t.val + 1 * (((x 1).val / 2 + (x 1).val % 2 * 128) % 256) = (256 * t.val + ((x 1).val / 2 + (x 1).val % 2 * 128)) % 3584
    rw [Nat.mod_eq_of_lt (show (x 1).val / 2 + (x 1).val % 2 * 128 < 256 by omega),
      Nat.mod_eq_of_lt (show 256 * t.val + ((x 1).val / 2 + (x 1).val % 2 * 128) < 3584 by omega), Nat.one_mul]

theorem dxL_mem (L : List (View.Piece (Elt Ideal) S128x3584 .f32)) (t : Fin 14) :
    (⟨accR t, (k0_pay2 (k0_pay6 k0_pay5) gg (arg11.view.readCov L (accR t).toLoadRect) : FVec Ideal S128x256 .bf16)⟩ :
      View.Piece (Elt Ideal) S128x3584 .bf16) ∈ dxL arg11 gg L := by
  unfold dxL
  match t with
  | 0 => exact .tail _ (.tail _ (.tail _ (.tail _ (.tail _ (.tail _ (.tail _ (.tail _ (.tail _ (.tail _ (.tail _ (.tail _ (.tail _ (.head _)))))))))))))
  | 1 => exact .tail _ (.tail _ (.tail _ (.tail _ (.tail _ (.tail _ (.tail _ (.tail _ (.tail _ (.tail _ (.tail _ (.tail _ (.head _))))))))))))
  | 2 => exact .tail _ (.tail _ (.tail _ (.tail _ (.tail _ (.tail _ (.tail _ (.tail _ (.tail _ (.tail _ (.tail _ (.head _)))))))))))
  | 3 => exact .tail _ (.tail _ (.tail _ (.tail _ (.tail _ (.tail _ (.tail _ (.tail _ (.tail _ (.tail _ (.head _))))))))))
  | 4 => exact .tail _ (.tail _ (.tail _ (.tail _ (.tail _ (.tail _ (.tail _ (.tail _ (.tail _ (.head _)))))))))
  | 5 => exact .tail _ (.tail _ (.tail _ (.tail _ (.tail _ (.tail _ (.tail _ (.tail _ (.head _))))))))
  | 6 => exact .tail _ (.tail _ (.tail _ (.tail _ (.tail _ (.tail _ (.tail _ (.head _)))))))
  | 7 => exact .tail _ (.tail _ (.tail _ (.tail _ (.tail _ (.tail _ (.head _))))))
  | 8 => exact .tail _ (.tail _ (.tail _ (.tail _ (.tail _ (.head _)))))
  | 9 => exact .tail _ (.tail _ (.tail _ (.tail _ (.head _))))
  | 10 => exact .tail _ (.tail _ (.tail _ (.head _)))
  | 11 => exact .tail _ (.tail _ (.head _))
  | 12 => exact .tail _ (.head _)
  | 13 => exact .head _

/-- The result the stores leave, from the accumulator the stores `L` left. -/
theorem canon_dxL (L : List (View.Piece (Elt Ideal) S128x3584 .f32)) (y : S128x3584.Idx) :
    View.canon (dxL arg11 gg L) y = (at2 (a := 128) (b := 3584) (View.canon L) (y 0).val (qn (y 1).val) * gg : EReal) := by
  have h1 : (y 1).val < 3584 := (y 1).isLt
  have hp : View.PiecesOf (fun y : S128x3584.Idx => (at2 (a := 128) (b := 3584) (View.canon L) (y 0).val (qn (y 1).val) * gg : EReal))
      (dxL arg11 gg L) := by
    unfold dxL
    exact ⟨dxL_piece arg11 gg L 13, dxL_piece arg11 gg L 12, dxL_piece arg11 gg L 11, dxL_piece arg11 gg L 10, dxL_piece arg11 gg L 9, dxL_piece arg11 gg L 8, dxL_piece arg11 gg L 7, dxL_piece arg11 gg L 6, dxL_piece arg11 gg L 5, dxL_piece arg11 gg L 4, dxL_piece arg11 gg L 3, dxL_piece arg11 gg L 2, dxL_piece arg11 gg L 1, dxL_piece arg11 gg L 0, trivial⟩
  exact View.canon_apply_of_pieces (fun y : S128x3584.Idx => (at2 (a := 128) (b := 3584) (View.canon L) (y 0).val (qn (y 1).val) * gg : EReal))
    _ hp.mem y ⟨_, dxL_mem arg11 gg L ⟨(y 1).val / 256, by omega⟩, (mem_accR _ y).mpr rfl⟩

end K01
-- ==== Proof.Scr.lean ====
/-
  What the stores of one grid point leave in the scale buffer, the largest magnitudes and the codes, at an index.
-/
module

public import proofs.«01_k».proof.Proof.Perm

@[expose] public section

set_option maxRecDepth 65536

noncomputable section

open Idealize.ShloMosaic Idealize.ShloMosaic.TcCoe Idealize.ShloMosaic.Tactic
open Cert.KernelIdeal Cert.KernelIdeal.Gen
open scoped BigOperators

namespace K01

variable (arg3 : Memref sig .tc .vmem S128x512 .bf16) (harg3 : arg3.IsWhole) (arg4 : Memref sig .tc .vmem S128x512 .i32) (harg4 : arg4.IsWhole)
  (arg13 : Memref sig .tc .vmem S1184x128 .f32) (harg13 : arg13.IsWhole)
  (arg14 : Memref sig .tc .vmem S8x128 .f32) (harg14 : arg14.IsWhole)
  (arg15 : Memref sig .tc .vmem S288x2x128 .bf16) (arg16 : Memref sig .tc .vmem S544x128 .i32)
  (arg17 : Memref sig .tc .vmem S288x2x128 .bf16)
  (x2 : Vec Ideal S128x512 .bf16) (x3 : Vec Ideal S128x512 .i32) (g : EReal)

/-- A block of scales at an index. -/
theorem at2_sclP (r m : ℕ) (hr : r < 32) (hm : m < 128) :
    at2 (a := 32) (b := 128) (sclP arg3 harg3 arg15 x2 g) r m = Sf x2 g m r := by
  have key : ∀ c : Fin 4, r / 8 = c.val → at2 (a := 32) (b := 128) (sclP arg3 harg3 arg15 x2 g) r m
      = at2 (a := 8) (b := 128) (scV arg3 harg3 arg15 x2 g c) (r % 8) m := by
    intro c hc
    unfold at2 sclP
    refine concatenate_apply_piece (t := S32x128) 0 _ _ _ c.val ?_ S8x128 (scV arg3 harg3 arg15 x2 g c) ?_ rfl (8 * c.val) ?_ _ ?_ ?_
    · exact c.isLt
    · match c with
      | 0 => rfl
      | 1 => rfl
      | 2 => rfl
      | 3 => rfl
    · match c with
      | 0 => rfl
      | 1 => rfl
      | 2 => rfl
      | 3 => rfl
    · intro b hb
      match b with
      | ⟨0, _⟩ => exact absurd rfl hb
      | ⟨1, _⟩ => rfl
    · show 8 * c.val + r % 8 % 8 = r % 32; omega
  rw [key ⟨r / 8, by omega⟩ rfl, at2_scV _ _ _ _ _ _ _ _ (by omega) hm]
  congr 1
  show 8 * (r / 8) + r % 8 = r
  omega

theorem fd32 : ∀ r : Fin 1184, fdW (BitVec.ofNat 32 r.val) 32#32 = BitVec.ofNat 32 (r.val / 32) := by decide +kernel

theorem at2_rep (v : FVec Ideal S32x128 .f32)
    (h : Shape.Concatenates ((List.replicate 37 (⟨S32x128, v⟩ : (s : Shape) × (s.Idx → EReal))).map (·.1)) S1184x128 0) (r m : ℕ) (hr : r < 1184) (hm : m < 128) :
    at2 (a := 1184) (b := 128) (concatenate S1184x128 0 (List.replicate 37 (⟨S32x128, v⟩ : (s : Shape) × (s.Idx → EReal))) h) r m
      = at2 (a := 32) (b := 128) v (r % 32) m := by
  unfold at2
  refine concatenate_replicate_apply (t := S1184x128) (s₁ := S32x128) 0 37 v h rfl (ix2 (a := 1184) (b := 128) r m) _ ?_ ?_
  · show r % 32 % 32 = r % 1184 % 32; omega
  · intro b hb
    match b with
    | ⟨0, _⟩ => exact absurd rfl hb
    | ⟨1, _⟩ => rfl

/-- The scale buffer after a point, at an index. -/
theorem at2_stP (n : ℕ) (hn : n < 37) (old : FVec Ideal S1184x128 .f32) (r m : ℕ) (hr : r < 1184) (hm : m < 128) :
    at2 (a := 1184) (b := 128) (stP arg3 harg3 arg15 x2 g (BitVec.ofNat 32 n) old) r m
      = if r / 32 = n then Sf x2 g m (r % 32) else at2 (a := 1184) (b := 128) old r m := by
  unfold stP k0_pay672
  refine (congrArg (fun v : FVec Ideal S1184x128 .f32 => at2 (a := 1184) (b := 128) v r m) (shapeCast_self (s := S1184x128) _ shapeCasts_S1184x128_S1184x128)).trans ?_
  have e : ∀ (v w : FVec Ideal S1184x128 .f32), at2 (a := 1184) (b := 128) (select (cmpi .eq (select (andi (cmpi .ne (subi (extui 32 (cmpi .sgt (iota .tc S1184x128 32 [0] iota_S1184x128_d0_w32) (broadcast S1184x128 0#32)) natLt_1_32) (extui 32 (cmpi .slt (iota .tc S1184x128 32 [0] iota_S1184x128_d0_w32) (broadcast S1184x128 0#32)) natLt_1_32)) (broadcast S1184x128 (Scalar.subi (Scalar.extui (Scalar.cmpi .sgt 32#32 0#32)) (Scalar.extui (Scalar.cmpi .slt 32#32 0#32))))) (cmpi .ne (remsi (iota .tc S1184x128 32 [0] iota_S1184x128_d0_w32) (broadcast S1184x128 32#32)) (broadcast S1184x128 0#32))) (subi k0_pay671 (broadcast S1184x128 1#32)) k0_pay671) (broadcast S1184x128 (BitVec.ofNat 32 n))) v w) r m
      = Scalar.select (IntOp.cmpi .eq (fdW (BitVec.ofNat 32 (ix2 (a := 1184) (b := 128) r m 0).val) 32#32) (BitVec.ofNat 32 n)) (at2 (a := 1184) (b := 128) v r m) (at2 (a := 1184) (b := 128) w r m) := by
    intro v w
    rw [← iota_single_apply .tc S1184x128 32 0 iota_S1184x128_d0_w32 (ix2 (a := 1184) (b := 128) r m)]
    rfl
  refine (e _ _).trans ?_
  rw [show (ix2 (a := 1184) (b := 128) r m 0).val = r from Nat.mod_eq_of_lt hr, fd32 ⟨r, hr⟩]
  by_cases h : r / 32 = n
  · rw [if_pos h, show BitVec.ofNat 32 ((⟨r, hr⟩ : Fin 1184).val / 32) = BitVec.ofNat 32 n from congrArg _ h, cmpi_eq_self]
    refine (at2_rep (sclP arg3 harg3 arg15 x2 g) concatenates_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S32x128_S1184x128_d0 r m hr hm).trans (at2_sclP _ _ _ _ _ _ _ (by omega) hm)
  · rw [if_neg h, cmpi_eq_ne]
    · rfl
    · intro h'
      have := congrArg BitVec.toNat h'
      rw [BitVec.toNat_ofNat, BitVec.toNat_ofNat, Nat.mod_eq_of_lt (by show r / 32 < _; omega), Nat.mod_eq_of_lt (by omega)] at this
      exact h this

theorem stR_idx (y : S1184x128.Idx) (z : stR.toLoadRect.shape.Idx) (h0 : (z 0).val = (y 0).val) (h1 : (z 1).val = (y 1).val) :
    stR.toLoadRect.idx z = y := by
  funext a
  match a with
  | ⟨0, _⟩ => exact Fin.ext (show 0 + 1 * (z 0).val = (y 0).val by omega)
  | ⟨1, _⟩ => exact Fin.ext (show 0 + 1 * (z 1).val = (y 1).val by omega)

theorem stR_read (xs : Vec Ideal S1184x128 .f32) :
    View.readAt (Elt Ideal) arg13.view stR.toLoadRect (harg13.unread xs) = xs := by
  rw [View.readAt_eq_ld, Memref.IsWhole.read_unread]
  funext z
  exact congrArg xs (stR_idx z z rfl rfl)

theorem mxR_read (xs : Vec Ideal S8x128 .f32) :
    View.readAt (Elt Ideal) arg14.view mxR.toLoadRect (harg14.unread xs) = xs := by
  rw [View.readAt_eq_ld, Memref.IsWhole.read_unread]
  funext z
  refine congrArg xs ?_
  funext a
  match a with
  | ⟨0, _⟩ => exact Fin.ext (show 0 + 1 * (z 0).val = (z 0).val by omega)
  | ⟨1, _⟩ => exact Fin.ext (show 0 + 1 * (z 1).val = (z 1).val by omega)

/-- The scale buffer after a point that is not the first. -/
theorem canon_stB (n : ℕ) (hn : n < 37) (xs : Vec Ideal S1184x128 .f32) (r m : ℕ) (hr : r < 1184) (hm : m < 128) :
    at2 (a := 1184) (b := 128) (View.canon (stB arg3 harg3 arg13 harg13 arg15 x2 g (BitVec.ofNat 32 n) xs)) r m
      = if r / 32 = n then Sf x2 g m (r % 32) else at2 (a := 1184) (b := 128) xs r m := by
  unfold stB
  rw [View.canon_unit_zero zero2, stR_read]
  exact at2_stP arg3 harg3 arg15 x2 g n hn xs r m hr hm

/-- The scale buffer after the first point, where that point wrote. -/
theorem canon_stA (r m : ℕ) (hr : r < 1184) (hm : m < 128) (h0 : r / 32 = 0) :
    at2 (a := 1184) (b := 128) (View.canon (stA arg3 harg3 arg13 arg15 x2 g (BitVec.ofNat 32 0))) r m = Sf x2 g m (r % 32) := by
  unfold stA
  rw [View.canon_cons_unit_zero zero2]
  exact (at2_stP arg3 harg3 arg15 x2 g 0 (by omega) _ r m hr hm).trans (if_pos h0)

/-- The largest magnitudes of the blocks `k`, `8 + k`, `16 + k`, `24 + k` of row `m`, and `o`. -/
def Mx (o : EReal) (k m : ℕ) : EReal :=
  max (max (max (max o (Af x2 m (8 * 0 + k))) (Af x2 m (8 * 1 + k))) (Af x2 m (8 * 2 + k))) (Af x2 m (8 * 3 + k))

theorem at2_mxP (c : Fin 4) (old : FVec Ideal S8x128 .f32) (k m : ℕ) (hk : k < 8) (hm : m < 128) :
    at2 (a := 8) (b := 128) (mxP arg3 harg3 arg15 x2 c old) k m = max (at2 (a := 8) (b := 128) old k m) (Af x2 m (8 * c.val + k)) := by
  unfold mxP
  rw [shapeCast_self]
  show max (at2 (a := 8) (b := 128) old k m) (at2 (a := 8) (b := 128) (amV arg3 harg3 arg15 x2 c) k m) = _
  rw [at2_amV _ _ _ _ _ _ _ hk hm]

theorem canon_mx4 (old : FVec Ideal S8x128 .f32) (L : List (View.Piece (Elt Ideal) S8x128 .f32)) (k m : ℕ) (hk : k < 8) (hm : m < 128) :
    at2 (a := 8) (b := 128) (View.canon (mx4 arg3 harg3 arg14 arg15 x2 old L)) k m = Mx x2 (at2 (a := 8) (b := 128) old k m) k m := by
  unfold mx4
  rw [View.canon_cons_unit_zero zero2]
  refine (at2_mxP arg3 harg3 arg15 x2 3 _ k m hk hm).trans (congrArg (max · _) ?_)
  unfold mx3
  rw [View.readCov_cons_toLoadRect]
  refine (at2_mxP arg3 harg3 arg15 x2 2 _ k m hk hm).trans (congrArg (max · _) ?_)
  unfold mx2
  rw [View.readCov_cons_toLoadRect]
  refine (at2_mxP arg3 harg3 arg15 x2 1 _ k m hk hm).trans (congrArg (max · _) ?_)
  unfold mx1
  rw [View.readCov_cons_toLoadRect]
  exact at2_mxP arg3 harg3 arg15 x2 0 _ k m hk hm

/-- The largest magnitudes after a point that is not the first. -/
theorem canon_mxB (xs : Vec Ideal S8x128 .f32) (k m : ℕ) (hk : k < 8) (hm : m < 128) :
    at2 (a := 8) (b := 128) (View.canon (mxB arg3 harg3 arg14 harg14 arg15 x2 xs)) k m = Mx x2 (at2 (a := 8) (b := 128) xs k m) k m := by
  unfold mxB
  rw [mxR_read]
  exact canon_mx4 arg3 harg3 arg14 arg15 x2 xs [] k m hk hm

/-- The largest magnitudes after the first point. -/
theorem canon_mxA (k m : ℕ) (hk : k < 8) (hm : m < 128) :
    at2 (a := 8) (b := 128) (View.canon (mxA arg3 harg3 arg14 arg15 x2)) k m = Mx x2 0 k m := by
  unfold mxA
  rw [canon_mx4 _ _ _ _ _ _ _ _ _ hk hm]
  congr 1
  unfold mxZ
  rw [View.readCov_cons_toLoadRect]
  unfold k0_pay23
  refine (congrArg (fun v : FVec Ideal S8x128 .f32 => at2 (a := 8) (b := 128) v k m) (shapeCast_self (s := S8x128) _ shapeCasts_S8x128_S8x128)).trans ?_
  exact c_zero

/-- The codes of a block: column `i` packs the codes of elements `2 i` and `2 i + 1`. -/
def Cf (m i : ℕ) : BitVec 8 :=
  (IntOp.ori (kcode (Qf x2 x3 g m (2 * i))) (IntOp.shli .vector (kcode (Qf x2 x3 g m (2 * i + 1))) 4#32)).setWidth 8

theorem code_emb (c : Fin 4) (o : ℕ) (ho : o = 64 * c.val) (inb) (x : (Rect.unit (s := S128x256) ![0, o] S128x64.size inb).shape.Idx) :
    codeV (qC arg3 harg3 arg4 harg4 arg15 arg16 arg17 x2 x3 g c) x
      = (fun y : S128x256.Idx => Cf x2 x3 g (y 0).val (y 1).val) ((Rect.unit (s := S128x256) ![0, o] S128x64.size inb).emb x) := by
  have hc := c.isLt
  have h0 : (x 0).val < 128 := (x 0).isLt
  have h1 : (x 1).val < 64 := (x 1).isLt
  have h := at2_codeV (qC arg3 harg3 arg4 harg4 arg15 arg16 arg17 x2 x3 g c) (x 0).val (x 1).val h1
  rw [← at2_self (a := 128) (b := 64) (codeV (qC arg3 harg3 arg4 harg4 arg15 arg16 arg17 x2 x3 g c)) x, at2_qC _ _ _ _ _ _ _ _ _ _ _ _ _ (by omega) h0,
    at2_qC _ _ _ _ _ _ _ _ _ _ _ _ _ (by omega) h0] at h
  refine h.trans ?_
  show _ = Cf x2 x3 g (0 + 1 * (x 0).val) (o + 1 * (x 1).val)
  unfold Cf
  rw [show 0 + 1 * (x 0).val = (x 0).val by omega, show 2 * (o + 1 * (x 1).val) = 128 * c.val + 2 * (x 1).val by omega, Nat.add_assoc]

/-- The codes the stores leave. -/
theorem canon_codeL (y : S128x256.Idx) :
    View.canon (codeL fun c => qC arg3 harg3 arg4 harg4 arg15 arg16 arg17 x2 x3 g c) y = Cf x2 x3 g (y 0).val (y 1).val := by
  have h0 : (y 0).val < 128 := (y 0).isLt
  have h1 : (y 1).val < 256 := (y 1).isLt
  have hp : View.PiecesOf (fun y : S128x256.Idx => Cf x2 x3 g (y 0).val (y 1).val)
      (codeL fun c => qC arg3 harg3 arg4 harg4 arg15 arg16 arg17 x2 x3 g c) := by
    unfold codeL
    exact ⟨code_emb arg3 harg3 arg4 harg4 arg15 arg16 arg17 x2 x3 g 3 192 rfl inb_S128x256_S128x64_0_192, code_emb arg3 harg3 arg4 harg4 arg15 arg16 arg17 x2 x3 g 2 128 rfl inb_S128x256_S128x64_0_128,
      code_emb arg3 harg3 arg4 harg4 arg15 arg16 arg17 x2 x3 g 1 64 rfl inb_S128x256_S128x64_0_64, code_emb arg3 harg3 arg4 harg4 arg15 arg16 arg17 x2 x3 g 0 0 rfl inb_S128x256_S128x64_0_0, trivial⟩
  have cov : ∀ o inb, o ≤ (y 1).val → (y 1).val < o + 64 → y ∈ (Rect.unit (s := S128x256) ![0, o] S128x64.size inb).set := by
    intro o inb ha hb
    refine (LoadRect.mem_set _).mpr fun a => ?_
    match a with
    | ⟨0, _⟩ => exact ⟨(y 0).val, h0, show (y 0).val = 0 + 1 * (y 0).val by omega⟩
    | ⟨1, _⟩ => exact ⟨(y 1).val - o, show (y 1).val - o < 64 by omega, show (y 1).val = o + 1 * ((y 1).val - o) by omega⟩
  refine View.canon_apply_of_pieces (e := .i8) (fun y : S128x256.Idx => Cf x2 x3 g (y 0).val (y 1).val) (codeL fun c => qC arg3 harg3 arg4 harg4 arg15 arg16 arg17 x2 x3 g c) hp.mem y ?_
  unfold codeL
  by_cases c3 : 192 ≤ (y 1).val
  · exact ⟨_, .head _, cov 192 inb_S128x256_S128x64_0_192 c3 (by omega)⟩
  by_cases c2 : 128 ≤ (y 1).val
  · exact ⟨_, .tail _ (.head _), cov 128 inb_S128x256_S128x64_0_128 c2 (by omega)⟩
  by_cases c1 : 64 ≤ (y 1).val
  · exact ⟨_, .tail _ (.tail _ (.head _)), cov 64 inb_S128x256_S128x64_0_64 c1 (by omega)⟩
  · exact ⟨_, .tail _ (.tail _ (.tail _ (.head _))), cov 0 inb_S128x256_S128x64_0_0 (by omega) (by omega)⟩

/-- The scales written out: the scale buffer transposed. -/
theorem at2_pay3 (v : FVec Ideal S1184x128 .f32) (m r : ℕ) (hm : m < 128) (hr : r < 1184) :
    at2 (a := 128) (b := 1184) (k0_pay3 v : FVec Ideal S128x1184 .fp8e4m3) m r = at2 (a := 1184) (b := 128) v r m := by
  have e : at2 (a := 128) (b := 1184) (k0_pay3 v : FVec Ideal S128x1184 .fp8e4m3) m r
    = at2 (a := 128) (b := 1184) (transpose S128x1184 [1, 0] v transposes_S1184x128_p1_0_S128x1184) m r := rfl
  rw [e, at2_transpose]

/-- A left fold by the maximum is below a bound exactly when its start and its terms are. -/
theorem foldl_max_le {ι : Type} (l : List ι) (x : ι → EReal) (o b : EReal) :
    l.foldl (fun r i => max r (x i)) o ≤ b ↔ o ≤ b ∧ ∀ i ∈ l, x i ≤ b := by
  induction l generalizing o with
  | nil => simp
  | cons a l ih => simp [ih, and_assoc]

/-- A reduction by the maximum into a shape of one element is below a bound exactly when every element is. -/
theorem reduceMax_le {s t : Shape} {axes : List (Fin s.rank)} (v : FVec Ideal s .f32) (h : s.Reduces axes t) (h1) (h2) (ht : ∀ b, t.size b = 1)
    (j : t.Idx) (b : EReal) :
    (multiReduction .maximumf axes t v 0xFF800000#32 h h1 h2 : FVec Ideal t .f32) j ≤ b ↔ ∀ i, v i ≤ b := by
  rw [multiReduction_maximumf_eq_reduceFold, reduceFold_eq_foldl_of_size_one _ ht]
  refine (foldl_max_le _ v _ b).trans ?_
  have hb : (FloatOps.ofBits .f32 0xFF800000#32 : Ideal .f32) = (⊥ : EReal) := by
    show c32 0xFF800000#32 = ⊥; simp [c32, Ideal.ofBits, Ideal.ieee]
  rw [hb]
  constructor
  · intro hh i
    refine hh.2 i (List.mem_map.mpr ⟨s.rowMajor i, List.mem_finRange _, ?_⟩)
    exact Equiv.symm_apply_apply _ _
  · intro hh
    exact ⟨bot_le, fun i _ => hh i⟩

/-- The largest magnitude written out is below a bound exactly when all the kept ones are. -/
theorem pay4_le (v : FVec Ideal S8x128 .f32) (b : EReal) :
    (k0_pay4 v : Ideal .f32) ≤ b ↔ ∀ k m, k < 8 → m < 128 → at2 (a := 8) (b := 128) v k m ≤ b := by
  unfold k0_pay4
  refine (reduceMax_le (shapeCast S1x8x128 v shapeCasts_S8x128_S1x8x128) reduces_S1x8x128_S1 (.inl rfl) rfl (by intro b; match b with | ⟨0, _⟩ => rfl) _ b).trans ?_
  have e : ∀ i : S1x8x128.Idx, shapeCast S1x8x128 v shapeCasts_S8x128_S1x8x128 i = at2 (a := 8) (b := 128) v (i 1).val (i 2).val := by
    intro i
    have h0 : (i 0).val = 0 := Nat.lt_one_iff.mp (i 0).isLt
    have h1 : (i 1).val < 8 := (i 1).isLt
    have h2 : (i 2).val < 128 := (i 2).isLt
    exact shapeCast_apply _ _ _ (ix2 (a := 8) (b := 128) (i 1).val (i 2).val) (by
      rw [Shape.rowMajor_val_three, Shape.rowMajor_val_two]
      show (i 1).val % 8 * 128 + (i 2).val % 128 = ((i 0).val * 8 + (i 1).val) * 128 + (i 2).val
      omega)
  constructor
  · intro h k m hk hm
    have := h (ix3 (a := 1) (b := 8) (c := 128) 0 k m)
    rw [e] at this
    rwa [show ((ix3 (a := 1) (b := 8) (c := 128) 0 k m) 1).val = k from Nat.mod_eq_of_lt hk,
      show ((ix3 (a := 1) (b := 8) (c := 128) 0 k m) 2).val = m from Nat.mod_eq_of_lt hm] at this
  · intro h i
    rw [e]
    exact h _ _ (i 1).isLt (i 2).isLt

end K01
-- ==== Proof.Block.lean ====
/-
  A block's product in terms of the blocks the point reads.
-/
module

public import proofs.«01_k».proof.Proof.Scr

@[expose] public section

set_option maxRecDepth 65536

noncomputable section

open Idealize.ShloMosaic Idealize.ShloMosaic.TcCoe Idealize.ShloMosaic.Tactic
open Cert.KernelIdeal Cert.KernelIdeal.Gen
open scoped BigOperators

namespace K01

variable (arg12 : Memref sig .tc .vmem S128x512 .bf16)
  (arg3 : Memref sig .tc .vmem S128x512 .bf16) (harg3 : arg3.IsWhole) (arg4 : Memref sig .tc .vmem S128x512 .i32) (harg4 : arg4.IsWhole)
  (arg15 : Memref sig .tc .vmem S288x2x128 .bf16) (arg16 : Memref sig .tc .vmem S544x128 .i32)
  (arg17 : Memref sig .tc .vmem S288x2x128 .bf16) (arg18 : Memref sig .tc .vmem S32x2x128 .bf16)
  (x0 : Vec Ideal S1x1 .f32) (x2 : Vec Ideal S128x512 .bf16) (x3 : Vec Ideal S128x512 .i32)
  (x4 : Vec Ideal S512x1792 .i8) (x5 : Vec Ideal S32x224 .fp8e4m3) (g : EReal)

theorem stR_cov (arg13 : Memref sig .tc .vmem S1184x128 .f32) (L : List (View.Piece (Elt Ideal) S1184x128 .f32)) (r m : ℕ) :
    at2 (a := 1184) (b := 128) (arg13.view.readCov L stR.toLoadRect) r m = at2 (a := 1184) (b := 128) (View.canon L) r m := by
  rw [View.readCov_eq_canon']
  exact congrArg (View.canon L) (stR_idx (ix2 (a := 1184) (b := 128) r m) (ix2 (a := 1184) (b := 128) r m) rfl rfl)

theorem mxR_cov (arg14 : Memref sig .tc .vmem S8x128 .f32) (L : List (View.Piece (Elt Ideal) S8x128 .f32)) (k m : ℕ) :
    at2 (a := 8) (b := 128) (arg14.view.readCov L mxR.toLoadRect) k m = at2 (a := 8) (b := 128) (View.canon L) k m := by
  rw [View.readCov_eq_canon']
  refine congrArg (View.canon L) ?_
  funext a
  match a with
  | ⟨0, _⟩ => exact Fin.ext (show 0 + 1 * (k % 8) = k % 8 by omega)
  | ⟨1, _⟩ => exact Fin.ext (show 0 + 1 * (m % 128) = m % 128 by omega)

/-- The one element of a scalar operand. -/
def g0 : EReal := at2 (a := 1) (b := 1) x0 0 0

/-- The product of the dequantised block's row `m` with the dequantised weights' column of accumulator column `y`. -/
def Db (m y : ℕ) : EReal := ∑ k : Fin 512, Qf x2 x3 g m k.val * Sf x2 g m (k.val / 16) * Wf x4 x5 k.val (pn y)

theorem Dl_ldL (m y : ℕ) (hm : m < 128) :
    Dl x4 x5 (ldL arg12 arg3 harg3 arg4 harg4 arg15 arg16 arg17 arg18 x2 x3 g) m y = Db x2 x3 x4 x5 g m y := by
  unfold Dl Db ldL
  refine Finset.sum_congr rfl fun k _ => congrArg (· * _) ?_
  exact at2_lhs arg3 harg3 arg4 harg4 arg15 arg16 arg17 arg18 x2 x3 g arg12.view m k.val hm k.isLt _

end K01
-- ==== Proof.Whole.lean ====
/-
  The whole arrays' quantised elements, scales, codes, weights and products, and what a block of them is.
-/
module

public import proofs.«01_k».proof.Proof.Block

@[expose] public section

set_option maxRecDepth 65536

noncomputable section

open Idealize.ShloMosaic Idealize.ShloMosaic.TcCoe Idealize.ShloMosaic.Tactic
open Cert.KernelIdeal Cert.KernelIdeal.Gen
open scoped BigOperators

namespace K01

variable (X : (⟨2, ![128, 18944]⟩ : Shape).Idx → EReal) (R : (⟨2, ![128, 18944]⟩ : Shape).Idx → BitVec 32)
  (B : (⟨2, ![18944, 1792]⟩ : Shape).Idx → BitVec 8) (T : (⟨2, ![1184, 224]⟩ : Shape).Idx → EReal) (g : EReal)

/-- The largest magnitude of block `b` of row `m`. -/
def GA (m b : ℕ) : EReal := (Finset.range 16).sup fun p => mag (at2 X m (16 * b + p))
/-- The scale of block `b` of row `m`. -/
def GS (m b : ℕ) : EReal := scaleOf g (GA X m b)
/-- The quantised element at row `m`, column `n`. -/
def GQ (m n : ℕ) : EReal := kq (at2 X m n) (kinv g (GS X g m (n / 16))) (at2 R m n)
/-- The weight at row `k`, column `n`. -/
def GW (k n : ℕ) : EReal := (dec16 (nib (at2 B k (n / 2)) (n % 2)) : EReal) * at2 T (k / 16) (n / 16)
/-- The byte of two codes at row `m`, column `i`. -/
def GC (m i : ℕ) : BitVec 8 :=
  (IntOp.ori (kcode (GQ X R g m (2 * i))) (IntOp.shli .vector (kcode (GQ X R g m (2 * i + 1))) 4#32)).setWidth 8
/-- The product of row `m` with column `n` over the rows `512 s` to `512 s + 511` of the weights. -/
def GD (s m n : ℕ) : EReal :=
  ∑ k : Fin 512, GQ X R g m (512 * s + k.val) * GS X g m ((512 * s + k.val) / 16) * GW B T (512 * s + k.val) n

theorem mag_nonneg (x : EReal) : 0 ≤ mag x := by
  unfold mag
  rcases le_total 0 x with h | h
  · exact le_max_of_le_left h
  · exact le_max_of_le_right (by simpa using EReal.neg_le_neg_iff.2 h)

theorem GA_nonneg (m b : ℕ) : 0 ≤ GA X m b :=
  (mag_nonneg _).trans (Finset.le_sup (f := fun p => mag (at2 X m (16 * b + p))) (Finset.mem_range.2 (by omega : 0 < 16)))

section block

variable {X R B T} {s : ℕ} {x2 : Vec Ideal S128x512 .bf16} {x3 : Vec Ideal S128x512 .i32} {x4 : Vec Ideal S512x1792 .i8}
  {x5 : Vec Ideal S32x224 .fp8e4m3}
  (hX : ∀ m n, m < 128 → n < 512 → at2 (a := 128) (b := 512) x2 m n = at2 X m (512 * s + n))
  (hR : ∀ m n, m < 128 → n < 512 → at2 (a := 128) (b := 512) x3 m n = at2 R m (512 * s + n))
  (hB : ∀ k n, k < 512 → n < 1792 → at2 (a := 512) (b := 1792) x4 k n = at2 B (512 * s + k) n)
  (hT : ∀ k n, k < 32 → n < 224 → at2 (a := 32) (b := 224) x5 k n = at2 T (32 * s + k) n)
include hX

theorem Af_blk (m b : ℕ) (hm : m < 128) (hb : b < 32) : Af x2 m b = GA X m (32 * s + b) := by
  unfold Af GA
  refine Finset.sup_congr rfl fun p hp => congrArg mag ?_
  have := Finset.mem_range.1 hp
  unfold Xf
  rw [hX m _ hm (by omega)]
  exact congrArg (at2 X m) (by omega)

theorem Sf_blk (m b : ℕ) (hm : m < 128) (hb : b < 32) : Sf x2 g m b = GS X g m (32 * s + b) := by
  unfold Sf GS
  rw [Af_blk hX m b hm hb]

include hR
theorem Qf_blk (m n : ℕ) (hm : m < 128) (hn : n < 512) : Qf x2 x3 g m n = GQ X R g m (512 * s + n) := by
  unfold Qf GQ Xf Rf
  rw [Sf_blk g hX m _ hm (by omega), hX m n hm hn, hR m n hm hn]
  rw [show 32 * s + n / 16 = (512 * s + n) / 16 by omega]

theorem Cf_blk (m i : ℕ) (hm : m < 128) (hi : i < 256) : Cf x2 x3 g m i = GC X R g m (256 * s + i) := by
  unfold Cf GC
  rw [Qf_blk g hX hR m _ hm (by omega), Qf_blk g hX hR m _ hm (by omega)]
  rw [show 512 * s + 2 * i = 2 * (256 * s + i) by omega, show 512 * s + (2 * i + 1) = 2 * (256 * s + i) + 1 by omega]

omit hX hR
include hB hT
theorem Wf_blk (k n : ℕ) (hk : k < 512) (hn : n < 3584) : Wf x4 x5 k n = GW B T (512 * s + k) n := by
  unfold Wf GW Bf Wsf
  rw [hB k _ hk (by omega), hT _ _ (by omega) (by omega)]
  rw [show 32 * s + k / 16 = (512 * s + k) / 16 by omega]

include hX hR
theorem Db_blk (m y : ℕ) (hm : m < 128) (hy : pn y < 3584) : Db x2 x3 x4 x5 g m y = GD X R B T g s m (pn y) := by
  unfold Db GD
  refine Finset.sum_congr rfl fun k _ => ?_
  have := k.isLt
  rw [Qf_blk g hX hR m _ hm this, Sf_blk g hX m _ hm (by omega), Wf_blk hB hT _ _ this hy]
  rw [show 32 * s + k.val / 16 = (512 * s + k.val) / 16 by omega]

end block

theorem Mx_le (x2 : Vec Ideal S128x512 .bf16) (o b : EReal) (k m : ℕ) :
    Mx x2 o k m ≤ b ↔ o ≤ b ∧ ∀ c, c < 4 → Af x2 m (8 * c + k) ≤ b := by
  unfold Mx
  simp only [max_le_iff]
  constructor
  · rintro ⟨⟨⟨⟨ho, h0⟩, h1⟩, h2⟩, h3⟩
    refine ⟨ho, fun c hc => ?_⟩
    match c, hc with
    | 0, _ => exact h0
    | 1, _ => exact h1
    | 2, _ => exact h2
    | 3, _ => exact h3
  · rintro ⟨ho, h⟩
    exact ⟨⟨⟨⟨ho, h 0 (by omega)⟩, h 1 (by omega)⟩, h 2 (by omega)⟩, h 3 (by omega)⟩

end K01
-- ==== Proof.Inputs.lean ====
/-
  The blocks a grid point reads, as parts of the whole arrays.
-/
module

public import proofs.«01_k».proof.Proof.Whole
public import proofs.«01_k».proof.Proof.Gen.KernelIdeal.Value

@[expose] public section

set_option maxRecDepth 65536

noncomputable section

open Idealize.ShloMosaic Idealize.ShloMosaic.TcCoe Idealize.ShloMosaic.Tactic
open Cert.KernelIdeal Cert.KernelIdeal.Gen
open scoped BigOperators

namespace K01

variable (m : (ℓ : Loc nD τ sig) → Buf (Elt Ideal) ℓ) (c : Dev nD)

/-- The gradients. -/
def aX : (⟨2, ![128, 18944]⟩ : Shape).Idx → EReal := V (F := Ideal) m c main_v2
/-- The random words. -/
def aR : (⟨2, ![128, 18944]⟩ : Shape).Idx → BitVec 32 := V (F := Ideal) m c main_v3
/-- The packed weights. -/
def aB : (⟨2, ![18944, 1792]⟩ : Shape).Idx → BitVec 8 := V (F := Ideal) m c main_arg3
/-- The weights' scales. -/
def aT : (⟨2, ![1184, 224]⟩ : Shape).Idx → EReal := V (F := Ideal) m c main_arg4
/-- The gradients' scale. -/
def ag : EReal := at2 (a := 1) (b := 1) (V (F := Ideal) m c main_v0 : (⟨2, ![1, 1]⟩ : Shape).Idx → EReal) 0 0
/-- The weights' own scale. -/
def aw : EReal := at2 (a := 1) (b := 1) (V (F := Ideal) m c main_v1 : (⟨2, ![1, 1]⟩ : Shape).Idx → EReal) 0 0

theorem idx0 : ∀ t : Fin grid0.N, win0_0.index t 0 = 0 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx7 : ∀ t : Fin grid0.N, win0_7.index t 0 = 0 ∧ win0_7.index t 1 = t.val := by decide +kernel
theorem coord0 : ∀ t : Fin grid0.N, (grid0.coords t 0).val = t.val := by decide +kernel

variable (t : Fin cfg0.N)

theorem tlt : t.val < 37 := lt_of_lt_of_eq t.isLt (show cfg0.N = 37 from N_0)

theorem iblk0 : g0 (iblk (F := Ideal) m c 0 t) = ag m c := by
  unfold g0 ag
  change iblk (F := Ideal) m c 0 t (ix2 (a := 1) (b := 1) 0 0) = _
  unfold iblk
  rw [View.read_apply]
  refine at2_of (a := 1) (b := 1) (V (F := Ideal) m c main_v0 : (⟨2, ![1, 1]⟩ : Shape).Idx → EReal) _ _ _ ?_ ?_
  · change win0_0.index t 0 * 1 + 1 * 0 = _; rw [(idx0 t).1]
  · change win0_0.index t 1 * 1 + 1 * 0 = _; rw [(idx0 t).2]

theorem iblk1 : g0 (iblk (F := Ideal) m c 1 t) = aw m c := by
  unfold g0 aw
  change iblk (F := Ideal) m c 1 t (ix2 (a := 1) (b := 1) 0 0) = _
  unfold iblk
  rw [View.read_apply]
  refine at2_of (a := 1) (b := 1) (V (F := Ideal) m c main_v1 : (⟨2, ![1, 1]⟩ : Shape).Idx → EReal) _ _ _ ?_ ?_
  · change win0_1.index t 0 * 1 + 1 * 0 = _; rw [(idx1 t).1]
  · change win0_1.index t 1 * 1 + 1 * 0 = _; rw [(idx1 t).2]

theorem iblk2 (r n : ℕ) (hr : r < 128) (hn : n < 512) :
    at2 (a := 128) (b := 512) (iblk (F := Ideal) m c 2 t : Vec Ideal S128x512 .bf16) r n = at2 (aX m c) r (512 * t.val + n) := by
  have := tlt t
  change iblk (F := Ideal) m c 2 t (ix2 (a := 128) (b := 512) r n) = _
  unfold iblk
  rw [View.read_apply]
  refine at2_of (aX m c) _ _ _ ?_ ?_
  · change win0_2.index t 0 * 128 + 1 * (r % 128) = _; rw [(idx2 t).1]; omega
  · change win0_2.index t 1 * 512 + 1 * (n % 512) = _; rw [(idx2 t).2]; omega

theorem iblk3 (r n : ℕ) (hr : r < 128) (hn : n < 512) :
    at2 (a := 128) (b := 512) (iblk (F := Ideal) m c 3 t : Vec Ideal S128x512 .i32) r n = at2 (aR m c) r (512 * t.val + n) := by
  have := tlt t
  change iblk (F := Ideal) m c 3 t (ix2 (a := 128) (b := 512) r n) = _
  unfold iblk
  rw [View.read_apply]
  refine at2_of (aR m c) _ _ _ ?_ ?_
  · change win0_3.index t 0 * 128 + 1 * (r % 128) = _; rw [(idx3 t).1]; omega
  · change win0_3.index t 1 * 512 + 1 * (n % 512) = _; rw [(idx3 t).2]; omega

theorem iblk4 (k n : ℕ) (hk : k < 512) (hn : n < 1792) :
    at2 (a := 512) (b := 1792) (iblk (F := Ideal) m c 4 t : Vec Ideal S512x1792 .i8) k n = at2 (aB m c) (512 * t.val + k) n := by
  have := tlt t
  change iblk (F := Ideal) m c 4 t (ix2 (a := 512) (b := 1792) k n) = _
  unfold iblk
  rw [View.read_apply]
  refine at2_of (aB m c) _ _ _ ?_ ?_
  · change win0_4.index t 0 * 512 + 1 * (k % 512) = _; rw [(idx4 t).1]; omega
  · change win0_4.index t 1 * 1792 + 1 * (n % 1792) = _; rw [(idx4 t).2]; omega

theorem iblk5 (k n : ℕ) (hk : k < 32) (hn : n < 224) :
    at2 (a := 32) (b := 224) (iblk (F := Ideal) m c 5 t : Vec Ideal S32x224 .fp8e4m3) k n = at2 (aT m c) (32 * t.val + k) n := by
  have := tlt t
  change iblk (F := Ideal) m c 5 t (ix2 (a := 32) (b := 224) k n) = _
  unfold iblk
  rw [View.read_apply]
  refine at2_of (aT m c) _ _ _ ?_ ?_
  · change win0_5.index t 0 * 32 + 1 * (k % 32) = _; rw [(idx5 t).1]; omega
  · change win0_5.index t 1 * 224 + 1 * (n % 224) = _; rw [(idx5 t).2]; omega

/-- The host operations only reshape: the gradients. -/
theorem aX_eq : aX m c = shapeCast (s := S1x128x18944) (α := EReal) S128x18944 (m ((c : Thread nD τ).loc main_arg0)) shapeCasts_S1x128x18944_S128x18944 := rfl
theorem aR_eq : aR m c = shapeCast (s := S1x128x18944) (α := BitVec 32) S128x18944 (m ((c : Thread nD τ).loc main_arg2)) shapeCasts_S1x128x18944_S128x18944 := rfl
theorem ag_eq : ag m c = at2 (a := 1) (b := 1) (shapeCast (s := S_) (α := EReal) S1x1 (m ((c : Thread nD τ).loc main_arg1)) shapeCasts_S_S1x1) 0 0 := rfl
theorem aw_eq : aw m c = at2 (a := 1) (b := 1) (shapeCast (s := S_) (α := EReal) S1x1 (m ((c : Thread nD τ).loc main_arg5)) shapeCasts_S_S1x1) 0 0 := rfl
theorem aB_eq : aB m c = m ((c : Thread nD τ).loc main_arg3) := V_main_arg3 m c
theorem aT_eq : aT m c = m ((c : Thread nD τ).loc main_arg4) := V_main_arg4 m c

end K01
-- ==== Proof.LinkA.lean ====
/-
  What a grid point of case A stores into each buffer it writes, by the generic forms.
-/
module

public import proofs.«01_k».proof.Proof.Gen.KernelIdeal.Value
public import proofs.«01_k».proof.Proof.Chunk
public import proofs.«01_k».proof.Proof.Tile
public import proofs.«01_k».proof.Proof.Loads

@[expose] public section

set_option maxRecDepth 65536

noncomputable section

open Idealize.ShloMosaic Idealize.ShloMosaic.TcCoe Idealize.ShloMosaic.Tactic
open Cert.KernelIdeal Cert.KernelIdeal.Gen

namespace K01

variable (c : Dev nD) (i : grid0.Coords) (arg1 : Memref sig .tc .smem S1x1 .f32) (harg1 : arg1.IsWhole) (arg2 : Memref sig .tc .smem S1x1 .f32) (harg2 : arg2.IsWhole) (arg3 : Memref sig .tc .vmem S128x512 .bf16) (harg3 : arg3.IsWhole) (arg4 : Memref sig .tc .vmem S128x512 .i32) (harg4 : arg4.IsWhole) (arg5 : Memref sig .tc .vmem S512x1792 .i8) (harg5 : arg5.IsWhole) (arg6 : Memref sig .tc .vmem S32x224 .fp8e4m3) (harg6 : arg6.IsWhole) (arg7 : Memref sig .tc .vmem S128x3584 .bf16) (harg7 : arg7.IsWhole) (arg8 : Memref sig .tc .vmem S128x256 .i8) (harg8 : arg8.IsWhole) (arg9 : Memref sig .tc .vmem S128x1184 .fp8e4m3) (harg9 : arg9.IsWhole) (arg10 : Memref sig .tc .smem S1x1 .f32) (harg10 : arg10.IsWhole) (arg11 : Memref sig .tc .vmem S128x3584 .f32) (harg11 : arg11.IsWhole) (arg12 : Memref sig .tc .vmem S128x512 .bf16) (harg12 : arg12.IsWhole) (arg13 : Memref sig .tc .vmem S1184x128 .f32) (harg13 : arg13.IsWhole) (arg14 : Memref sig .tc .vmem S8x128 .f32) (harg14 : arg14.IsWhole) (arg15 : Memref sig .tc .vmem S288x2x128 .bf16) (harg15 : arg15.IsWhole) (arg16 : Memref sig .tc .vmem S544x128 .i32) (harg16 : arg16.IsWhole) (arg17 : Memref sig .tc .vmem S288x2x128 .bf16) (harg17 : arg17.IsWhole) (arg18 : Memref sig .tc .vmem S32x2x128 .bf16) (harg18 : arg18.IsWhole) (arg19 : Memref sig .tc .vmem S14x32x2x128 .bf16) (harg19 : arg19.IsWhole) (hc0 : cond0_0 i) (hc1 : ¬cond0_1 i)
    (x0 : Vec Ideal S1x1 .f32) (x1 : Vec Ideal S1x1 .f32) (x2 : Vec Ideal S128x512 .bf16) (x3 : Vec Ideal S128x512 .i32) (x4 : Vec Ideal S512x1792 .i8) (x5 : Vec Ideal S32x224 .fp8e4m3)

/-- The stores into the codes. -/
theorem L7_A : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.1 = codeL fun c => qC arg3 harg3 arg4 harg4 arg15 arg16 arg17 x2 x3 (ld1 arg1 harg1 x0) c := by sl_kernel_rfl

/-- The stores into the accumulator. -/
theorem LS0_A : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.1 = (accA14 arg5 harg5 arg6 harg6 arg11 arg19 x4 x5 (ldL arg12 arg3 harg3 arg4 harg4 arg15 arg16 arg17 arg18 x2 x3 (ld1 arg1 harg1 x0))) := by sl_kernel_rfl

/-- The stores into the scale buffer. -/
theorem LS2_A : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.1 = stA arg3 harg3 arg13 arg15 x2 (ld1 arg1 harg1 x0) (BitVec.ofNat 32 (i 0).val) := by sl_kernel_rfl

/-- The stores into the largest magnitudes. -/
theorem LS3_A : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.1 = mxA arg3 harg3 arg14 arg15 x2 := by sl_kernel_rfl

end K01
-- ==== Proof.CaseA.lean ====
/-
  What a grid point of case A leaves in each buffer it writes, at an index.
-/
module

public import proofs.«01_k».proof.Proof.LinkA
public import proofs.«01_k».proof.Proof.Block

@[expose] public section

set_option maxRecDepth 65536

noncomputable section

open Idealize.ShloMosaic Idealize.ShloMosaic.TcCoe Idealize.ShloMosaic.Tactic
open Cert.KernelIdeal Cert.KernelIdeal.Gen

namespace K01

variable (c : Dev nD) (i : grid0.Coords) (arg1 : Memref sig .tc .smem S1x1 .f32) (harg1 : arg1.IsWhole) (arg2 : Memref sig .tc .smem S1x1 .f32) (harg2 : arg2.IsWhole) (arg3 : Memref sig .tc .vmem S128x512 .bf16) (harg3 : arg3.IsWhole) (arg4 : Memref sig .tc .vmem S128x512 .i32) (harg4 : arg4.IsWhole) (arg5 : Memref sig .tc .vmem S512x1792 .i8) (harg5 : arg5.IsWhole) (arg6 : Memref sig .tc .vmem S32x224 .fp8e4m3) (harg6 : arg6.IsWhole) (arg7 : Memref sig .tc .vmem S128x3584 .bf16) (harg7 : arg7.IsWhole) (arg8 : Memref sig .tc .vmem S128x256 .i8) (harg8 : arg8.IsWhole) (arg9 : Memref sig .tc .vmem S128x1184 .fp8e4m3) (harg9 : arg9.IsWhole) (arg10 : Memref sig .tc .smem S1x1 .f32) (harg10 : arg10.IsWhole) (arg11 : Memref sig .tc .vmem S128x3584 .f32) (harg11 : arg11.IsWhole) (arg12 : Memref sig .tc .vmem S128x512 .bf16) (harg12 : arg12.IsWhole) (arg13 : Memref sig .tc .vmem S1184x128 .f32) (harg13 : arg13.IsWhole) (arg14 : Memref sig .tc .vmem S8x128 .f32) (harg14 : arg14.IsWhole) (arg15 : Memref sig .tc .vmem S288x2x128 .bf16) (harg15 : arg15.IsWhole) (arg16 : Memref sig .tc .vmem S544x128 .i32) (harg16 : arg16.IsWhole) (arg17 : Memref sig .tc .vmem S288x2x128 .bf16) (harg17 : arg17.IsWhole) (arg18 : Memref sig .tc .vmem S32x2x128 .bf16) (harg18 : arg18.IsWhole) (arg19 : Memref sig .tc .vmem S14x32x2x128 .bf16) (harg19 : arg19.IsWhole) (hc0 : cond0_0 i) (hc1 : ¬cond0_1 i)
    (x0 : Vec Ideal S1x1 .f32) (x1 : Vec Ideal S1x1 .f32) (x2 : Vec Ideal S128x512 .bf16) (x3 : Vec Ideal S128x512 .i32) (x4 : Vec Ideal S512x1792 .i8) (x5 : Vec Ideal S32x224 .fp8e4m3)

/-- The codes written. -/
theorem out0_A_7_at (y : S128x256.Idx) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 y = Cf x2 x3 (g0 x0) (y 0).val (y 1).val := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  rw [L7_A, canon_codeL, ld1_eq]
  rfl

/-- The accumulator. -/
theorem sout0_A_0_at (y : S128x3584.Idx) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 y = (Db x2 x3 x4 x5 (g0 x0) (y 0).val (y 1).val : EReal) := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  rw [LS0_A, canon_accA, Dl_ldL _ _ _ _ _ _ _ _ _ _ _ _ _ _ _ _ (y 0).isLt, ld1_eq]
  rfl

/-- The scale buffer. -/
theorem sout0_A_2_at (n : ℕ) (hi : (i 0).val = n) (hn : n < 37) (r m : ℕ) (hr : r < 1184) (hm : m < 128) : n = 0 → r / 32 = 0 →
    at2 (a := 1184) (b := 128) (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5) r m = Sf x2 (g0 x0) m (r % 32) := by
  intro hz
  intro h0
  unfold sout0_A_2
  rw [View.read_writes_eq_canon _ _ _ (scover0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  rw [LS2_A, hi, hz, canon_stA _ _ _ _ _ _ _ _ hr hm h0, ld1_eq]
  rfl

/-- The largest magnitudes. -/
theorem sout0_A_3_at (k m : ℕ) (hk : k < 8) (hm : m < 128) : at2 (a := 8) (b := 128) (sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5) k m = Mx x2 0 k m := by
  unfold sout0_A_3
  rw [View.read_writes_eq_canon _ _ _ (scover0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5)]
  rw [LS3_A, canon_mxA _ _ _ _ _ _ _ hk hm]

end K01
-- ==== Proof.LinkB.lean ====
/-
  What a grid point of case B stores into each buffer it writes, by the generic forms.
-/
module

public import proofs.«01_k».proof.Proof.Gen.KernelIdeal.Value
public import proofs.«01_k».proof.Proof.Chunk
public import proofs.«01_k».proof.Proof.Tile
public import proofs.«01_k».proof.Proof.Loads

@[expose] public section

set_option maxRecDepth 65536

noncomputable section

open Idealize.ShloMosaic Idealize.ShloMosaic.TcCoe Idealize.ShloMosaic.Tactic
open Cert.KernelIdeal Cert.KernelIdeal.Gen

namespace K01

variable (c : Dev nD) (i : grid0.Coords) (arg1 : Memref sig .tc .smem S1x1 .f32) (harg1 : arg1.IsWhole) (arg2 : Memref sig .tc .smem S1x1 .f32) (harg2 : arg2.IsWhole) (arg3 : Memref sig .tc .vmem S128x512 .bf16) (harg3 : arg3.IsWhole) (arg4 : Memref sig .tc .vmem S128x512 .i32) (harg4 : arg4.IsWhole) (arg5 : Memref sig .tc .vmem S512x1792 .i8) (harg5 : arg5.IsWhole) (arg6 : Memref sig .tc .vmem S32x224 .fp8e4m3) (harg6 : arg6.IsWhole) (arg7 : Memref sig .tc .vmem S128x3584 .bf16) (harg7 : arg7.IsWhole) (arg8 : Memref sig .tc .vmem S128x256 .i8) (harg8 : arg8.IsWhole) (arg9 : Memref sig .tc .vmem S128x1184 .fp8e4m3) (harg9 : arg9.IsWhole) (arg10 : Memref sig .tc .smem S1x1 .f32) (harg10 : arg10.IsWhole) (arg11 : Memref sig .tc .vmem S128x3584 .f32) (harg11 : arg11.IsWhole) (arg12 : Memref sig .tc .vmem S128x512 .bf16) (harg12 : arg12.IsWhole) (arg13 : Memref sig .tc .vmem S1184x128 .f32) (harg13 : arg13.IsWhole) (arg14 : Memref sig .tc .vmem S8x128 .f32) (harg14 : arg14.IsWhole) (arg15 : Memref sig .tc .vmem S288x2x128 .bf16) (harg15 : arg15.IsWhole) (arg16 : Memref sig .tc .vmem S544x128 .i32) (harg16 : arg16.IsWhole) (arg17 : Memref sig .tc .vmem S288x2x128 .bf16) (harg17 : arg17.IsWhole) (arg18 : Memref sig .tc .vmem S32x2x128 .bf16) (harg18 : arg18.IsWhole) (arg19 : Memref sig .tc .vmem S14x32x2x128 .bf16) (harg19 : arg19.IsWhole) (hc0 : ¬cond0_0 i) (hc1 : ¬cond0_1 i)
    (x0 : Vec Ideal S1x1 .f32) (x1 : Vec Ideal S1x1 .f32) (x2 : Vec Ideal S128x512 .bf16) (x3 : Vec Ideal S128x512 .i32) (x4 : Vec Ideal S512x1792 .i8) (x5 : Vec Ideal S32x224 .fp8e4m3) (xs0 : Vec Ideal S128x3584 .f32) (xs2 : Vec Ideal S1184x128 .f32) (xs3 : Vec Ideal S8x128 .f32)

/-- The stores into the codes. -/
theorem L7_B : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3).2.1 = codeL fun c => qC arg3 harg3 arg4 harg4 arg15 arg16 arg17 x2 x3 (ld1 arg1 harg1 x0) c := by sl_kernel_rfl

/-- The stores into the accumulator. -/
theorem LS0_B : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3).2.2.2.2.1 = (accB arg5 harg5 arg6 harg6 arg11 harg11 arg19 x4 x5 (ldL arg12 arg3 harg3 arg4 harg4 arg15 arg16 arg17 arg18 x2 x3 (ld1 arg1 harg1 x0)) xs0) := by sl_kernel_rfl

/-- The stores into the scale buffer. -/
theorem LS2_B : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3).2.2.2.2.2.1 = stB arg3 harg3 arg13 harg13 arg15 x2 (ld1 arg1 harg1 x0) (BitVec.ofNat 32 (i 0).val) xs2 := by sl_kernel_rfl

/-- The stores into the largest magnitudes. -/
theorem LS3_B : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3).2.2.2.2.2.2.1 = mxB arg3 harg3 arg14 harg14 arg15 x2 xs3 := by sl_kernel_rfl

end K01
-- ==== Proof.CaseB.lean ====
/-
  What a grid point of case B leaves in each buffer it writes, at an index.
-/
module

public import proofs.«01_k».proof.Proof.LinkB
public import proofs.«01_k».proof.Proof.Block

@[expose] public section

set_option maxRecDepth 65536

noncomputable section

open Idealize.ShloMosaic Idealize.ShloMosaic.TcCoe Idealize.ShloMosaic.Tactic
open Cert.KernelIdeal Cert.KernelIdeal.Gen

namespace K01

variable (c : Dev nD) (i : grid0.Coords) (arg1 : Memref sig .tc .smem S1x1 .f32) (harg1 : arg1.IsWhole) (arg2 : Memref sig .tc .smem S1x1 .f32) (harg2 : arg2.IsWhole) (arg3 : Memref sig .tc .vmem S128x512 .bf16) (harg3 : arg3.IsWhole) (arg4 : Memref sig .tc .vmem S128x512 .i32) (harg4 : arg4.IsWhole) (arg5 : Memref sig .tc .vmem S512x1792 .i8) (harg5 : arg5.IsWhole) (arg6 : Memref sig .tc .vmem S32x224 .fp8e4m3) (harg6 : arg6.IsWhole) (arg7 : Memref sig .tc .vmem S128x3584 .bf16) (harg7 : arg7.IsWhole) (arg8 : Memref sig .tc .vmem S128x256 .i8) (harg8 : arg8.IsWhole) (arg9 : Memref sig .tc .vmem S128x1184 .fp8e4m3) (harg9 : arg9.IsWhole) (arg10 : Memref sig .tc .smem S1x1 .f32) (harg10 : arg10.IsWhole) (arg11 : Memref sig .tc .vmem S128x3584 .f32) (harg11 : arg11.IsWhole) (arg12 : Memref sig .tc .vmem S128x512 .bf16) (harg12 : arg12.IsWhole) (arg13 : Memref sig .tc .vmem S1184x128 .f32) (harg13 : arg13.IsWhole) (arg14 : Memref sig .tc .vmem S8x128 .f32) (harg14 : arg14.IsWhole) (arg15 : Memref sig .tc .vmem S288x2x128 .bf16) (harg15 : arg15.IsWhole) (arg16 : Memref sig .tc .vmem S544x128 .i32) (harg16 : arg16.IsWhole) (arg17 : Memref sig .tc .vmem S288x2x128 .bf16) (harg17 : arg17.IsWhole) (arg18 : Memref sig .tc .vmem S32x2x128 .bf16) (harg18 : arg18.IsWhole) (arg19 : Memref sig .tc .vmem S14x32x2x128 .bf16) (harg19 : arg19.IsWhole) (hc0 : ¬cond0_0 i) (hc1 : ¬cond0_1 i)
    (x0 : Vec Ideal S1x1 .f32) (x1 : Vec Ideal S1x1 .f32) (x2 : Vec Ideal S128x512 .bf16) (x3 : Vec Ideal S128x512 .i32) (x4 : Vec Ideal S512x1792 .i8) (x5 : Vec Ideal S32x224 .fp8e4m3) (xs0 : Vec Ideal S128x3584 .f32) (xs2 : Vec Ideal S1184x128 .f32) (xs3 : Vec Ideal S8x128 .f32)

/-- The codes written. -/
theorem out0_B_7_at (y : S128x256.Idx) : out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3 y = Cf x2 x3 (g0 x0) (y 0).val (y 1).val := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3)]
  rw [L7_B, canon_codeL, ld1_eq]
  rfl

/-- The accumulator. -/
theorem sout0_B_0_at (y : S128x3584.Idx) : sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3 y = (xs0 y + Db x2 x3 x4 x5 (g0 x0) (y 0).val (y 1).val : EReal) := by
  unfold sout0_B_0
  rw [View.read_writes_eq_canon _ _ _ (scover0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3)]
  rw [LS0_B, canon_accB, Dl_ldL _ _ _ _ _ _ _ _ _ _ _ _ _ _ _ _ (y 0).isLt, ld1_eq]
  rfl

/-- The scale buffer. -/
theorem sout0_B_2_at (n : ℕ) (hi : (i 0).val = n) (hn : n < 37) (r m : ℕ) (hr : r < 1184) (hm : m < 128) :
    at2 (a := 1184) (b := 128) (sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3) r m = if r / 32 = n then Sf x2 (g0 x0) m (r % 32) else at2 (a := 1184) (b := 128) xs2 r m := by

  unfold sout0_B_2
  rw [View.read_writes_eq_canon _ _ _ (scover0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3)]
  rw [LS2_B, hi, canon_stB _ _ _ _ _ _ _ n hn _ _ _ hr hm, ld1_eq]
  rfl

/-- The largest magnitudes. -/
theorem sout0_B_3_at (k m : ℕ) (hk : k < 8) (hm : m < 128) : at2 (a := 8) (b := 128) (sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3) k m = Mx x2 (at2 (a := 8) (b := 128) xs3 k m) k m := by
  unfold sout0_B_3
  rw [View.read_writes_eq_canon _ _ _ (scover0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3)]
  rw [LS3_B, canon_mxB _ _ _ _ _ _ _ _ _ hk hm]

end K01
-- ==== Proof.LinkC.lean ====
/-
  What a grid point of case C stores into each buffer it writes, by the generic forms.
-/
module

public import proofs.«01_k».proof.Proof.Gen.KernelIdeal.Value
public import proofs.«01_k».proof.Proof.Chunk
public import proofs.«01_k».proof.Proof.Tile
public import proofs.«01_k».proof.Proof.Loads

@[expose] public section

set_option maxRecDepth 65536

noncomputable section

open Idealize.ShloMosaic Idealize.ShloMosaic.TcCoe Idealize.ShloMosaic.Tactic
open Cert.KernelIdeal Cert.KernelIdeal.Gen

namespace K01

variable (c : Dev nD) (i : grid0.Coords) (arg1 : Memref sig .tc .smem S1x1 .f32) (harg1 : arg1.IsWhole) (arg2 : Memref sig .tc .smem S1x1 .f32) (harg2 : arg2.IsWhole) (arg3 : Memref sig .tc .vmem S128x512 .bf16) (harg3 : arg3.IsWhole) (arg4 : Memref sig .tc .vmem S128x512 .i32) (harg4 : arg4.IsWhole) (arg5 : Memref sig .tc .vmem S512x1792 .i8) (harg5 : arg5.IsWhole) (arg6 : Memref sig .tc .vmem S32x224 .fp8e4m3) (harg6 : arg6.IsWhole) (arg7 : Memref sig .tc .vmem S128x3584 .bf16) (harg7 : arg7.IsWhole) (arg8 : Memref sig .tc .vmem S128x256 .i8) (harg8 : arg8.IsWhole) (arg9 : Memref sig .tc .vmem S128x1184 .fp8e4m3) (harg9 : arg9.IsWhole) (arg10 : Memref sig .tc .smem S1x1 .f32) (harg10 : arg10.IsWhole) (arg11 : Memref sig .tc .vmem S128x3584 .f32) (harg11 : arg11.IsWhole) (arg12 : Memref sig .tc .vmem S128x512 .bf16) (harg12 : arg12.IsWhole) (arg13 : Memref sig .tc .vmem S1184x128 .f32) (harg13 : arg13.IsWhole) (arg14 : Memref sig .tc .vmem S8x128 .f32) (harg14 : arg14.IsWhole) (arg15 : Memref sig .tc .vmem S288x2x128 .bf16) (harg15 : arg15.IsWhole) (arg16 : Memref sig .tc .vmem S544x128 .i32) (harg16 : arg16.IsWhole) (arg17 : Memref sig .tc .vmem S288x2x128 .bf16) (harg17 : arg17.IsWhole) (arg18 : Memref sig .tc .vmem S32x2x128 .bf16) (harg18 : arg18.IsWhole) (arg19 : Memref sig .tc .vmem S14x32x2x128 .bf16) (harg19 : arg19.IsWhole) (hc0 : ¬cond0_0 i) (hc1 : cond0_1 i)
    (x0 : Vec Ideal S1x1 .f32) (x1 : Vec Ideal S1x1 .f32) (x2 : Vec Ideal S128x512 .bf16) (x3 : Vec Ideal S128x512 .i32) (x4 : Vec Ideal S512x1792 .i8) (x5 : Vec Ideal S32x224 .fp8e4m3) (xs0 : Vec Ideal S128x3584 .f32) (xs2 : Vec Ideal S1184x128 .f32) (xs3 : Vec Ideal S8x128 .f32)

/-- The stores into the codes. -/
theorem L7_C : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3).2.1 = codeL fun c => qC arg3 harg3 arg4 harg4 arg15 arg16 arg17 x2 x3 (ld1 arg1 harg1 x0) c := by sl_kernel_rfl

/-- The stores into the accumulator. -/
theorem LS0_C : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3).2.2.2.2.1 = (accB arg5 harg5 arg6 harg6 arg11 harg11 arg19 x4 x5 (ldL arg12 arg3 harg3 arg4 harg4 arg15 arg16 arg17 arg18 x2 x3 (ld1 arg1 harg1 x0)) xs0) := by sl_kernel_rfl

/-- The stores into the scale buffer. -/
theorem LS2_C : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3).2.2.2.2.2.1 = stB arg3 harg3 arg13 harg13 arg15 x2 (ld1 arg1 harg1 x0) (BitVec.ofNat 32 (i 0).val) xs2 := by sl_kernel_rfl

/-- The stores into the largest magnitudes. -/
theorem LS3_C : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3).2.2.2.2.2.2.1 = mxB arg3 harg3 arg14 harg14 arg15 x2 xs3 := by sl_kernel_rfl

/-- The stores into the result. -/
theorem L6_C : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3).1 = dxL arg11 (k0_pay7 (ld1 arg1 harg1 x0) (ld1 arg2 harg2 x1)) (accB arg5 harg5 arg6 harg6 arg11 harg11 arg19 x4 x5 (ldL arg12 arg3 harg3 arg4 harg4 arg15 arg16 arg17 arg18 x2 x3 (ld1 arg1 harg1 x0)) xs0) := by sl_kernel_rfl

/-- The stores into the scales. -/
theorem L8_C : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3).2.2.1 = [⟨Rect.unit (s := S128x1184) ![0, 0] S128x1184.size inb_S128x1184_S128x1184_0_0, k0_pay3 (arg13.view.readCov (stB arg3 harg3 arg13 harg13 arg15 x2 (ld1 arg1 harg1 x0) (BitVec.ofNat 32 (i 0).val) xs2) stR.toLoadRect)⟩] := by sl_kernel_rfl

/-- The stores into the largest magnitude. -/
theorem L9_C : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3).2.2.2.1 = [⟨Rect.unit (s := S1x1) ![0, 0] S1x1.size inb_S1x1_S1x1_0_0, fun _ => k0_pay4 (arg14.view.readCov (mxB arg3 harg3 arg14 harg14 arg15 x2 xs3) mxR.toLoadRect)⟩] := by sl_kernel_rfl

end K01
-- ==== Proof.CaseC.lean ====
/-
  What a grid point of case C leaves in each buffer it writes, at an index.
-/
module

public import proofs.«01_k».proof.Proof.LinkC
public import proofs.«01_k».proof.Proof.Block

@[expose] public section

set_option maxRecDepth 65536

noncomputable section

open Idealize.ShloMosaic Idealize.ShloMosaic.TcCoe Idealize.ShloMosaic.Tactic
open Cert.KernelIdeal Cert.KernelIdeal.Gen

namespace K01

variable (c : Dev nD) (i : grid0.Coords) (arg1 : Memref sig .tc .smem S1x1 .f32) (harg1 : arg1.IsWhole) (arg2 : Memref sig .tc .smem S1x1 .f32) (harg2 : arg2.IsWhole) (arg3 : Memref sig .tc .vmem S128x512 .bf16) (harg3 : arg3.IsWhole) (arg4 : Memref sig .tc .vmem S128x512 .i32) (harg4 : arg4.IsWhole) (arg5 : Memref sig .tc .vmem S512x1792 .i8) (harg5 : arg5.IsWhole) (arg6 : Memref sig .tc .vmem S32x224 .fp8e4m3) (harg6 : arg6.IsWhole) (arg7 : Memref sig .tc .vmem S128x3584 .bf16) (harg7 : arg7.IsWhole) (arg8 : Memref sig .tc .vmem S128x256 .i8) (harg8 : arg8.IsWhole) (arg9 : Memref sig .tc .vmem S128x1184 .fp8e4m3) (harg9 : arg9.IsWhole) (arg10 : Memref sig .tc .smem S1x1 .f32) (harg10 : arg10.IsWhole) (arg11 : Memref sig .tc .vmem S128x3584 .f32) (harg11 : arg11.IsWhole) (arg12 : Memref sig .tc .vmem S128x512 .bf16) (harg12 : arg12.IsWhole) (arg13 : Memref sig .tc .vmem S1184x128 .f32) (harg13 : arg13.IsWhole) (arg14 : Memref sig .tc .vmem S8x128 .f32) (harg14 : arg14.IsWhole) (arg15 : Memref sig .tc .vmem S288x2x128 .bf16) (harg15 : arg15.IsWhole) (arg16 : Memref sig .tc .vmem S544x128 .i32) (harg16 : arg16.IsWhole) (arg17 : Memref sig .tc .vmem S288x2x128 .bf16) (harg17 : arg17.IsWhole) (arg18 : Memref sig .tc .vmem S32x2x128 .bf16) (harg18 : arg18.IsWhole) (arg19 : Memref sig .tc .vmem S14x32x2x128 .bf16) (harg19 : arg19.IsWhole) (hc0 : ¬cond0_0 i) (hc1 : cond0_1 i)
    (x0 : Vec Ideal S1x1 .f32) (x1 : Vec Ideal S1x1 .f32) (x2 : Vec Ideal S128x512 .bf16) (x3 : Vec Ideal S128x512 .i32) (x4 : Vec Ideal S512x1792 .i8) (x5 : Vec Ideal S32x224 .fp8e4m3) (xs0 : Vec Ideal S128x3584 .f32) (xs2 : Vec Ideal S1184x128 .f32) (xs3 : Vec Ideal S8x128 .f32)

/-- The codes written. -/
theorem out0_C_7_at (y : S128x256.Idx) : out0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3 y = Cf x2 x3 (g0 x0) (y 0).val (y 1).val := by
  unfold out0_C_7
  rw [View.read_writes_eq_canon _ _ _ (cover0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3)]
  rw [L7_C, canon_codeL, ld1_eq]
  rfl

/-- The accumulator. -/
theorem sout0_C_0_at (y : S128x3584.Idx) : sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3 y = (xs0 y + Db x2 x3 x4 x5 (g0 x0) (y 0).val (y 1).val : EReal) := by
  unfold sout0_C_0
  rw [View.read_writes_eq_canon _ _ _ (scover0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3)]
  rw [LS0_C, canon_accB, Dl_ldL _ _ _ _ _ _ _ _ _ _ _ _ _ _ _ _ (y 0).isLt, ld1_eq]
  rfl

/-- The scale buffer. -/
theorem sout0_C_2_at (n : ℕ) (hi : (i 0).val = n) (hn : n < 37) (r m : ℕ) (hr : r < 1184) (hm : m < 128) :
    at2 (a := 1184) (b := 128) (sout0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3) r m = if r / 32 = n then Sf x2 (g0 x0) m (r % 32) else at2 (a := 1184) (b := 128) xs2 r m := by

  unfold sout0_C_2
  rw [View.read_writes_eq_canon _ _ _ (scover0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3)]
  rw [LS2_C, hi, canon_stB _ _ _ _ _ _ _ n hn _ _ _ hr hm, ld1_eq]
  rfl

/-- The largest magnitudes. -/
theorem sout0_C_3_at (k m : ℕ) (hk : k < 8) (hm : m < 128) : at2 (a := 8) (b := 128) (sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3) k m = Mx x2 (at2 (a := 8) (b := 128) xs3 k m) k m := by
  unfold sout0_C_3
  rw [View.read_writes_eq_canon _ _ _ (scover0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3)]
  rw [LS3_C, canon_mxB _ _ _ _ _ _ _ _ _ hk hm]

/-- The result written. -/
theorem out0_C_6_at (m n : ℕ) (hm : m < 128) (hn : n < 3584) : at2 (a := 128) (b := 3584) (out0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3) m n
    = ((at2 (a := 128) (b := 3584) xs0 m (qn n) + Db x2 x3 x4 x5 (g0 x0) m (qn n)) * (g0 x0 * g0 x1) : EReal) := by
  unfold out0_C_6
  rw [View.read_writes_eq_canon _ _ _ (cover0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3)]
  have hq : qn n < 3584 := by unfold qn; omega
  rw [L6_C]
  refine (canon_dxL _ _ _ (ix2 (a := 128) (b := 3584) m n)).trans ?_
  rw [show (ix2 (a := 128) (b := 3584) m n 0).val = m from Nat.mod_eq_of_lt hm, show (ix2 (a := 128) (b := 3584) m n 1).val = n from Nat.mod_eq_of_lt hn]
  rw [ld1_eq, ld1_eq]
  refine congrArg (· * _) ?_
  refine (canon_accB _ _ _ _ _ _ _ _ _ _ _ (ix2 (a := 128) (b := 3584) m (qn n))).trans ?_
  rw [show (ix2 (a := 128) (b := 3584) m (qn n) 0).val = m from Nat.mod_eq_of_lt hm, show (ix2 (a := 128) (b := 3584) m (qn n) 1).val = qn n from Nat.mod_eq_of_lt hq,
    Dl_ldL _ _ _ _ _ _ _ _ _ _ _ _ _ _ _ _ hm]
  rfl

/-- The scales written. -/
theorem out0_C_8_at (n : ℕ) (hi : (i 0).val = n) (hn : n < 37) (m r : ℕ) (hm : m < 128) (hr : r < 1184) : at2 (a := 128) (b := 1184) (out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3) m r
    = if r / 32 = n then Sf x2 (g0 x0) m (r % 32) else at2 (a := 1184) (b := 128) xs2 r m := by
  unfold out0_C_8
  rw [View.read_writes_eq_canon _ _ _ (cover0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3)]
  rw [L8_C, hi, View.canon_unit_zero zero2, at2_pay3 _ _ _ hm hr, ld1_eq]
  refine Eq.trans ?_ (canon_stB arg3 harg3 arg13 harg13 arg15 x2 _ n hn xs2 r m hr hm)
  exact stR_cov arg13 _ r m

/-- The largest magnitude written is below a bound exactly when the kept ones, with this block's, are. -/
theorem out0_C_9_le (y : S1x1.Idx) (b : EReal) : (out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3 y : EReal) ≤ b
    ↔ ∀ k m, k < 8 → m < 128 → Mx x2 (at2 (a := 8) (b := 128) xs3 k m) k m ≤ b := by
  unfold out0_C_9
  rw [View.read_writes_eq_canon _ _ _ (cover0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs0 xs2 xs3)]
  rw [L9_C, View.canon_unit_zero zero2]
  refine (pay4_le _ b).trans ?_
  have e : ∀ k m, k < 8 → m < 128 → at2 (a := 8) (b := 128) (arg14.view.readCov (mxB arg3 harg3 arg14 harg14 arg15 x2 xs3) mxR.toLoadRect) k m
      = Mx x2 (at2 (a := 8) (b := 128) xs3 k m) k m := by
    intro k m hk hm
    refine Eq.trans ?_ (canon_mxB arg3 harg3 arg14 harg14 arg15 x2 xs3 k m hk hm)
    exact mxR_cov arg14 _ k m
  constructor
  · intro h k m hk hm
    rw [← e k m hk hm]; exact h k m hk hm
  · intro h k m hk hm
    rw [e k m hk hm]; exact h k m hk hm

end K01
-- ==== Proof.Steps.lean ====
/-
  What the buffers hold after each grid point: the accumulator the product over the rows read so far, the scale buffer
  the scales of the blocks read so far, the magnitude buffer the largest magnitudes read so far.
-/
module

public import proofs.«01_k».proof.Proof.Inputs
public import proofs.«01_k».proof.Proof.CaseA
public import proofs.«01_k».proof.Proof.CaseB
public import proofs.«01_k».proof.Proof.CaseC

@[expose] public section

set_option maxRecDepth 65536

noncomputable section

open Idealize.ShloMosaic Idealize.ShloMosaic.TcCoe Idealize.ShloMosaic.Tactic
open Cert.KernelIdeal Cert.KernelIdeal.Gen
open scoped BigOperators

namespace K01

variable (m : (ℓ : Loc nD τ sig) → Buf (Elt Ideal) ℓ) (c : Dev nD)

theorem pn_lt (y : ℕ) (h : y < 3584) : pn y < 3584 := by unfold pn; omega
theorem qn_lt (n : ℕ) (h : n < 3584) : qn n < 3584 := by unfold qn; omega

/-- One block's product, at grid point `t`. -/
theorem Db_at (t : Fin cfg0.N) (r y : ℕ) (hr : r < 128) (hy : y < 3584) :
    Db (iblk (F := Ideal) m c 2 t) (iblk (F := Ideal) m c 3 t) (iblk (F := Ideal) m c 4 t) (iblk (F := Ideal) m c 5 t) (g0 (iblk (F := Ideal) m c 0 t)) r y
      = GD (aX m c) (aR m c) (aB m c) (aT m c) (ag m c) t.val r (pn y) := by
  rw [iblk0]
  exact Db_blk _ (iblk2 m c t) (iblk3 m c t) (iblk4 m c t) (iblk5 m c t) r y hr (pn_lt y hy)

theorem Sf_at (t : Fin cfg0.N) (r b : ℕ) (hr : r < 128) (hb : b < 32) :
    Sf (iblk (F := Ideal) m c 2 t) (g0 (iblk (F := Ideal) m c 0 t)) r b = GS (aX m c) (ag m c) r (32 * t.val + b) := by
  rw [iblk0]
  exact Sf_blk _ (iblk2 m c t) r b hr hb

theorem Mx_at (t : Fin cfg0.N) (o b : EReal) (k r : ℕ) (hk : k < 8) (hr : r < 128) :
    Mx (iblk (F := Ideal) m c 2 t) o k r ≤ b ↔ o ≤ b ∧ ∀ j, j < 4 → GA (aX m c) r (32 * t.val + (8 * j + k)) ≤ b := by
  rw [Mx_le]
  refine and_congr_right fun _ => forall_congr' fun j => forall_congr' fun hj => ?_
  rw [Af_blk (iblk2 m c t) r _ hr (by omega)]

theorem Cf_at (t : Fin cfg0.N) (r i : ℕ) (hr : r < 128) (hi : i < 256) :
    Cf (iblk (F := Ideal) m c 2 t) (iblk (F := Ideal) m c 3 t) (g0 (iblk (F := Ideal) m c 0 t)) r i
      = GC (aX m c) (aR m c) (ag m c) r (256 * t.val + i) := by
  rw [iblk0]
  exact Cf_blk _ (iblk2 m c t) (iblk3 m c t) r i hr hi

/-- What the buffers that outlive a grid point hold after point `n`. -/
structure Inv (n : ℕ) (acc : Vec Ideal S128x3584 .f32) (st : Vec Ideal S1184x128 .f32) (mx : Vec Ideal S8x128 .f32) : Prop where
  acc : ∀ y : S128x3584.Idx, acc y = ∑ s ∈ Finset.range (n + 1), GD (aX m c) (aR m c) (aB m c) (aT m c) (ag m c) s (y 0).val (pn (y 1).val)
  st : ∀ r l, r < 1184 → l < 128 → r / 32 ≤ n → at2 (a := 1184) (b := 128) st r l = GS (aX m c) (ag m c) l r
  mx : ∀ k l, k < 8 → l < 128 → ∀ b, at2 (a := 8) (b := 128) mx k l ≤ b
    ↔ 0 ≤ b ∧ ∀ s, s ≤ n → ∀ j, j < 4 → GA (aX m c) l (32 * s + (8 * j + k)) ≤ b

theorem mx_step (n : ℕ) (o b : EReal) (k l : ℕ)
    (h : o ≤ b ↔ 0 ≤ b ∧ ∀ s, s ≤ n → ∀ j, j < 4 → GA (aX m c) l (32 * s + (8 * j + k)) ≤ b) :
    (o ≤ b ∧ ∀ j, j < 4 → GA (aX m c) l (32 * (n + 1) + (8 * j + k)) ≤ b)
      ↔ 0 ≤ b ∧ ∀ s, s ≤ n + 1 → ∀ j, j < 4 → GA (aX m c) l (32 * s + (8 * j + k)) ≤ b := by
  rw [h]
  constructor
  · rintro ⟨⟨h0, h1⟩, h2⟩
    refine ⟨h0, fun s hs j hj => ?_⟩
    rcases Nat.lt_or_ge n s with h | h
    · obtain rfl : s = n + 1 := by omega
      exact h2 j hj
    · exact h1 s h j hj
  · rintro ⟨h0, h1⟩
    exact ⟨⟨h0, fun s hs => h1 s (by omega)⟩, h1 _ le_rfl⟩

theorem inv_zero (h : 0 < cfg0.N) : Inv m c 0 (outsAt0 m c 0 h).2.2.2.2.1 (outsAt0 m c 0 h).2.2.2.2.2.1 (outsAt0 m c 0 h).2.2.2.2.2.2 := by
  have e := outsAt0_A (F := Ideal) m c ⟨0, h⟩ rfl (by dsimp only; omega)
  have e0 := congrArg (fun o => o.2.2.2.2.1) e
  have e1 := congrArg (fun o => o.2.2.2.2.2.1) e
  have e2 := congrArg (fun o => o.2.2.2.2.2.2) e
  clear e
  dsimp only at e0 e1 e2
  constructor
  · intro y
    refine (congrFun e0 y).trans ?_
    rw [sout0_A_0_at, Db_at m c ⟨0, h⟩ _ _ (y 0).isLt (y 1).isLt]
    simp
  · intro r l hr hl hn
    refine (congrArg (fun v : Vec Ideal S1184x128 .f32 => at2 (a := 1184) (b := 128) v r l) e1).trans ?_
    rw [sout0_A_2_at _ _ _ _ _ _ _ _ _ _ _ _ _ _ _ _ _ _ _ _ _ _ _ _ _ _ _ _ _ _ _ _ _ _ _ _ _ _ _ _ _ _ _ _ _ _ _ _ 0 (coord0 ⟨0, h⟩) (by omega) r l hr hl rfl (by omega),
      Sf_at m c ⟨0, h⟩ _ _ hl (by omega)]
    exact congrArg (GS _ _ l) (by dsimp only; omega)
  · intro k l hk hl b
    have e3 := congrArg (fun v : Vec Ideal S8x128 .f32 => at2 (a := 8) (b := 128) v k l) e2
    rw [e3, sout0_A_3_at _ _ _ _ _ _ _ _ _ _ _ _ _ _ _ _ _ _ _ _ _ _ _ _ _ _ _ _ _ _ _ _ _ _ _ _ _ _ _ _ _ _ _ _ _ _ _ _ k l hk hl,
      Mx_at m c ⟨0, h⟩ _ _ _ _ hk hl]
    refine and_congr_right fun _ => ⟨fun h s hs => ?_, fun h => h 0 le_rfl⟩
    obtain rfl : s = 0 := by omega
    exact h

theorem inv_succ (n : ℕ) (h : n + 1 < cfg0.N) (h36 : n + 1 < 36)
    (ih : Inv m c n (outsAt0 m c n (Nat.lt_of_succ_lt h)).2.2.2.2.1 (outsAt0 m c n (Nat.lt_of_succ_lt h)).2.2.2.2.2.1 (outsAt0 m c n (Nat.lt_of_succ_lt h)).2.2.2.2.2.2) :
    Inv m c (n + 1) (outsAt0 m c (n + 1) h).2.2.2.2.1 (outsAt0 m c (n + 1) h).2.2.2.2.2.1 (outsAt0 m c (n + 1) h).2.2.2.2.2.2 := by
  have e := outsAt0_B (F := Ideal) m c ⟨n + 1, h⟩ (by dsimp only; omega) (by dsimp only; omega)
  have e0 := congrArg (fun o => o.2.2.2.2.1) e
  have e1 := congrArg (fun o => o.2.2.2.2.2.1) e
  have e2 := congrArg (fun o => o.2.2.2.2.2.2) e
  clear e
  dsimp only at e0 e1 e2
  constructor
  · intro y
    refine (congrFun e0 y).trans ?_
    rw [sout0_B_0_at, Db_at m c ⟨n + 1, h⟩ _ _ (y 0).isLt (y 1).isLt, Finset.sum_range_succ]
    exact congrArg (· + _) (ih.acc y)
  · intro r l hr hl hn
    refine (congrArg (fun v : Vec Ideal S1184x128 .f32 => at2 (a := 1184) (b := 128) v r l) e1).trans ?_
    rw [sout0_B_2_at _ _ _ _ _ _ _ _ _ _ _ _ _ _ _ _ _ _ _ _ _ _ _ _ _ _ _ _ _ _ _ _ _ _ _ _ _ _ _ _ _ _ _ _ _ _ _ _ _ _ _ (n + 1) (coord0 ⟨n + 1, h⟩) (by omega) r l hr hl,
      Sf_at m c ⟨n + 1, h⟩ _ _ hl (by omega)]
    split_ifs with hq
    · exact congrArg (GS _ _ l) (by dsimp only; omega)
    · exact ih.st r l hr hl (by omega)
  · intro k l hk hl b
    have e3 := congrArg (fun v : Vec Ideal S8x128 .f32 => at2 (a := 8) (b := 128) v k l) e2
    rw [e3, sout0_B_3_at _ _ _ _ _ _ _ _ _ _ _ _ _ _ _ _ _ _ _ _ _ _ _ _ _ _ _ _ _ _ _ _ _ _ _ _ _ _ _ _ _ _ _ _ _ _ _ _ _ _ _ k l hk hl,
      Mx_at m c ⟨n + 1, h⟩ _ _ _ _ hk hl]
    exact mx_step m c n _ b k l (ih.mx k l hk hl b)

/-- The invariant at every point before the last. -/
theorem inv_all : ∀ (n : ℕ) (h : n < cfg0.N), n < 36 →
    Inv m c n (outsAt0 m c n h).2.2.2.2.1 (outsAt0 m c n h).2.2.2.2.2.1 (outsAt0 m c n h).2.2.2.2.2.2
  | 0, h, _ => inv_zero m c h
  | n + 1, h, h36 => inv_succ m c n h h36 (inv_all n (Nat.lt_of_succ_lt h) (by omega))

end K01
-- ==== Proof.Finals.lean ====
/-
  The kernel's four results after its last grid point, at an index, in terms of the arrays it was given.
-/
module

public import proofs.«01_k».proof.Proof.Steps

@[expose] public section

set_option maxRecDepth 65536

noncomputable section

open Idealize.ShloMosaic Idealize.ShloMosaic.TcCoe Idealize.ShloMosaic.Tactic
open Cert.KernelIdeal Cert.KernelIdeal.Gen Cert.KernelIdeal.Value
open Idealize.ShloMosaic.Pipeline (Dat)
open scoped BigOperators

namespace K01

variable (m : (ℓ : Loc nD τ sig) → Buf (Elt Ideal) ℓ) (c : Dev nD)

theorem lt36 : 36 < cfg0.N := by rw [show cfg0.N = 37 from N_0]; omega

/-- The last grid point. -/
def tL : Fin cfg0.N := ⟨36, lt36⟩

theorem eq_tL (t : Fin cfg0.N) (h : t.val % 37 = 36) : t = tL := Fin.ext (by have := tlt t; show t.val = 36; omega)

theorem idxL : win0_6.index tL 0 = 0 ∧ win0_6.index tL 1 = 0 ∧ win0_8.index tL 0 = 0 ∧ win0_8.index tL 1 = 0
    ∧ win0_9.index tL 0 = 0 ∧ win0_9.index tL 1 = 0 := by decide +kernel

/-- What the point before the last one left. -/
theorem prevL (q : ℕ) (hq : q < cfg0.N) (h : q = 35) : outsAt0 (F := Ideal) m c q hq = outsAt0 (F := Ideal) m c 35 (Nat.lt_of_succ_lt lt36) := by
  subst h; rfl

/-- The product. -/
theorem fin6 (r n : ℕ) (hr : r < 128) (hn : n < 3584) :
    (dats (F := Ideal) m 0 c).arrAt 6 cfg0.N (ix2 (a := 128) (b := 3584) r n)
      = ((∑ s ∈ Finset.range 37, GD (aX m c) (aR m c) (aB m c) (aT m c) (ag m c) s r n) * (ag m c * aw m c) : EReal) := by
  have e : ((cfg0.win 6).blk tL).view.emb (ix2 (a := 128) (b := 3584) r n) = ix2 (a := 128) (b := 3584) r n := funext fun a => by
    match a with
    | ⟨0, _⟩ => exact Fin.ext (show win0_6.index tL 0 * 128 + 1 * (r % 128) = r % 128 by rw [idxL.1]; omega)
    | ⟨1, _⟩ => exact Fin.ext (show win0_6.index tL 1 * 3584 + 1 * (n % 3584) = n % 3584 by rw [idxL.2.1]; omega)
  refine (congrArg ((dats (F := Ideal) m 0 c).arrAt 6 cfg0.N) e.symm).trans (((dats (F := Ideal) m 0 c).arrAt_emb_eq_flushed 6 (fun t t' ht ht' hne =>
    absurd ((eq_tL t ((flush0_6 t).mp ht)).trans (eq_tL t' ((flush0_6 t').mp ht')).symm) hne) tL ((flush0_6 tL).mpr rfl) _).trans ?_)
  rw [cast_eq, flushed6]
  have e0 := congrArg (fun o => o.1) (outsAt0_C (F := Ideal) m c tL (by show ¬(36 % 37 = 0); omega) (by show 36 % 37 = 36; omega))
  dsimp only at e0
  have e1 := congrArg (fun v : Vec Ideal S128x3584 .bf16 => at2 (a := 128) (b := 3584) v r n) e0
  try dsimp only at e1
  rw [out0_C_6_at _ _ _ _ _ _ _ _ _ _ _ _ _ _ _ _ _ _ _ _ _ _ _ _ _ _ _ _ _ _ _ _ _ _ _ _ _ _ _ _ _ _ _ _ _ _ _ _ _ _ _ r n hr hn] at e1
  refine Eq.trans e1 ?_
  rw [Db_at m c tL _ _ hr (qn_lt n hn), iblk0, iblk1, pn_qn, Finset.sum_range_succ]
  refine congrArg (fun v : EReal => (v + _) * _) ?_
  rw [prevL m c (tL.val - 1) _ rfl]
  have h := (inv_all m c 35 (Nat.lt_of_succ_lt lt36) (by omega)).acc (ix2 (a := 128) (b := 3584) r (qn n))
  rw [ix2_0, ix2_1, Nat.mod_eq_of_lt hr, Nat.mod_eq_of_lt (qn_lt n hn), pn_qn] at h
  exact h

/-- The scales. -/
theorem fin8 (r b : ℕ) (hr : r < 128) (hb : b < 1184) :
    (dats (F := Ideal) m 0 c).arrAt 8 cfg0.N (ix2 (a := 128) (b := 1184) r b) = GS (aX m c) (ag m c) r b := by
  have e : ((cfg0.win 8).blk tL).view.emb (ix2 (a := 128) (b := 1184) r b) = ix2 (a := 128) (b := 1184) r b := funext fun a => by
    match a with
    | ⟨0, _⟩ => exact Fin.ext (show win0_8.index tL 0 * 128 + 1 * (r % 128) = r % 128 by rw [idxL.2.2.1]; omega)
    | ⟨1, _⟩ => exact Fin.ext (show win0_8.index tL 1 * 1184 + 1 * (b % 1184) = b % 1184 by rw [idxL.2.2.2.1]; omega)
  refine (congrArg ((dats (F := Ideal) m 0 c).arrAt 8 cfg0.N) e.symm).trans (((dats (F := Ideal) m 0 c).arrAt_emb_eq_flushed 8 (fun t t' ht ht' hne =>
    absurd ((eq_tL t ((flush0_8 t).mp ht)).trans (eq_tL t' ((flush0_8 t').mp ht')).symm) hne) tL ((flush0_8 tL).mpr rfl) _).trans ?_)
  rw [cast_eq, flushed8]
  have e0 := congrArg (fun o => o.2.2.1) (outsAt0_C (F := Ideal) m c tL (by show ¬(36 % 37 = 0); omega) (by show 36 % 37 = 36; omega))
  dsimp only at e0
  have e1 := congrArg (fun v : Vec Ideal S128x1184 .fp8e4m3 => at2 (a := 128) (b := 1184) v r b) e0
  try dsimp only at e1
  rw [out0_C_8_at _ _ _ _ _ _ _ _ _ _ _ _ _ _ _ _ _ _ _ _ _ _ _ _ _ _ _ _ _ _ _ _ _ _ _ _ _ _ _ _ _ _ _ _ _ _ _ _ _ _ _ 36 (coord0 tL) (by omega) r b hr hb] at e1
  refine Eq.trans e1 ?_
  rw [Sf_at m c tL _ _ hr (by omega)]
  split_ifs with hq
  · exact congrArg (GS _ _ r) (by show 32 * 36 + b % 32 = b; omega)
  · rw [prevL m c (tL.val - 1) _ rfl]
    exact (inv_all m c 35 (Nat.lt_of_succ_lt lt36) (by omega)).st b r hb hr (by omega)

/-- The largest magnitude, by its upper bounds. -/
theorem fin9 (b : EReal) :
    @LE.le EReal _ ((dats (F := Ideal) m 0 c).arrAt 9 cfg0.N (ix2 (a := 1) (b := 1) 0 0)) b
      ↔ ∀ r n, r < 128 → n < 18944 → mag (at2 (aX m c) r n) ≤ b := by
  have e : ((cfg0.win 9).blk tL).view.emb (ix2 (a := 1) (b := 1) 0 0) = ix2 (a := 1) (b := 1) 0 0 := funext fun a => by
    match a with
    | ⟨0, _⟩ => exact Fin.ext (show win0_9.index tL 0 * 1 + 1 * (0 % 1) = 0 % 1 by rw [idxL.2.2.2.2.1])
    | ⟨1, _⟩ => exact Fin.ext (show win0_9.index tL 1 * 1 + 1 * (0 % 1) = 0 % 1 by rw [idxL.2.2.2.2.2])
  have e1 := (congrArg ((dats (F := Ideal) m 0 c).arrAt 9 cfg0.N) e.symm).trans ((dats (F := Ideal) m 0 c).arrAt_emb_eq_flushed 9 (fun t t' ht ht' hne =>
    absurd ((eq_tL t ((flush0_9 t).mp ht)).trans (eq_tL t' ((flush0_9 t').mp ht')).symm) hne) tL ((flush0_9 tL).mpr rfl) (ix2 (a := 1) (b := 1) 0 0))
  rw [cast_eq, flushed9] at e1
  have e2 := congrArg (fun o => o.2.2.2.1) (outsAt0_C (F := Ideal) m c tL (by show ¬(36 % 37 = 0); omega) (by show 36 % 37 = 36; omega))
  dsimp only at e2
  have e3 := congrFun e2 (ix2 (a := 1) (b := 1) 0 0)
  refine (iff_of_eq (congrArg (fun v : EReal => v ≤ b) (e1.trans e3))).trans ?_
  rw [out0_C_9_le, prevL m c (tL.val - 1) _ rfl]
  have h : (∀ k l, k < 8 → l < 128 → Mx (iblk (F := Ideal) m c 2 tL) (at2 (a := 8) (b := 128) (outsAt0 (F := Ideal) m c 35 (Nat.lt_of_succ_lt lt36)).2.2.2.2.2.2 k l) k l ≤ b)
      ↔ ∀ r n, r < 128 → n < 18944 → mag (at2 (aX m c) r n) ≤ b := by
    constructor
    · intro h r n hr hn
      have h1 := h (n / 16 % 8) r (by omega) hr
      rw [Mx_at m c tL _ _ _ _ (by omega) hr] at h1
      have h2 := (mx_step m c 35 _ b _ r ((inv_all m c 35 (Nat.lt_of_succ_lt lt36) (by omega)).mx _ r (by omega) hr b)).mp h1
      have h3 := h2.2 (n / 512) (by omega) (n / 128 % 4) (by omega)
      refine le_trans ?_ h3
      unfold GA
      have e3 : n = 16 * (32 * (n / 512) + (8 * (n / 128 % 4) + n / 16 % 8)) + n % 16 := by omega
      have := Finset.le_sup (f := fun p => mag (at2 (aX m c) r (16 * (32 * (n / 512) + (8 * (n / 128 % 4) + n / 16 % 8)) + p))) (Finset.mem_range.2 (Nat.mod_lt n (by omega : 0 < 16)))
      try dsimp only at this
      rw [← e3] at this
      exact this
    · intro h k l hk hl
      rw [Mx_at m c tL _ _ _ _ hk hl]
      refine (mx_step m c 35 _ b k l ((inv_all m c 35 (Nat.lt_of_succ_lt lt36) (by omega)).mx k l hk hl b)).mpr ⟨(mag_nonneg _).trans (h 0 0 (by omega) (by omega)), fun s hs j hj => ?_⟩
      unfold GA
      refine Finset.sup_le fun p hp => h l _ hl ?_
      have := Finset.mem_range.1 hp
      omega
  exact h

/-- The codes. -/
theorem fin7 (r i : ℕ) (hr : r < 128) (hi : i < 9472) :
    @Eq (BitVec 8) ((dats (F := Ideal) m 0 c).arrAt 7 cfg0.N (ix2 (a := 128) (b := 9472) r i)) (GC (aX m c) (aR m c) (ag m c) r i) := by
  have ht : i / 256 < cfg0.N := by rw [show cfg0.N = 37 from N_0]; omega
  obtain ⟨t, hv⟩ : ∃ t : Fin cfg0.N, t.val = i / 256 := ⟨⟨i / 256, ht⟩, rfl⟩
  have e : ((cfg0.win 7).blk t).view.emb (ix2 (a := 128) (b := 256) r (i % 256)) = ix2 (a := 128) (b := 9472) r i := funext fun a => by
    match a with
    | ⟨0, _⟩ => exact Fin.ext (show win0_7.index t 0 * 128 + 1 * (r % 128) = r % 128 by rw [(idx7 t).1]; omega)
    | ⟨1, _⟩ => exact Fin.ext (show win0_7.index t 1 * 256 + 1 * (i % 256 % 256) = i % 9472 by rw [(idx7 t).2, hv]; omega)
  refine (congrArg ((dats (F := Ideal) m 0 c).arrAt 7 cfg0.N) e.symm).trans (((dats (F := Ideal) m 0 c).arrAt_emb_eq_flushed 7 disjoint7 t (flush0_7 t) _).trans ?_)
  rw [cast_eq, flushed7]
  have key : (outsAt0 (F := Ideal) m c t.val t.isLt).2.1 (ix2 (a := 128) (b := 256) r (i % 256)) =
      Cf (iblk (F := Ideal) m c 2 t) (iblk (F := Ideal) m c 3 t) (g0 (iblk (F := Ideal) m c 0 t)) (r % 128) (i % 256 % 256) := by
    have := tlt t
    by_cases h0 : t.val % 37 = 0
    · have e0 := congrArg (fun o => o.2.1) (outsAt0_A (F := Ideal) m c t h0 (by omega))
      dsimp only at e0
      rw [e0, out0_A_7_at]
      rfl
    · by_cases h1 : t.val % 37 = 36
      · have e0 := congrArg (fun o => o.2.1) (outsAt0_C (F := Ideal) m c t h0 h1)
        dsimp only at e0
        rw [e0, out0_C_7_at]
        rfl
      · have e0 := congrArg (fun o => o.2.1) (outsAt0_B (F := Ideal) m c t h0 h1)
        dsimp only at e0
        rw [e0, out0_B_7_at]
        rfl
  refine Eq.trans key ?_
  rw [Cf_at m c t _ _ (by omega) (by omega), hv]
  rw [show r % 128 = r by omega, show 256 * (i / 256) + i % 256 % 256 = i by omega]

end K01
-- ==== Proof.RefShape.lean ====
/-
  The remaining shape operations of vectors of rank two and three read at natural-number coordinates: an axis split and
  merged, a unit last axis, and a reduction of the last axis by the maximum.
-/
module

public import proofs.«01_k».proof.Proof.Scr

@[expose] public section

set_option maxRecDepth 65536

noncomputable section

open Idealize.ShloMosaic
open scoped BigOperators

namespace K01

variable {α : Type} {a b c d e : ℕ}

/-- The last axis of a matrix split in two. -/
theorem at3_split [NeZero a] [NeZero b] [NeZero c] [NeZero d] (x : (⟨2, ![a, d]⟩ : Shape).Idx → α)
    (h : (⟨2, ![a, d]⟩ : Shape).ShapeCasts ⟨3, ![a, b, c]⟩) (hd : d = b * c) (i j k : ℕ) (hj : j < b) (hk : k < c) :
    at3 (shapeCast ⟨3, ![a, b, c]⟩ x h) i j k = at2 x i (c * j + k) := by
  have hl : c * j + k < d := by
    have : c * (j + 1) ≤ c * b := Nat.mul_le_mul_left c hj
    rw [hd, Nat.mul_comm b c]; rw [Nat.mul_add, Nat.mul_one] at this; omega
  refine shapeCast_apply x h (ix3 i j k) (ix2 i (c * j + k)) ?_
  rw [Shape.rowMajor_val_two, Shape.rowMajor_val_three]
  show i % a * d + (c * j + k) % d = (i % a * b + j % b) * c + k % c
  rw [Nat.mod_eq_of_lt hl, Nat.mod_eq_of_lt hj, Nat.mod_eq_of_lt hk, hd]
  ring

/-- The two last axes of a rank-three vector merged. -/
theorem at2_join [NeZero a] [NeZero b] [NeZero c] [NeZero d] (x : (⟨3, ![a, b, c]⟩ : Shape).Idx → α)
    (h : (⟨3, ![a, b, c]⟩ : Shape).ShapeCasts ⟨2, ![a, d]⟩) (hd : d = b * c) (i n : ℕ) (hn : n < d) :
    at2 (shapeCast ⟨2, ![a, d]⟩ x h) i n = at3 x i (n / c) (n % c) := by
  have hc : 0 < c := Nat.pos_of_ne_zero (NeZero.ne c)
  have hj : n / c < b := by rw [Nat.div_lt_iff_lt_mul hc]; omega
  refine shapeCast_apply x h (ix2 i n) (ix3 i (n / c) (n % c)) ?_
  rw [Shape.rowMajor_val_two, Shape.rowMajor_val_three]
  show (i % a * b + n / c % b) * c + n % c % c = i % a * d + n % d
  rw [Nat.mod_eq_of_lt hn, Nat.mod_eq_of_lt hj, Nat.mod_mod, hd]
  have := Nat.div_add_mod n c
  calc (i % a * b + n / c) * c + n % c = i % a * (b * c) + (c * (n / c) + n % c) := by ring
    _ = _ := by rw [this]

/-- The two last axes of a rank-three vector split otherwise. -/
theorem at3_resplit [NeZero a] [NeZero b] [NeZero c] [NeZero d] [NeZero e] (x : (⟨3, ![a, b, c]⟩ : Shape).Idx → α)
    (h : (⟨3, ![a, b, c]⟩ : Shape).ShapeCasts ⟨3, ![a, d, e]⟩) (hd : b * c = d * e) (i j k : ℕ) (hj : j < d) (hk : k < e) :
    at3 (shapeCast ⟨3, ![a, d, e]⟩ x h) i j k = at3 x i ((e * j + k) / c) ((e * j + k) % c) := by
  have hc : 0 < c := Nat.pos_of_ne_zero (NeZero.ne c)
  have hl : e * j + k < b * c := by
    have : e * (j + 1) ≤ e * d := Nat.mul_le_mul_left e hj
    rw [hd, Nat.mul_comm d e]; rw [Nat.mul_add, Nat.mul_one] at this; omega
  have hb : (e * j + k) / c < b := by rw [Nat.div_lt_iff_lt_mul hc]; exact hl
  refine shapeCast_apply x h (ix3 i j k) (ix3 i ((e * j + k) / c) ((e * j + k) % c)) ?_
  rw [Shape.rowMajor_val_three, Shape.rowMajor_val_three]
  show (i % a * b + (e * j + k) / c % b) * c + (e * j + k) % c % c = (i % a * d + j % d) * e + k % e
  rw [Nat.mod_eq_of_lt hb, Nat.mod_mod, Nat.mod_eq_of_lt hj, Nat.mod_eq_of_lt hk]
  have := Nat.div_add_mod (e * j + k) c
  calc (i % a * b + (e * j + k) / c) * c + (e * j + k) % c = i % a * (b * c) + (c * ((e * j + k) / c) + (e * j + k) % c) := by ring
    _ = i % a * (d * e) + (e * j + k) := by rw [this, hd]
    _ = _ := by ring

/-- A unit last axis broadcast. -/
theorem at3_broadcastLast [NeZero a] [NeZero b] [NeZero c] (x : (⟨3, ![a, b, 1]⟩ : Shape).Idx → α)
    (h : (⟨3, ![a, b, 1]⟩ : Shape).Broadcasts ⟨3, ![a, b, c]⟩) (i j k : ℕ) :
    at3 (broadcastTo ⟨3, ![a, b, c]⟩ x h) i j k = at3 x i j 0 := by
  refine broadcastTo_apply x h (ix3 i j k) (ix3 i j 0) fun r => ?_
  match r with
  | ⟨0, _⟩ =>
    show i % a = if a = 1 then 0 else i % a
    split
    · next h => subst h; omega
    · rfl
  | ⟨1, _⟩ =>
    show j % b = if b = 1 then 0 else j % b
    split
    · next h => subst h; omega
    · rfl
  | ⟨2, _⟩ => rfl

/-- A matrix given a last axis it is constant along. -/
theorem at3_spread [NeZero a] [NeZero b] [NeZero c] (x : (⟨2, ![a, b]⟩ : Shape).Idx → α)
    (h' : (⟨2, ![a, b]⟩ : Shape).ShapeCasts ⟨3, ![a, b, 1]⟩)
    (h : (⟨3, ![a, b, 1]⟩ : Shape).Broadcasts ⟨3, ![a, b, c]⟩) (i j k : ℕ) (hj : j < b) :
    at3 (broadcastTo ⟨3, ![a, b, c]⟩ (shapeCast ⟨3, ![a, b, 1]⟩ x h') h) i j k = at2 x i j := by
  rw [at3_broadcastLast, at3_split x h' (Nat.mul_one b).symm i j 0 hj Nat.one_pos, Nat.one_mul, Nat.add_zero]

/-- A slice of one along the last axis. -/
theorem at3_sliceLast [NeZero a] [NeZero b] [NeZero c] (o : ℕ) (ho : o < c) (x : (⟨3, ![a, b, c]⟩ : Shape).Idx → α)
    (h : (⟨3, ![a, b, c]⟩ : Shape).Slices ![0, 0, o] ⟨3, ![a, b, 1]⟩) (i j : ℕ) :
    at3 (extractStridedSlice ⟨3, ![a, b, 1]⟩ ![0, 0, o] x h) i j 0 = at3 x i j o := by
  refine extractStridedSlice_apply _ x h (ix3 i j 0) (ix3 i j o) fun r => ?_
  match r with
  | ⟨0, _⟩ => show i % a = 0 + i % a; omega
  | ⟨1, _⟩ => show j % b = 0 + j % b; omega
  | ⟨2, _⟩ => exact Nat.mod_eq_of_lt ho

/-- Two vectors with a unit last axis joined along it. -/
theorem at3_pair [NeZero a] [NeZero b] (x y : (⟨3, ![a, b, 1]⟩ : Shape).Idx → α)
    (h : Shape.Concatenates [⟨3, ![a, b, 1]⟩, ⟨3, ![a, b, 1]⟩] ⟨3, ![a, b, 2]⟩ 2) (i j k : ℕ) (hk : k < 2) :
    at3 (concatenate ⟨3, ![a, b, 2]⟩ 2 [⟨⟨3, ![a, b, 1]⟩, x⟩, ⟨⟨3, ![a, b, 1]⟩, y⟩] h) i j k
      = if k = 0 then at3 x i j 0 else at3 y i j 0 := by
  obtain rfl | rfl : k = 0 ∨ k = 1 := by omega
  · refine (concatenate_pair_apply_left (t := ⟨3, ![a, b, 2]⟩) (s₁ := ⟨3, ![a, b, 1]⟩) (s₂ := ⟨3, ![a, b, 1]⟩) 2 x y h (ix3 i j 0) rfl (ix3 i j 0) fun r => ?_)
    match r with
    | ⟨0, _⟩ => rfl
    | ⟨1, _⟩ => rfl
    | ⟨2, _⟩ => rfl
  · refine (concatenate_pair_apply_right (t := ⟨3, ![a, b, 2]⟩) (s₁ := ⟨3, ![a, b, 1]⟩) (s₂ := ⟨3, ![a, b, 1]⟩) 2 x y h (ix3 i j 1) rfl rfl (ix3 i j 0) (fun r hr => ?_) rfl)
    match r with
    | ⟨0, _⟩ => rfl
    | ⟨1, _⟩ => rfl
    | ⟨2, _⟩ => exact absurd rfl hr

/-- A reduction of the last axis by the maximum is below a bound exactly when every element it runs over is. -/
theorem reduceLast_le [NeZero a] [NeZero b] [NeZero c] (v : FVec Ideal ⟨3, ![a, b, c]⟩ .f32)
    (h : (⟨3, ![a, b, c]⟩ : Shape).Reduces [2] ⟨2, ![a, b]⟩) (h1) (h2) (i j : ℕ) (u : EReal) :
    (at2 (α := EReal) (multiReduction .maximumf [2] ⟨2, ![a, b]⟩ v 0xFF800000#32 h h1 h2 : FVec Ideal ⟨2, ![a, b]⟩ .f32) i j) ≤ u
      ↔ ∀ k, k < c → at3 (α := EReal) v i j k ≤ u := by
  unfold at2
  rw [multiReduction_maximumf_eq_reduceFold, reduceFold_eq_foldl]
  refine (foldl_max_le _ v _ u).trans ?_
  have hb : (FloatOps.ofBits .f32 0xFF800000#32 : Ideal .f32) = (⊥ : EReal) := by
    show c32 0xFF800000#32 = ⊥; simp [c32, Ideal.ofBits, Ideal.ieee]
  rw [hb]
  have d0 : ∀ q : (⟨3, ![a, b, c]⟩ : Shape).Idx, (h.drop q 0).val = (q 0).val := fun q => rfl
  have d1 : ∀ q : (⟨3, ![a, b, c]⟩ : Shape).Idx, (h.drop q 1).val = (q 1).val := fun q => rfl
  constructor
  · intro hh k hk
    refine hh.2 (ix3 i j k) (List.mem_filter.mpr ⟨List.mem_map.mpr ⟨Shape.rowMajor _ (ix3 i j k), List.mem_finRange _, Equiv.symm_apply_apply _ _⟩, ?_⟩)
    refine decide_eq_true (funext fun r => ?_)
    match r with
    | ⟨0, _⟩ => exact Fin.ext (d0 _)
    | ⟨1, _⟩ => exact Fin.ext (d1 _)
  · intro hh
    refine ⟨bot_le, fun q hq => ?_⟩
    have hd := of_decide_eq_true (List.mem_filter.mp hq).2
    have e := at3_of (α := EReal) v q i j (q 2).val ((d0 q).symm.trans (congrArg (fun z : (⟨2, ![a, b]⟩ : Shape).Idx => (z 0).val) hd))
      ((d1 q).symm.trans (congrArg (fun z : (⟨2, ![a, b]⟩ : Shape).Idx => (z 1).val) hd)) (Nat.mod_eq_of_lt (q 2).isLt).symm
    exact le_of_eq_of_le e (hh _ (q 2).isLt)

end K01
-- ==== Proof.RefQuant.lean ====
/-
  The reference's scales, quantised elements and codes, at an index.
-/
module

public import proofs.«01_k».proof.Proof.RefShape
public import proofs.«01_k».proof.Proof.Whole
public import proofs.«01_k».proof.Proof.Gen.ReferenceIdeal.Skeleton

@[expose] public section

set_option maxRecDepth 65536

noncomputable section

open Idealize.ShloMosaic
open Cert.ReferenceIdeal Cert.ReferenceIdeal.Gen
open scoped BigOperators

namespace K01

variable (g : EReal) (x : Vec Ideal S128x18944 .bf16) (u : Vec Ideal S128x18944 .i32)

/-- The gradients, widened. -/
theorem rpay3 : (k0_pay3 (F := Ideal) x : S128x18944.Idx → EReal) = x := by
  show (shapeCast (s := S128x18944) (α := EReal) S128x18944 x shapeCasts_S128x18944_S128x18944) = x
  exact shapeCast_self _ _

/-- The gradients in blocks of sixteen. -/
theorem rpay4 (m b p : ℕ) (hb : b < 1184) (hp : p < 16) :
    at3 (a := 128) (b := 1184) (c := 16) (α := EReal) (k0_pay4 (F := Ideal) x) m b p = at2 (a := 128) (b := 18944) (α := EReal) x m (16 * b + p) := by
  show at3 (a := 128) (b := 1184) (c := 16) (α := EReal) (shapeCast S128x1184x16 (k0_pay3 (F := Ideal) x : S128x18944.Idx → EReal) shapeCasts_S128x18944_S128x1184x16) m b p = _
  rw [rpay3]
  exact at3_split (a := 128) (b := 1184) (c := 16) (d := 18944) _ _ (by norm_num) m b p hb hp

/-- The random words in blocks of sixteen. -/
theorem rrand (h h') (m b p : ℕ) (hb : b < 1184) (hp : p < 16) :
    at3 (a := 128) (b := 1184) (c := 16) (shapeCast S128x1184x16 (shapeCast (s := S128x18944) (α := BitVec 32) S128x18944 u h) h') m b p
      = at2 (a := 128) (b := 18944) (α := BitVec 32) u m (16 * b + p) := by
  rw [shapeCast_self]
  exact at3_split (a := 128) (b := 1184) (c := 16) (d := 18944) _ _ (by norm_num) m b p hb hp

/-- The scales. -/
theorem rpay5 (m b : ℕ) (hb : b < 1184) :
    at2 (a := 128) (b := 1184) (α := EReal) (k0_pay5 (F := Ideal) g x) m b = GS x g m b := by
  have e : at2 (a := 128) (b := 1184) (α := EReal) (k0_pay5 (F := Ideal) g x) m b
      = scaleOf g (at2 (a := 128) (b := 1184) (α := EReal) (multiReduction (F := Ideal) .maximumf [2] S128x1184 (absf (k0_pay4 (F := Ideal) x)) 0xFF800000#32 reduces_S128x1184x16_S128x1184 (.inl rfl) rfl) m b) := rfl
  rw [e]
  unfold GS
  refine congrArg (scaleOf g) (eq_of_forall_ge_iff fun w => ?_)
  refine (reduceLast_le (a := 128) (b := 1184) (c := 16) _ reduces_S128x1184x16_S128x1184 _ _ m b w).trans ?_
  unfold GA
  rw [Finset.sup_le_iff]
  have ea : ∀ p, at3 (a := 128) (b := 1184) (c := 16) (α := EReal) (absf (k0_pay4 (F := Ideal) x)) m b p = mag (at3 (a := 128) (b := 1184) (c := 16) (α := EReal) (k0_pay4 (F := Ideal) x) m b p) := fun _ => rfl
  constructor
  · intro h p hp
    have h1 := h p (Finset.mem_range.1 hp)
    rwa [ea, rpay4 x m b p hb (Finset.mem_range.1 hp)] at h1
  · intro h p hp
    rw [ea, rpay4 x m b p hb hp]
    exact h p (Finset.mem_range.2 hp)

/-- The scaled elements. -/
theorem rpay6 (m b p : ℕ) (hb : b < 1184) (hp : p < 16) :
    at3 (a := 128) (b := 1184) (c := 16) (α := EReal) (k0_pay6 (F := Ideal) g x) m b p = rv g (GS x g m b) (at2 (a := 128) (b := 18944) (α := EReal) x m (16 * b + p)) := by
  have e : at3 (a := 128) (b := 1184) (c := 16) (α := EReal) (k0_pay6 (F := Ideal) g x) m b p
      = Scalar.select (at3 (a := 128) (b := 1184) (c := 16) (broadcastTo S128x1184x16 (shapeCast S128x1184x1 (shapeCast S128x1184x1 (cmpf (F := Ideal) (φ := .f32) .ogt (k0_pay5 (F := Ideal) g x : FVec Ideal S128x1184 .f32) (broadcast S128x1184 (c32 0x00000000#32))) shapeCasts_S128x1184_S128x1184x1) shapeCasts_S128x1184x1_S128x1184x1) broadcasts_S128x1184x1_S128x1184x16) m b p)
        (Ideal.div (at3 (a := 128) (b := 1184) (c := 16) (α := EReal) (k0_pay4 (F := Ideal) x) m b p)
          (at3 (a := 128) (b := 1184) (c := 16) (α := EReal) (broadcastTo S128x1184x16 (shapeCast S128x1184x1 (fun i => divisor g ((k0_pay5 (F := Ideal) g x : S128x1184.Idx → EReal) i)) shapeCasts_S128x1184_S128x1184x1) broadcasts_S128x1184x1_S128x1184x16) m b p))
        (c32 0x00000000#32) := rfl
  rw [e, shapeCast_self, rpay4 x m b p hb hp]
  rw [at3_spread (a := 128) (b := 1184) (c := 16) _ _ _ m b p hb, at3_spread (a := 128) (b := 1184) (c := 16) _ _ _ m b p hb]
  have e1 : ∀ w : S128x1184.Idx → EReal, at2 (a := 128) (b := 1184) (cmpf (F := Ideal) (φ := .f32) .ogt (w : FVec Ideal S128x1184 .f32) (broadcast S128x1184 (c32 0x00000000#32))) m b
    = Ideal.cmp .ogt (at2 (a := 128) (b := 1184) w m b) (c32 0x00000000#32) := fun _ => rfl
  have e2 : ∀ w : S128x1184.Idx → EReal, at2 (a := 128) (b := 1184) (fun i => divisor g (w i)) m b = divisor g (at2 (a := 128) (b := 1184) w m b) := fun _ => rfl
  rw [e1, e2, rpay5 g x m b hb]
  rfl

/-- The rounded magnitudes. -/
theorem rpay10 (m b p : ℕ) (hb : b < 1184) (hp : p < 16) :
    at3 (a := 128) (b := 1184) (c := 16) (α := EReal) (k0_pay10 (F := Ideal) (k0_pay7 (F := Ideal) g x) (k0_pay8 (F := Ideal) g x) (k0_pay9 (F := Ideal) g x) u) m b p
      = rq (ra (rv g (GS x g m b) (at2 (a := 128) (b := 18944) (α := EReal) x m (16 * b + p)))) (at2 (a := 128) (b := 18944) (α := BitVec 32) u m (16 * b + p)) := by
  rw [← rrand u shapeCasts_S128x18944_S128x18944 shapeCasts_S128x18944_S128x1184x16 m b p hb hp, ← rpay6 g x m b p hb hp]
  rfl

/-- The four-bit codes of the elements, as the reference computes them. -/
def rcV (v78 : FVec Ideal S128x1184x16 .f32) (v83 : IVec S128x1184x16 1) : S128x1184x16.Idx → BitVec 32 := fun i =>
  IntOp.ori
    (Ideal.fptosi 32 (Scalar.select (Ideal.cmp .olt (v78 i) (c32 0x40000000#32)) ((v78 i : EReal) * c32 0x40000000#32)
      (Scalar.select (Ideal.cmp .olt (v78 i) (c32 0x40800000#32)) ((v78 i : EReal) + c32 0x40000000#32)
        (Scalar.select (Ideal.cmp .oeq (v78 i) (c32 0x40800000#32)) (c32 0x40C00000#32) (c32 0x40E00000#32)))))
    (Scalar.select (v83 i) 8#32 0#32)

/-- The codes' four bits. -/
theorem rrcV (m b p : ℕ) (hb : b < 1184) (hp : p < 16) :
    at3 (a := 128) (b := 1184) (c := 16) (rcV (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u)) m b p
      = rcode (rv g (GS x g m b) (at2 (a := 128) (b := 18944) (α := EReal) x m (16 * b + p))) (at2 (a := 128) (b := 18944) (α := BitVec 32) u m (16 * b + p)) := by
  unfold rcode
  dsimp only
  rw [← rpay10 g x u m b p hb hp, ← rpay6 g x m b p hb hp]
  rfl

/-- Half `h` of the pair of codes at column `i`. -/
theorem rhalf (v : S128x1184x16.Idx → BitVec 32) (m i h : ℕ) (hi : i < 9472) (hh : h < 2) (hs : S128x9472x2.Slices ![0, 0, h] S128x9472x1) :
    at2 (a := 128) (b := 9472) (shapeCast S128x9472 (extractStridedSlice S128x9472x1 ![0, 0, h] (shapeCast S128x9472x2 v shapeCasts_S128x1184x16_S128x9472x2) hs) shapeCasts_S128x9472x1_S128x9472) m i
      = at3 (a := 128) (b := 1184) (c := 16) v m ((2 * i + h) / 16) ((2 * i + h) % 16) := by
  refine (at2_join (a := 128) (b := 9472) (c := 1) (d := 9472) _ shapeCasts_S128x9472x1_S128x9472 (by norm_num) m i hi).trans ?_
  rw [Nat.div_one, Nat.mod_one]
  refine (at3_sliceLast (a := 128) (b := 9472) (c := 2) h hh _ hs m i).trans ?_
  exact at3_resplit (a := 128) (b := 1184) (c := 16) (d := 9472) (e := 2) v _ (by norm_num) m i h hi hh

/-- The code of the element at row `m`, column `n`: a four-bit code whose value is the quantised element. -/
theorem rcode_at (hg : g ≠ 0) (m n : ℕ) (hn : n < 18944) : ∃ c : Fin 16,
    at3 (a := 128) (b := 1184) (c := 16) (rcV (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u)) m (n / 16) (n % 16)
      = BitVec.ofNat 32 c ∧ kcode (GQ x u g m n) = BitVec.ofNat 32 c ∧ GQ x u g m n = (dec16 c : EReal) := by
  rw [rrcV g x u m (n / 16) (n % 16) (by omega) (by omega), Nat.div_add_mod]
  exact elem_code g (GA x m (n / 16)) (at2 (a := 128) (b := 18944) (α := EReal) x m n) (at2 (a := 128) (b := 18944) (α := BitVec 32) u m n) hg (GA_nonneg x m (n / 16))

/-- The pairs of codes. -/
theorem rpay12 (hg : g ≠ 0) (m i : ℕ) (hi : i < 9472) : ∃ c d : Fin 16,
    at2 (a := 128) (b := 9472) (k0_pay12 (F := Ideal) (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u) 8#32) m i
      = IntOp.ori (BitVec.ofNat 32 c) (IntOp.shli .vector (BitVec.ofNat 32 d) 4#32)
    ∧ (kcode (GQ x u g m (2 * i)) = BitVec.ofNat 32 c ∧ GQ x u g m (2 * i) = (dec16 c : EReal))
    ∧ (kcode (GQ x u g m (2 * i + 1)) = BitVec.ofNat 32 d ∧ GQ x u g m (2 * i + 1) = (dec16 d : EReal)) := by
  obtain ⟨c, hc, hc'⟩ := rcode_at g x u hg m (2 * i) (by omega)
  obtain ⟨d, hd, hd'⟩ := rcode_at g x u hg m (2 * i + 1) (by omega)
  refine ⟨c, d, ?_, hc', hd'⟩
  rw [← hc, ← hd]
  have h0 := rhalf (rcV (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u)) m i 0 hi (by omega) slices_S128x9472x2_o0_0_0_S128x9472x1
  have h1 := rhalf (rcV (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u)) m i 1 hi (by omega) slices_S128x9472x2_o0_0_1_S128x9472x1
  rw [Nat.add_zero] at h0
  rw [← h0, ← h1]
  rfl

/-- The codes written. -/
theorem rpay13 (hg : g ≠ 0) (m i : ℕ) (hi : i < 9472) :
    at2 (a := 128) (b := 9472) (k0_pay13 (F := Ideal) (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u) 8#32) m i
      = GC x u g m i := by
  obtain ⟨c, d, h, hc, hd⟩ := rpay12 g x u hg m i hi
  unfold GC
  rw [hc.1, hd.1, ← h]
  rfl

end K01
-- ==== Proof.RefProd.lean ====
/-
  The reference's dequantised gradients, its weights, their product and the largest magnitude, at an index.
-/
module

public import proofs.«01_k».proof.Proof.RefQuant

@[expose] public section

set_option maxRecDepth 65536

noncomputable section

open Idealize.ShloMosaic
open Cert.ReferenceIdeal Cert.ReferenceIdeal.Gen
open scoped BigOperators

namespace K01

variable (g : EReal) (x : Vec Ideal S128x18944 .bf16) (u : Vec Ideal S128x18944 .i32)
  (B : Vec Ideal S18944x1792 .i8) (T : Vec Ideal S1184x224 .fp8e4m3)

/-- The low code of a pair. -/
theorem pair_lo (c d : Fin 16) : IntOp.andi (IntOp.ori (BitVec.ofNat 32 c) (IntOp.shli .vector (BitVec.ofNat 32 d) 4#32)) 15#32 = BitVec.ofNat 32 c := by
  revert c d; decide
/-- The high code of a pair. -/
theorem pair_hi (c d : Fin 16) : IntOp.andi (IntOp.shrsi .vector (IntOp.ori (BitVec.ofNat 32 c) (IntOp.shli .vector (BitVec.ofNat 32 d) 4#32)) 4#32) 15#32 = BitVec.ofNat 32 d := by
  revert c d; decide
/-- The low code of a byte. -/
theorem byte_lo (w : BitVec 8) : IntOp.andi (w.setWidth 32) 15#32 = BitVec.ofNat 32 (nib w 0) := by revert w; decide
/-- The high code of a byte. -/
theorem byte_hi (w : BitVec 8) : IntOp.andi (IntOp.shrsi .vector (w.setWidth 32) 4#32) 15#32 = BitVec.ofNat 32 (nib w 1) := by revert w; decide

/-- The codes unpacked. -/
theorem rpay14 (hg : g ≠ 0) (m i h : ℕ) (hi : i < 9472) (hh : h < 2) : ∃ c : Fin 16,
    at3 (a := 128) (b := 9472) (c := 2) (k0_pay14 (F := Ideal) (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u) 8#32) m i h
      = BitVec.ofNat 32 c ∧ GQ x u g m (2 * i + h) = (dec16 c : EReal) := by
  obtain ⟨c, d, hp, hc, hd⟩ := rpay12 g x u hg m i hi
  unfold k0_pay14
  rw [at3_pair (a := 128) (b := 9472) _ _ concatenates_S128x9472x1_S128x9472x1_S128x9472x2_d2 m i h hh]
  obtain rfl | rfl : h = 0 ∨ h = 1 := by omega
  · refine ⟨c, ?_, hc.2⟩
    rw [if_pos rfl]
    refine (at3_split (a := 128) (b := 9472) (c := 1) (d := 9472) _ shapeCasts_S128x9472_S128x9472x1 (by norm_num) m i 0 hi Nat.one_pos).trans ?_
    rw [Nat.one_mul, Nat.add_zero, ← pair_lo c d, ← hp]
    rfl
  · refine ⟨d, ?_, hd.2⟩
    rw [if_neg (by omega)]
    refine (at3_split (a := 128) (b := 9472) (c := 1) (d := 9472) _ shapeCasts_S128x9472_S128x9472x1 (by norm_num) m i 0 hi Nat.one_pos).trans ?_
    rw [Nat.one_mul, Nat.add_zero, ← pair_hi c d, ← hp]
    rfl

/-- The dequantised gradients. -/
theorem rpay16 (hg : g ≠ 0) (m n : ℕ) (hn : n < 18944) :
    at2 (a := 128) (b := 18944) (α := EReal) (k0_pay16 (F := Ideal) (k0_pay5 (F := Ideal) g x)
      (k0_pay14 (F := Ideal) (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u) 8#32)
      (k0_pay15 (F := Ideal) (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u) 8#32)) m n
      = GQ x u g m n * GS x g m (n / 16) := by
  obtain ⟨c, hc, hq⟩ := rpay14 g x u hg m (n / 2) (n % 2) (by omega) (by omega)
  rw [Nat.div_add_mod] at hq
  unfold k0_pay15
  generalize k0_pay14 (F := Ideal) (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u) 8#32 = v at hc ⊢
  have e : ∀ s : S128x1184.Idx → EReal, at2 (a := 128) (b := 18944) (α := EReal) (k0_pay16 (F := Ideal) s v (andi (shrsi v (broadcast S128x9472x2 3#32)) (broadcast S128x9472x2 1#32))) m n
      = at2 (a := 128) (b := 18944) (α := EReal) (shapeCast S128x18944 (fun i => (shapeCast S128x1184x16 (fun j : S128x9472x2.Idx => rdec (v j)) shapeCasts_S128x9472x2_S128x1184x16 i : EReal)
          * broadcastTo S128x1184x16 (shapeCast S128x1184x1 s shapeCasts_S128x1184_S128x1184x1) broadcasts_S128x1184x1_S128x1184x16 i) shapeCasts_S128x1184x16_S128x18944) m n := fun _ => rfl
  refine (e _).trans ?_
  rw [at2_join (a := 128) (b := 1184) (c := 16) (d := 18944) _ shapeCasts_S128x1184x16_S128x18944 (by norm_num) m n hn]
  have e2 : ∀ p q : S128x1184x16.Idx → EReal, at3 (a := 128) (b := 1184) (c := 16) (fun i => p i * q i) m (n / 16) (n % 16)
    = at3 (a := 128) (b := 1184) (c := 16) p m (n / 16) (n % 16) * at3 (a := 128) (b := 1184) (c := 16) q m (n / 16) (n % 16) := fun _ _ => rfl
  rw [e2, at3_resplit (a := 128) (b := 9472) (c := 2) (d := 1184) (e := 16) _ shapeCasts_S128x9472x2_S128x1184x16 (by norm_num) m (n / 16) (n % 16) (by omega) (by omega),
    at3_spread (a := 128) (b := 1184) (c := 16) _ _ _ m (n / 16) (n % 16) (by omega), Nat.div_add_mod, hq, ← rdec_eq c, ← hc]
  refine congrArg (at3 (a := 128) (b := 9472) (c := 2) (fun j : S128x9472x2.Idx => rdec (v j)) m (n / 2) (n % 2) * ·) ?_
  exact rpay5 g x m (n / 16) (by omega)

/-- The weights before their scales. -/
theorem rpay19 (k j h : ℕ) (hj : j < 1792) (hh : h < 2) :
    at3 (a := 18944) (b := 1792) (c := 2) (α := EReal) (k0_pay19 (F := Ideal) (k0_pay17 (F := Ideal) B) (k0_pay18 (F := Ideal) B)) k j h
      = (dec16 (nib (at2 (a := 18944) (b := 1792) (α := BitVec 8) B k j) h) : EReal) := by
  have e : at3 (a := 18944) (b := 1792) (c := 2) (α := EReal) (k0_pay19 (F := Ideal) (k0_pay17 (F := Ideal) B) (k0_pay18 (F := Ideal) B)) k j h
      = rdec (at3 (a := 18944) (b := 1792) (c := 2) (concatenate S18944x1792x2 2
        [⟨S18944x1792x1, shapeCast S18944x1792x1 (fun i : S18944x1792.Idx => IntOp.andi ((B i : BitVec 8).setWidth 32) 15#32) shapeCasts_S18944x1792_S18944x1792x1⟩,
         ⟨S18944x1792x1, shapeCast S18944x1792x1 (fun i : S18944x1792.Idx => IntOp.andi (IntOp.shrsi .vector ((B i : BitVec 8).setWidth 32) 4#32) 15#32) shapeCasts_S18944x1792_S18944x1792x1⟩]
        concatenates_S18944x1792x1_S18944x1792x1_S18944x1792x2_d2) k j h) := rfl
  rw [e, at3_pair (a := 18944) (b := 1792) _ _ concatenates_S18944x1792x1_S18944x1792x1_S18944x1792x2_d2 k j h hh, ← rdec_eq]
  refine congrArg rdec ?_
  obtain rfl | rfl : h = 0 ∨ h = 1 := by omega
  · rw [if_pos rfl]
    refine (at3_split (a := 18944) (b := 1792) (c := 1) (d := 1792) _ shapeCasts_S18944x1792_S18944x1792x1 (by norm_num) k j 0 hj Nat.one_pos).trans ?_
    rw [Nat.one_mul, Nat.add_zero]
    exact byte_lo _
  · rw [if_neg (by omega)]
    refine (at3_split (a := 18944) (b := 1792) (c := 1) (d := 1792) _ shapeCasts_S18944x1792_S18944x1792x1 (by norm_num) k j 0 hj Nat.one_pos).trans ?_
    rw [Nat.one_mul, Nat.add_zero]
    exact byte_hi _

/-- The weights in blocks of sixteen rows and sixteen columns. -/
theorem rw_tile (w : S18944x1792x2.Idx → EReal) (k n : ℕ) (hk : k < 18944) (hn : n < 3584) :
    shapeCast S1184x16x224x16 w shapeCasts_S18944x1792x2_S1184x16x224x16 (ix4 (a := 1184) (b := 16) (c := 224) (d := 16) (k / 16) (k % 16) (n / 16) (n % 16))
      = at3 (a := 18944) (b := 1792) (c := 2) w k (n / 2) (n % 2) := by
  refine shapeCast_apply w shapeCasts_S18944x1792x2_S1184x16x224x16 _ (ix3 (a := 18944) (b := 1792) (c := 2) k (n / 2) (n % 2)) ?_
  rw [Shape.rowMajor_val_three, Shape.rowMajor_val_four]
  show (k % 18944 * 1792 + n / 2 % 1792) * 2 + n % 2 % 2 = ((k / 16 % 1184 * 16 + k % 16 % 16) * 224 + n / 16 % 224) * 16 + n % 16 % 16
  omega

/-- The weights' scales over those blocks. -/
theorem rw_scale (w : S1184x224.Idx → EReal) (k n : ℕ) (hk : k < 18944) (hn : n < 3584) :
    broadcastTo S1184x16x224x16 (shapeCast S1184x1x224x1 w shapeCasts_S1184x224_S1184x1x224x1) broadcasts_S1184x1x224x1_S1184x16x224x16
      (ix4 (a := 1184) (b := 16) (c := 224) (d := 16) (k / 16) (k % 16) (n / 16) (n % 16))
      = at2 (a := 1184) (b := 224) w (k / 16) (n / 16) := by
  refine (broadcastTo_apply _ broadcasts_S1184x1x224x1_S1184x16x224x16 _ (ix4 (a := 1184) (b := 1) (c := 224) (d := 1) (k / 16) 0 (n / 16) 0) fun r => ?_).trans ?_
  · match r with
    | ⟨0, _⟩ => rfl
    | ⟨1, _⟩ => rfl
    | ⟨2, _⟩ => rfl
    | ⟨3, _⟩ => rfl
  · refine shapeCast_apply w shapeCasts_S1184x224_S1184x1x224x1 _ (ix2 (a := 1184) (b := 224) (k / 16) (n / 16)) ?_
    rw [Shape.rowMajor_val_two, Shape.rowMajor_val_four]
    show k / 16 % 1184 * 224 + n / 16 % 224 = ((k / 16 % 1184 * 1 + 0 % 1) * 224 + n / 16 % 224) * 1 + 0 % 1
    omega

/-- A matrix product started at zero, scaled. -/
theorem rmat (l : S128x18944.Idx → EReal) (w : S18944x3584.Idx → EReal) (m n : ℕ) (hm : m < 128) (hn : n < 3584) :
    at2 (a := 128) (b := 3584) (α := EReal) (matmul (F := Ideal) (φ₁ := .bf16) (φ₂ := .bf16) dot_S128x18944_S18944x3584_S128x3584_1_0_0_1_n_n none l w (constant S128x3584 .f32 0x00000000#32)) m n
      = ∑ k : Fin 18944, at2 (a := 128) (b := 18944) l m k.val * at2 (a := 18944) (b := 3584) w k.val n := by
  have hx : (ix2 (a := 128) (b := 3584) m n) = ValueIdx.ix2 (⟨m, hm⟩ : Fin 128) (⟨n, hn⟩ : Fin 3584) := by
    funext r
    match r with
    | ⟨0, _⟩ => exact Fin.ext (Nat.mod_eq_of_lt hm)
    | ⟨1, _⟩ => exact Fin.ext (Nat.mod_eq_of_lt hn)
  show FloatOps.matmul (F := Ideal) (φ₁ := .bf16) (φ₂ := .bf16) (DotDims.plain 128 18944 3584) none l w (constant S128x3584 .f32 0x00000000#32) (ix2 (a := 128) (b := 3584) m n) = _
  rw [hx, Ideal.matmul_plain_apply]
  have e0 : (constant (F := Ideal) S128x3584 .f32 0x00000000#32 (ValueIdx.ix2 (⟨m, hm⟩ : Fin 128) (⟨n, hn⟩ : Fin 3584)) : EReal) = 0 := by
    show c32 0x00000000#32 = 0
    rw [c_zero, EReal.coe_zero]
  refine (congrArg (· + _) e0).trans ((zero_add _).trans (Finset.sum_congr rfl fun k _ => ?_))
  have hk := k.isLt
  refine congrArg₂ (· * ·) ?_ ?_
  · exact at2_of (a := 128) (b := 18944) l _ _ _ (Nat.mod_eq_of_lt hm).symm (Nat.mod_eq_of_lt hk).symm
  · exact at2_of (a := 18944) (b := 3584) w _ _ _ (Nat.mod_eq_of_lt hk).symm (Nat.mod_eq_of_lt hn).symm

/-- The product scaled by both scales. -/
theorem rpay1 (l : S128x18944.Idx → EReal) (w : S18944x1792x2.Idx → EReal) (wg : EReal) (m n : ℕ) (hm : m < 128) (hn : n < 3584) :
    at2 (a := 128) (b := 3584) (α := EReal) (k0_pay1 (F := Ideal) g l w T wg) m n
      = ((∑ k : Fin 18944, at2 (a := 128) (b := 18944) l m k.val * (at3 (a := 18944) (b := 1792) (c := 2) w k.val (n / 2) (n % 2) * at2 (a := 1184) (b := 224) (α := EReal) T (k.val / 16) (n / 16))) * (g * wg) : EReal) := by
  have e : at2 (a := 128) (b := 3584) (α := EReal) (k0_pay1 (F := Ideal) g l w T wg) m n
      = at2 (a := 128) (b := 3584) (α := EReal) (matmul (F := Ideal) (φ₁ := .bf16) (φ₂ := .bf16) dot_S128x18944_S18944x3584_S128x3584_1_0_0_1_n_n none l
        (shapeCast S18944x3584 (fun i => (shapeCast S1184x16x224x16 w shapeCasts_S18944x1792x2_S1184x16x224x16 i : EReal)
          * broadcastTo S1184x16x224x16 (shapeCast S1184x1x224x1 (T : S1184x224.Idx → EReal) shapeCasts_S1184x224_S1184x1x224x1) broadcasts_S1184x1x224x1_S1184x16x224x16 i)
          shapeCasts_S1184x16x224x16_S18944x3584) (constant S128x3584 .f32 0x00000000#32)) m n * (g * wg) := rfl
  rw [e, rmat _ _ m n hm hn]
  refine congrArg (· * (g * wg)) (Finset.sum_congr rfl fun k _ => congrArg (_ * ·) ?_)
  have hk := k.isLt
  refine (shapeCast_apply _ shapeCasts_S1184x16x224x16_S18944x3584 (ix2 (a := 18944) (b := 3584) k.val n)
    (ix4 (a := 1184) (b := 16) (c := 224) (d := 16) (k.val / 16) (k.val % 16) (n / 16) (n % 16)) ?_).trans ?_
  · rw [Shape.rowMajor_val_two, Shape.rowMajor_val_four]
    show ((k.val / 16 % 1184 * 16 + k.val % 16 % 16) * 224 + n / 16 % 224) * 16 + n % 16 % 16 = k.val % 18944 * 3584 + n % 3584
    omega
  · exact congrArg₂ (· * ·) (rw_tile w k.val n hk hn) (rw_scale (T : S1184x224.Idx → EReal) k.val n hk hn)

/-- A sum over the rows of the weights, in thirty-seven runs of 512. -/
theorem sum_runs (f : ℕ → EReal) : (∑ k : Fin 18944, f k.val) = ∑ s ∈ Finset.range 37, ∑ k : Fin 512, f (512 * s + k.val) := by
  rw [Fin.sum_univ_eq_sum_range f 18944]
  have h : ∀ N, (∑ k ∈ Finset.range (512 * N), f k) = ∑ s ∈ Finset.range N, ∑ k : Fin 512, f (512 * s + k.val) := by
    intro N
    induction N with
    | zero => simp
    | succ N ih =>
      rw [Finset.sum_range_succ, ← ih, show 512 * (N + 1) = 512 * N + 512 by ring, Finset.sum_range_add]
      exact congrArg (_ + ·) (Fin.sum_univ_eq_sum_range (fun k => f (512 * N + k)) 512).symm
  exact h 37

/-- The result. -/
theorem rdx (hg : g ≠ 0) (wg : EReal) (m n : ℕ) (hm : m < 128) (hn : n < 3584) :
    at2 (a := 128) (b := 3584) (α := EReal) (k0_pay1 (F := Ideal) g (k0_pay16 (F := Ideal) (k0_pay5 (F := Ideal) g x)
      (k0_pay14 (F := Ideal) (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u) 8#32)
      (k0_pay15 (F := Ideal) (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u) 8#32))
      (k0_pay19 (F := Ideal) (k0_pay17 (F := Ideal) B) (k0_pay18 (F := Ideal) B)) T wg) m n
      = ((∑ s ∈ Finset.range 37, GD x u B T g s m n) * (g * wg) : EReal) := by
  refine (rpay1 g T _ _ wg m n hm hn).trans (congrArg (· * (g * wg)) ?_)
  refine Eq.trans ?_ (sum_runs fun k => GQ x u g m k * GS x g m (k / 16) * GW B T k n)
  refine Finset.sum_congr rfl fun k _ => congrArg₂ (· * ·) (rpay16 g x u hg m k.val k.isLt) ?_
  exact congrArg (· * _) (rpay19 B k.val (n / 2) (n % 2) (by omega) (by omega))

/-- A vector of one element read at its element. -/
theorem extract_one (w : FVec Ideal S1 .f32) : ∃ j : S1.Idx, extractAt ![0, 0, 0] (shapeCast S1x1x1 w shapeCasts_S1_S1x1x1) inpos_S1x1x1_p0_0_0 = w j := ⟨_, rfl⟩

/-- The largest magnitude, by its upper bounds. -/
theorem rpay2_le (b : EReal) :
    (k0_pay2 (F := Ideal) (k0_pay3 (F := Ideal) x) : EReal) ≤ b ↔ ∀ r n, r < 128 → n < 18944 → mag (at2 (a := 128) (b := 18944) (α := EReal) x r n) ≤ b := by
  obtain ⟨j, hj⟩ := extract_one (multiReduction .maximumf [1, 2] S1 (shapeCast S1x128x18944 (absf (F := Ideal) (φ := .f32) (k0_pay3 (F := Ideal) x)) shapeCasts_S128x18944_S1x128x18944) 0xFF800000#32 reduces_S1x128x18944_S1 (.inl rfl) rfl)
  unfold k0_pay2
  refine (iff_of_eq (congrArg (fun z : EReal => z ≤ b) hj)).trans ?_
  refine (reduceMax_le (shapeCast S1x128x18944 (absf (F := Ideal) (φ := .f32) (k0_pay3 (F := Ideal) x)) shapeCasts_S128x18944_S1x128x18944) reduces_S1x128x18944_S1 (.inl rfl) rfl (by intro b; match b with | ⟨0, _⟩ => rfl) _ b).trans ?_
  have e : ∀ i : S1x128x18944.Idx, (shapeCast S1x128x18944 (absf (F := Ideal) (φ := .f32) (k0_pay3 (F := Ideal) x)) shapeCasts_S128x18944_S1x128x18944 i : EReal)
      = mag (at2 (a := 128) (b := 18944) (α := EReal) x (i 1).val (i 2).val) := by
    intro i
    have h0 : (i 0).val = 0 := Nat.lt_one_iff.mp (i 0).isLt
    have h1 : (i 1).val < 128 := (i 1).isLt
    have h2 : (i 2).val < 18944 := (i 2).isLt
    refine (shapeCast_apply _ _ _ (ix2 (a := 128) (b := 18944) (i 1).val (i 2).val) (by
      rw [Shape.rowMajor_val_three, Shape.rowMajor_val_two]
      show (i 1).val % 128 * 18944 + (i 2).val % 18944 = ((i 0).val * 128 + (i 1).val) * 18944 + (i 2).val
      omega)).trans ?_
    show mag ((k0_pay3 (F := Ideal) x : S128x18944.Idx → EReal) (ix2 (a := 128) (b := 18944) (i 1).val (i 2).val)) = _
    rw [rpay3]
    rfl
  constructor
  · intro h r n hr hn
    have := h (ix3 (a := 1) (b := 128) (c := 18944) 0 r n)
    rw [e] at this
    rwa [show ((ix3 (a := 1) (b := 128) (c := 18944) 0 r n) 1).val = r from Nat.mod_eq_of_lt hr,
      show ((ix3 (a := 1) (b := 128) (c := 18944) 0 r n) 2).val = n from Nat.mod_eq_of_lt hn] at this
  · intro h i
    rw [e]
    exact h _ _ (i 1).isLt (i 2).isLt

end K01
-- ==== Proof.RefLink.lean ====
/-
  What the reference's one run stores into each result, as the payloads of its operands.
-/
module

public import proofs.«01_k».proof.Proof.RefProd
public import proofs.«01_k».proof.Proof.Gen.ReferenceIdeal.Value

@[expose] public section

set_option maxRecDepth 65536

noncomputable section

open Idealize.ShloMosaic Idealize.ShloMosaic.TcCoe Idealize.ShloMosaic.Tactic
open Cert.ReferenceIdeal Cert.ReferenceIdeal.Gen
open scoped BigOperators

namespace K01

/-- A scalar operand, as loaded. -/
def rls (arg : Memref sig .tc .smem S1x1 .f32) (harg : arg.IsWhole) (x : Vec Ideal S1x1 .f32) : Ideal .f32 :=
  View.readAt (Elt Ideal) arg.view (Rect.unit (s := S1x1) ![0, 0] S1x1.size inb_S1x1_S1x1_0_0).toLoadRect (harg.unread x)
    (Shape.Idx.first (by decide))

/-- The scalar operand loaded is its one element. -/
theorem rls_eq (arg : Memref sig .tc .smem S1x1 .f32) (harg : arg.IsWhole) (x : Vec Ideal S1x1 .f32) :
    rls arg harg x = at2 (a := 1) (b := 1) x 0 0 := by
  unfold rls
  rw [View.readAt_eq_ld, Memref.IsWhole.read_unread]
  refine at2_of (a := 1) (b := 1) x _ _ _ ?_ ?_
  · exact Nat.lt_one_iff.mp (Fin.isLt _)
  · exact Nat.lt_one_iff.mp (Fin.isLt _)

/-- The gradients, as loaded. -/
def rl2 (arg : Memref sig .tc .vmem S128x18944 .bf16) (harg : arg.IsWhole) (x : Vec Ideal S128x18944 .bf16) : Vec Ideal S128x18944 .bf16 :=
  View.readAt (Elt Ideal) arg.view (Rect.unit (s := S128x18944) ![0, 0] S128x18944.size inb_S128x18944_S128x18944_0_0).toLoadRect (harg.unread x)

/-- What is loaded is the operand whole. -/
theorem rl2_eq (arg : Memref sig .tc .vmem S128x18944 .bf16) (harg : arg.IsWhole) (x : Vec Ideal S128x18944 .bf16) : rl2 arg harg x = x := by
  unfold rl2
  rw [View.readAt_eq_ld, Memref.IsWhole.read_unread]
  exact View.ld_unit_zero zero2 _ _

/-- The random words, as loaded. -/
def rl3 (arg : Memref sig .tc .vmem S128x18944 .i32) (harg : arg.IsWhole) (x : Vec Ideal S128x18944 .i32) : Vec Ideal S128x18944 .i32 :=
  View.readAt (Elt Ideal) arg.view (Rect.unit (s := S128x18944) ![0, 0] S128x18944.size inb_S128x18944_S128x18944_0_0).toLoadRect (harg.unread x)

/-- What is loaded is the operand whole. -/
theorem rl3_eq (arg : Memref sig .tc .vmem S128x18944 .i32) (harg : arg.IsWhole) (x : Vec Ideal S128x18944 .i32) : rl3 arg harg x = x := by
  unfold rl3
  rw [View.readAt_eq_ld, Memref.IsWhole.read_unread]
  exact View.ld_unit_zero zero2 _ _

/-- The packed weights, as loaded. -/
def rl4 (arg : Memref sig .tc .vmem S18944x1792 .i8) (harg : arg.IsWhole) (x : Vec Ideal S18944x1792 .i8) : Vec Ideal S18944x1792 .i8 :=
  View.readAt (Elt Ideal) arg.view (Rect.unit (s := S18944x1792) ![0, 0] S18944x1792.size inb_S18944x1792_S18944x1792_0_0).toLoadRect (harg.unread x)

/-- What is loaded is the operand whole. -/
theorem rl4_eq (arg : Memref sig .tc .vmem S18944x1792 .i8) (harg : arg.IsWhole) (x : Vec Ideal S18944x1792 .i8) : rl4 arg harg x = x := by
  unfold rl4
  rw [View.readAt_eq_ld, Memref.IsWhole.read_unread]
  exact View.ld_unit_zero zero2 _ _

/-- The weights' scales, as loaded. -/
def rl5 (arg : Memref sig .tc .vmem S1184x224 .fp8e4m3) (harg : arg.IsWhole) (x : Vec Ideal S1184x224 .fp8e4m3) : Vec Ideal S1184x224 .fp8e4m3 :=
  View.readAt (Elt Ideal) arg.view (Rect.unit (s := S1184x224) ![0, 0] S1184x224.size inb_S1184x224_S1184x224_0_0).toLoadRect (harg.unread x)

/-- What is loaded is the operand whole. -/
theorem rl5_eq (arg : Memref sig .tc .vmem S1184x224 .fp8e4m3) (harg : arg.IsWhole) (x : Vec Ideal S1184x224 .fp8e4m3) : rl5 arg harg x = x := by
  unfold rl5
  rw [View.readAt_eq_ld, Memref.IsWhole.read_unread]
  exact View.ld_unit_zero zero2 _ _

/-- The result of loaded operands. -/
def R6 (g wg : Ideal .f32) (x : Vec Ideal S128x18944 .bf16) (u : Vec Ideal S128x18944 .i32) (B : Vec Ideal S18944x1792 .i8) (T : Vec Ideal S1184x224 .fp8e4m3) : FVec Ideal S128x3584 .bf16 :=
  k0_pay1 (F := Ideal) g (k0_pay16 (F := Ideal) (k0_pay5 (F := Ideal) g x) (k0_pay14 (F := Ideal) (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u) 8#32) (k0_pay15 (F := Ideal) (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u) 8#32))
    (k0_pay19 (F := Ideal) (k0_pay17 (F := Ideal) B) (k0_pay18 (F := Ideal) B)) T wg

/-- The codes of loaded operands. -/
def R7 (g : Ideal .f32) (x : Vec Ideal S128x18944 .bf16) (u : Vec Ideal S128x18944 .i32) : IVec S128x9472 8 :=
  k0_pay13 (F := Ideal) (k0_pay10 (F := Ideal) (k0_pay7 (F := Ideal) g x) (k0_pay8 (F := Ideal) g x) (k0_pay9 (F := Ideal) g x) u) (k0_pay11 (F := Ideal) (k0_pay6 (F := Ideal) g x) (k0_pay7 (F := Ideal) g x) (k0_pay8 (F := Ideal) g x) (k0_pay9 (F := Ideal) g x) u) 8#32

variable (c : Dev nD) (arg0 : Memref sig .tc .smem S1x1 .f32) (harg0 : arg0.IsWhole) (arg1 : Memref sig .tc .smem S1x1 .f32) (harg1 : arg1.IsWhole) (arg2 : Memref sig .tc .vmem S128x18944 .bf16) (harg2 : arg2.IsWhole) (arg3 : Memref sig .tc .vmem S128x18944 .i32) (harg3 : arg3.IsWhole) (arg4 : Memref sig .tc .vmem S18944x1792 .i8) (harg4 : arg4.IsWhole) (arg5 : Memref sig .tc .vmem S1184x224 .fp8e4m3) (harg5 : arg5.IsWhole) (arg6 : Memref sig .tc .vmem S128x3584 .bf16) (harg6 : arg6.IsWhole) (arg7 : Memref sig .tc .vmem S128x9472 .i8) (harg7 : arg7.IsWhole) (arg8 : Memref sig .tc .vmem S128x1184 .fp8e4m3) (harg8 : arg8.IsWhole) (arg9 : Memref sig .tc .smem S1x1 .f32) (harg9 : arg9.IsWhole)
  (x0 : Vec Ideal S1x1 .f32) (x1 : Vec Ideal S1x1 .f32) (x2 : Vec Ideal S128x18944 .bf16) (x3 : Vec Ideal S128x18944 .i32) (x4 : Vec Ideal S18944x1792 .i8) (x5 : Vec Ideal S1184x224 .fp8e4m3)

/-- The store into the result. -/
theorem RL6 : (kernelRun0_A (F := Ideal) c arg0 harg0 arg1 harg1 arg2 harg2 arg3 harg3 arg4 harg4 arg5 harg5 arg6 harg6 arg7 harg7 arg8 harg8 arg9 harg9 x0 x1 x2 x3 x4 x5).1 = [⟨Rect.unit (s := S128x3584) ![0, 0] S128x3584.size inb_S128x3584_S128x3584_0_0, R6 (rls arg0 harg0 x0) (rls arg1 harg1 x1) (rl2 arg2 harg2 x2) (rl3 arg3 harg3 x3) (rl4 arg4 harg4 x4) (rl5 arg5 harg5 x5)⟩] := by sl_kernel_rfl

/-- What the run leaves in the result. -/
theorem rout6 : out0_A_6 (F := Ideal) c arg0 harg0 arg1 harg1 arg2 harg2 arg3 harg3 arg4 harg4 arg5 harg5 arg6 harg6 arg7 harg7 arg8 harg8 arg9 harg9 x0 x1 x2 x3 x4 x5 = R6 (at2 (a := 1) (b := 1) x0 0 0) (at2 (a := 1) (b := 1) x1 0 0) x2 x3 x4 x5 := by
  unfold out0_A_6
  rw [View.read_writes_eq_canon _ _ _ (cover0_A_6 c arg0 harg0 arg1 harg1 arg2 harg2 arg3 harg3 arg4 harg4 arg5 harg5 arg6 harg6 arg7 harg7 arg8 harg8 arg9 harg9 x0 x1 x2 x3 x4 x5), RL6, View.canon_unit_zero zero2]
  simp only [rls_eq, rl2_eq, rl3_eq, rl4_eq, rl5_eq]

/-- The store into the codes. -/
theorem RL7 : (kernelRun0_A (F := Ideal) c arg0 harg0 arg1 harg1 arg2 harg2 arg3 harg3 arg4 harg4 arg5 harg5 arg6 harg6 arg7 harg7 arg8 harg8 arg9 harg9 x0 x1 x2 x3 x4 x5).2.1 = [⟨Rect.unit (s := S128x9472) ![0, 0] S128x9472.size inb_S128x9472_S128x9472_0_0, R7 (rls arg0 harg0 x0) (rl2 arg2 harg2 x2) (rl3 arg3 harg3 x3)⟩] := by sl_kernel_rfl

/-- What the run leaves in the codes. -/
theorem rout7 : out0_A_7 (F := Ideal) c arg0 harg0 arg1 harg1 arg2 harg2 arg3 harg3 arg4 harg4 arg5 harg5 arg6 harg6 arg7 harg7 arg8 harg8 arg9 harg9 x0 x1 x2 x3 x4 x5 = R7 (at2 (a := 1) (b := 1) x0 0 0) x2 x3 := by
  unfold out0_A_7
  rw [View.read_writes_eq_canon _ _ _ (cover0_A_7 c arg0 harg0 arg1 harg1 arg2 harg2 arg3 harg3 arg4 harg4 arg5 harg5 arg6 harg6 arg7 harg7 arg8 harg8 arg9 harg9 x0 x1 x2 x3 x4 x5), RL7, View.canon_unit_zero zero2]
  simp only [rls_eq, rl2_eq, rl3_eq, rl4_eq, rl5_eq]

/-- The store into the scales. -/
theorem RL8 : (kernelRun0_A (F := Ideal) c arg0 harg0 arg1 harg1 arg2 harg2 arg3 harg3 arg4 harg4 arg5 harg5 arg6 harg6 arg7 harg7 arg8 harg8 arg9 harg9 x0 x1 x2 x3 x4 x5).2.2.1 = [⟨Rect.unit (s := S128x1184) ![0, 0] S128x1184.size inb_S128x1184_S128x1184_0_0, k0_pay5 (F := Ideal) (rls arg0 harg0 x0) (rl2 arg2 harg2 x2)⟩] := by sl_kernel_rfl

/-- What the run leaves in the scales. -/
theorem rout8 : out0_A_8 (F := Ideal) c arg0 harg0 arg1 harg1 arg2 harg2 arg3 harg3 arg4 harg4 arg5 harg5 arg6 harg6 arg7 harg7 arg8 harg8 arg9 harg9 x0 x1 x2 x3 x4 x5 = k0_pay5 (F := Ideal) (at2 (a := 1) (b := 1) x0 0 0) x2 := by
  unfold out0_A_8
  rw [View.read_writes_eq_canon _ _ _ (cover0_A_8 c arg0 harg0 arg1 harg1 arg2 harg2 arg3 harg3 arg4 harg4 arg5 harg5 arg6 harg6 arg7 harg7 arg8 harg8 arg9 harg9 x0 x1 x2 x3 x4 x5), RL8, View.canon_unit_zero zero2]
  simp only [rls_eq, rl2_eq, rl3_eq, rl4_eq, rl5_eq]

/-- The store into the largest magnitude. -/
theorem RL9 : (kernelRun0_A (F := Ideal) c arg0 harg0 arg1 harg1 arg2 harg2 arg3 harg3 arg4 harg4 arg5 harg5 arg6 harg6 arg7 harg7 arg8 harg8 arg9 harg9 x0 x1 x2 x3 x4 x5).2.2.2.1 = [⟨Rect.unit (s := S1x1) ![0, 0] S1x1.size inb_S1x1_S1x1_0_0, fun _ => k0_pay2 (F := Ideal) (k0_pay3 (F := Ideal) (rl2 arg2 harg2 x2))⟩] := by sl_kernel_rfl

/-- What the run leaves in the largest magnitude. -/
theorem rout9 : out0_A_9 (F := Ideal) c arg0 harg0 arg1 harg1 arg2 harg2 arg3 harg3 arg4 harg4 arg5 harg5 arg6 harg6 arg7 harg7 arg8 harg8 arg9 harg9 x0 x1 x2 x3 x4 x5 = fun _ => k0_pay2 (F := Ideal) (k0_pay3 (F := Ideal) x2) := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 x0 x1 x2 x3 x4 x5), RL9, View.canon_unit_zero zero2]
  simp only [rls_eq, rl2_eq, rl3_eq, rl4_eq, rl5_eq]
  rfl

end K01
-- ==== Proof.RefFinal.lean ====
/-
  The reference's results, element by element, in terms of its operands.
-/
module

public import proofs.«01_k».proof.Proof.RefLink
public import proofs.«01_k».proof.Proof.Gen.ReferenceIdeal.Value

@[expose] public section

set_option maxRecDepth 65536

noncomputable section

open Idealize.ShloMosaic Idealize.ShloMosaic.TcCoe Idealize.ShloMosaic.Tactic
open Cert.ReferenceIdeal Cert.ReferenceIdeal.Gen Cert.ReferenceIdeal.Value
open scoped BigOperators

namespace K01

variable (m : (ℓ : Loc nD τ sig) → Buf (Elt Ideal) ℓ) (c : Dev nD)

/-- The gradients. -/
def bX : (⟨2, ![128, 18944]⟩ : Shape).Idx → EReal := V (F := Ideal) m c main_v2
/-- The random words. -/
def bR : (⟨2, ![128, 18944]⟩ : Shape).Idx → BitVec 32 := V (F := Ideal) m c main_v3
/-- The packed weights. -/
def bB : (⟨2, ![18944, 1792]⟩ : Shape).Idx → BitVec 8 := V (F := Ideal) m c main_arg3
/-- The weights' scales. -/
def bT : (⟨2, ![1184, 224]⟩ : Shape).Idx → EReal := V (F := Ideal) m c main_arg4
/-- The gradients' scale. -/
def bg : EReal := at2 (a := 1) (b := 1) (V (F := Ideal) m c main_v0 : (⟨2, ![1, 1]⟩ : Shape).Idx → EReal) 0 0
/-- The weights' own scale. -/
def bw : EReal := at2 (a := 1) (b := 1) (V (F := Ideal) m c main_v1 : (⟨2, ![1, 1]⟩ : Shape).Idx → EReal) 0 0

theorem ridx0 : ∀ t : Fin grid0.N, win0_0.index t 0 = 0 ∧ win0_0.index t 1 = 0 := by decide +kernel
theorem ridx1 : ∀ t : Fin grid0.N, win0_1.index t 0 = 0 ∧ win0_1.index t 1 = 0 := by decide +kernel
theorem ridx2 : ∀ t : Fin grid0.N, win0_2.index t 0 = 0 ∧ win0_2.index t 1 = 0 := by decide +kernel
theorem ridx3 : ∀ t : Fin grid0.N, win0_3.index t 0 = 0 ∧ win0_3.index t 1 = 0 := by decide +kernel
theorem ridx4 : ∀ t : Fin grid0.N, win0_4.index t 0 = 0 ∧ win0_4.index t 1 = 0 := by decide +kernel
theorem ridx5 : ∀ t : Fin grid0.N, win0_5.index t 0 = 0 ∧ win0_5.index t 1 = 0 := by decide +kernel
theorem ridx6 : ∀ t : Fin grid0.N, win0_6.index t 0 = 0 ∧ win0_6.index t 1 = 0 := by decide +kernel
theorem ridx7 : ∀ t : Fin grid0.N, win0_7.index t 0 = 0 ∧ win0_7.index t 1 = 0 := by decide +kernel
theorem ridx8 : ∀ t : Fin grid0.N, win0_8.index t 0 = 0 ∧ win0_8.index t 1 = 0 := by decide +kernel
theorem ridx9 : ∀ t : Fin grid0.N, win0_9.index t 0 = 0 ∧ win0_9.index t 1 = 0 := by decide +kernel

variable (t : Fin cfg0.N)

theorem rblk0 : at2 (a := 1) (b := 1) (α := EReal) (iblk (F := Ideal) m c 0 t : Vec Ideal S1x1 .f32) 0 0 = bg m c := by
  unfold bg
  change iblk (F := Ideal) m c 0 t (ix2 (a := 1) (b := 1) 0 0) = _
  unfold iblk
  rw [View.read_apply]
  refine at2_of (a := 1) (b := 1) (V (F := Ideal) m c main_v0 : (⟨2, ![1, 1]⟩ : Shape).Idx → EReal) _ _ _ ?_ ?_
  · change win0_0.index t 0 * 1 + 1 * 0 = _; rw [(ridx0 t).1]
  · change win0_0.index t 1 * 1 + 1 * 0 = _; rw [(ridx0 t).2]

theorem rblk1 : at2 (a := 1) (b := 1) (α := EReal) (iblk (F := Ideal) m c 1 t : Vec Ideal S1x1 .f32) 0 0 = bw m c := by
  unfold bw
  change iblk (F := Ideal) m c 1 t (ix2 (a := 1) (b := 1) 0 0) = _
  unfold iblk
  rw [View.read_apply]
  refine at2_of (a := 1) (b := 1) (V (F := Ideal) m c main_v1 : (⟨2, ![1, 1]⟩ : Shape).Idx → EReal) _ _ _ ?_ ?_
  · change win0_1.index t 0 * 1 + 1 * 0 = _; rw [(ridx1 t).1]
  · change win0_1.index t 1 * 1 + 1 * 0 = _; rw [(ridx1 t).2]

theorem rblk2 : (iblk (F := Ideal) m c 2 t : Vec Ideal S128x18944 .bf16) = bX m c := by
  refine ext2 (a := 128) (b := 18944) (α := EReal) fun r n hr hn => ?_
  change iblk (F := Ideal) m c 2 t (ix2 (a := 128) (b := 18944) r n) = _
  unfold iblk
  rw [View.read_apply]
  refine at2_of (bX m c) _ _ _ ?_ ?_
  · change win0_2.index t 0 * 128 + 1 * (r % 128) = _; rw [(ridx2 t).1]; omega
  · change win0_2.index t 1 * 18944 + 1 * (n % 18944) = _; rw [(ridx2 t).2]; omega

theorem rblk3 : (iblk (F := Ideal) m c 3 t : Vec Ideal S128x18944 .i32) = bR m c := by
  refine ext2 (a := 128) (b := 18944) (α := BitVec 32) fun r n hr hn => ?_
  change iblk (F := Ideal) m c 3 t (ix2 (a := 128) (b := 18944) r n) = _
  unfold iblk
  rw [View.read_apply]
  refine at2_of (bR m c) _ _ _ ?_ ?_
  · change win0_3.index t 0 * 128 + 1 * (r % 128) = _; rw [(ridx3 t).1]; omega
  · change win0_3.index t 1 * 18944 + 1 * (n % 18944) = _; rw [(ridx3 t).2]; omega

theorem rblk4 : (iblk (F := Ideal) m c 4 t : Vec Ideal S18944x1792 .i8) = bB m c := by
  refine ext2 (a := 18944) (b := 1792) (α := BitVec 8) fun r n hr hn => ?_
  change iblk (F := Ideal) m c 4 t (ix2 (a := 18944) (b := 1792) r n) = _
  unfold iblk
  rw [View.read_apply]
  refine at2_of (bB m c) _ _ _ ?_ ?_
  · change win0_4.index t 0 * 18944 + 1 * (r % 18944) = _; rw [(ridx4 t).1]; omega
  · change win0_4.index t 1 * 1792 + 1 * (n % 1792) = _; rw [(ridx4 t).2]; omega

theorem rblk5 : (iblk (F := Ideal) m c 5 t : Vec Ideal S1184x224 .fp8e4m3) = bT m c := by
  refine ext2 (a := 1184) (b := 224) (α := EReal) fun r n hr hn => ?_
  change iblk (F := Ideal) m c 5 t (ix2 (a := 1184) (b := 224) r n) = _
  unfold iblk
  rw [View.read_apply]
  refine at2_of (bT m c) _ _ _ ?_ ?_
  · change win0_5.index t 0 * 1184 + 1 * (r % 1184) = _; rw [(ridx5 t).1]; omega
  · change win0_5.index t 1 * 224 + 1 * (n % 224) = _; rw [(ridx5 t).2]; omega

/-- The result, as the run's payload. -/
theorem rarr6 (r n : ℕ) (hr : r < 128) (hn : n < 3584) :
    @Eq (EReal) ((dats (F := Ideal) m 0 c).arrAt 6 cfg0.N (ix2 (a := 128) (b := 3584) r n)) (at2 (a := 128) (b := 3584) (α := EReal) (R6 (bg m c) (bw m c) (bX m c) (bR m c) (bB m c) (bT m c)) r n) := by
  obtain ⟨t⟩ : Nonempty (Fin cfg0.N) := ⟨⟨0, by decide⟩⟩
  have e : ((cfg0.win 6).blk t).view.emb (ix2 (a := 128) (b := 3584) r n) = ix2 (a := 128) (b := 3584) r n := funext fun a => by
    match a with
    | ⟨0, _⟩ => exact Fin.ext (show win0_6.index t 0 * 128 + 1 * (r % 128) = r % 128 by rw [(ridx6 t).1]; omega)
    | ⟨1, _⟩ => exact Fin.ext (show win0_6.index t 1 * 3584 + 1 * (n % 3584) = n % 3584 by rw [(ridx6 t).2]; omega)
  refine (congrArg ((dats (F := Ideal) m 0 c).arrAt 6 cfg0.N) e.symm).trans (((dats (F := Ideal) m 0 c).arrAt_emb_eq_flushed 6 disjoint6 t (flush0_6 t) _).trans ?_)
  rw [cast_eq, flushed6_A]
  rw [rout6, rblk0, rblk1, rblk2, rblk3, rblk4, rblk5]
  rfl

/-- The codes, as the run's payload. -/
theorem rarr7 (r n : ℕ) (hr : r < 128) (hn : n < 9472) :
    @Eq (BitVec 8) ((dats (F := Ideal) m 0 c).arrAt 7 cfg0.N (ix2 (a := 128) (b := 9472) r n)) (at2 (a := 128) (b := 9472) (α := BitVec 8) (R7 (bg m c) (bX m c) (bR m c)) r n) := by
  obtain ⟨t⟩ : Nonempty (Fin cfg0.N) := ⟨⟨0, by decide⟩⟩
  have e : ((cfg0.win 7).blk t).view.emb (ix2 (a := 128) (b := 9472) r n) = ix2 (a := 128) (b := 9472) r n := funext fun a => by
    match a with
    | ⟨0, _⟩ => exact Fin.ext (show win0_7.index t 0 * 128 + 1 * (r % 128) = r % 128 by rw [(ridx7 t).1]; omega)
    | ⟨1, _⟩ => exact Fin.ext (show win0_7.index t 1 * 9472 + 1 * (n % 9472) = n % 9472 by rw [(ridx7 t).2]; omega)
  refine (congrArg ((dats (F := Ideal) m 0 c).arrAt 7 cfg0.N) e.symm).trans (((dats (F := Ideal) m 0 c).arrAt_emb_eq_flushed 7 disjoint7 t (flush0_7 t) _).trans ?_)
  rw [cast_eq, flushed7_A]
  rw [rout7, rblk0, rblk2, rblk3]
  rfl

/-- The scales, as the run's payload. -/
theorem rarr8 (r n : ℕ) (hr : r < 128) (hn : n < 1184) :
    @Eq (EReal) ((dats (F := Ideal) m 0 c).arrAt 8 cfg0.N (ix2 (a := 128) (b := 1184) r n)) (at2 (a := 128) (b := 1184) (α := EReal) (k0_pay5 (F := Ideal) (bg m c) (bX m c)) r n) := by
  obtain ⟨t⟩ : Nonempty (Fin cfg0.N) := ⟨⟨0, by decide⟩⟩
  have e : ((cfg0.win 8).blk t).view.emb (ix2 (a := 128) (b := 1184) r n) = ix2 (a := 128) (b := 1184) r n := funext fun a => by
    match a with
    | ⟨0, _⟩ => exact Fin.ext (show win0_8.index t 0 * 128 + 1 * (r % 128) = r % 128 by rw [(ridx8 t).1]; omega)
    | ⟨1, _⟩ => exact Fin.ext (show win0_8.index t 1 * 1184 + 1 * (n % 1184) = n % 1184 by rw [(ridx8 t).2]; omega)
  refine (congrArg ((dats (F := Ideal) m 0 c).arrAt 8 cfg0.N) e.symm).trans (((dats (F := Ideal) m 0 c).arrAt_emb_eq_flushed 8 disjoint8 t (flush0_8 t) _).trans ?_)
  rw [cast_eq, flushed8_A]
  rw [rout8, rblk0, rblk2]
  rfl

/-- The largest magnitude, as the run's payload. -/
theorem rarr9 (r n : ℕ) (hr : r < 1) (hn : n < 1) :
    @Eq (EReal) ((dats (F := Ideal) m 0 c).arrAt 9 cfg0.N (ix2 (a := 1) (b := 1) r n)) (at2 (a := 1) (b := 1) (α := EReal) (fun _ => k0_pay2 (F := Ideal) (k0_pay3 (F := Ideal) (bX m c))) r n) := by
  obtain ⟨t⟩ : Nonempty (Fin cfg0.N) := ⟨⟨0, by decide⟩⟩
  have e : ((cfg0.win 9).blk t).view.emb (ix2 (a := 1) (b := 1) r n) = ix2 (a := 1) (b := 1) r n := funext fun a => by
    match a with
    | ⟨0, _⟩ => exact Fin.ext (show win0_9.index t 0 * 1 + 1 * (r % 1) = r % 1 by rw [(ridx9 t).1]; omega)
    | ⟨1, _⟩ => exact Fin.ext (show win0_9.index t 1 * 1 + 1 * (n % 1) = n % 1 by rw [(ridx9 t).2]; omega)
  refine (congrArg ((dats (F := Ideal) m 0 c).arrAt 9 cfg0.N) e.symm).trans (((dats (F := Ideal) m 0 c).arrAt_emb_eq_flushed 9 disjoint9 t (flush0_9 t) _).trans ?_)
  rw [cast_eq, flushed9_A]
  rw [rout9, rblk2]
  rfl

/-- The result. -/
theorem rfin6 (hg : bg m c ≠ 0) (r n : ℕ) (hr : r < 128) (hn : n < 3584) :
    (dats (F := Ideal) m 0 c).arrAt 6 cfg0.N (ix2 (a := 128) (b := 3584) r n)
      = ((∑ s ∈ Finset.range 37, GD (bX m c) (bR m c) (bB m c) (bT m c) (bg m c) s r n) * (bg m c * bw m c) : EReal) :=
  (rarr6 m c r n hr hn).trans (rdx (bg m c) (bX m c) (bR m c) (bB m c) (bT m c) hg (bw m c) r n hr hn)

/-- The codes. -/
theorem rfin7 (hg : bg m c ≠ 0) (r i : ℕ) (hr : r < 128) (hi : i < 9472) :
    @Eq (BitVec 8) ((dats (F := Ideal) m 0 c).arrAt 7 cfg0.N (ix2 (a := 128) (b := 9472) r i)) (GC (bX m c) (bR m c) (bg m c) r i) :=
  (rarr7 m c r i hr hi).trans (rpay13 (bg m c) (bX m c) (bR m c) hg r i hi)

/-- The scales. -/
theorem rfin8 (r b : ℕ) (hr : r < 128) (hb : b < 1184) :
    (dats (F := Ideal) m 0 c).arrAt 8 cfg0.N (ix2 (a := 128) (b := 1184) r b) = GS (bX m c) (bg m c) r b :=
  (rarr8 m c r b hr hb).trans (rpay5 (bg m c) (bX m c) r b hb)

/-- The largest magnitude. -/
theorem rfin9 (b : EReal) :
    @LE.le EReal _ ((dats (F := Ideal) m 0 c).arrAt 9 cfg0.N (ix2 (a := 1) (b := 1) 0 0)) b ↔ ∀ r n, r < 128 → n < 18944 → mag (at2 (bX m c) r n) ≤ b :=
  (iff_of_eq (congrArg (fun v : EReal => v ≤ b) (rarr9 m c 0 0 (by omega) (by omega)))).trans (rpay2_le (bX m c) b)

/-- The host operations only reshape. -/
theorem bX_eq : bX m c = shapeCast (s := S1x128x18944) (α := EReal) S128x18944 (m ((c : Thread nD τ).loc main_arg0)) shapeCasts_S1x128x18944_S128x18944 := rfl
theorem bR_eq : bR m c = shapeCast (s := S1x128x18944) (α := BitVec 32) S128x18944 (m ((c : Thread nD τ).loc main_arg2)) shapeCasts_S1x128x18944_S128x18944 := rfl
theorem bg_eq : bg m c = at2 (a := 1) (b := 1) (shapeCast (s := S_) (α := EReal) S1x1 (m ((c : Thread nD τ).loc main_arg1)) shapeCasts_S_S1x1) 0 0 := rfl
theorem bw_eq : bw m c = at2 (a := 1) (b := 1) (shapeCast (s := S_) (α := EReal) S1x1 (m ((c : Thread nD τ).loc main_arg5)) shapeCasts_S_S1x1) 0 0 := rfl
theorem bB_eq : bB m c = m ((c : Thread nD τ).loc main_arg3) := V_main_arg3 m c
theorem bT_eq : bT m c = m ((c : Thread nD τ).loc main_arg4) := V_main_arg4 m c

end K01
-- ==== Proof.Equal.lean ====
/-
  The kernel's and the reference's results are equal when their operands are and the gradients' scale is not zero.
-/
module

public import proofs.«01_k».proof.Proof.Finals
public import proofs.«01_k».proof.Proof.RefFinal
public import proofs.«01_k».proof.Defs

@[expose] public section

set_option maxRecDepth 65536

noncomputable section

open Idealize.ShloMosaic Idealize.ShloMosaic.TcCoe
open scoped BigOperators

namespace K01

/-- Not equal to zero, as the comparison says it. -/
theorem ne_of_une (x : EReal) (h : Ideal.cmp .une x (c32 0x00000000#32) = 1#1) : x ≠ 0 := by
  intro hx
  subst hx
  rw [c_zero] at h
  simp [Ideal.cmp] at h

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The precondition: the gradients' scale is not zero. -/
theorem ag_ne [Cert.Pre_gradient_scale_nonzero.Facts] (h : Cert.Pre_KernelIdeal_gradient_scale_nonzero m) : ag m c ≠ 0 := by
  rw [ag_eq]
  refine ne_of_une _ ?_
  exact congrFun (h c) _

section
variable (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
  (h1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
  (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
  (h3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
  (h4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
  (h5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))

include h0 in
theorem eqX : bX m' c = aX m c := by rw [bX_eq, h0]; exact (aX_eq m c).symm
include h2 in
theorem eqR : bR m' c = aR m c := by rw [bR_eq, h2]; exact (aR_eq m c).symm
include h3 in
theorem eqB : bB m' c = aB m c := by rw [bB_eq, h3]; exact (aB_eq m c).symm
include h4 in
theorem eqT : bT m' c = aT m c := by rw [bT_eq, h4]; exact (aT_eq m c).symm
include h1 in
theorem eqg : bg m' c = ag m c := by rw [bg_eq, h1]; exact (ag_eq m c).symm
include h5 in
theorem eqw : bw m' c = aw m c := by rw [bw_eq, h5]; exact (aw_eq m c).symm

variable (hg : ag m c ≠ 0)

include h0 h1 h2 h3 h4 h5 hg in
/-- The results are equal. -/
theorem equal6 : @Eq ((⟨2, ![128, 3584]⟩ : Shape).Idx → EReal) ((Cert.ReferenceIdeal.Gen.dats (F := Ideal) m' 0 c).arrAt 6 Cert.ReferenceIdeal.cfg0.N)
    ((Cert.KernelIdeal.Gen.dats (F := Ideal) m 0 c).arrAt 6 Cert.KernelIdeal.cfg0.N) := by
  refine ext2 (a := 128) (b := 3584) (α := EReal) fun r n hr hn => ?_
  refine (rfin6 m' c (by rw [eqg m m' c h1]; exact hg) r n hr hn).trans (Eq.trans ?_ (fin6 m c r n hr hn).symm)
  rw [eqX m m' c h0, eqR m m' c h2, eqB m m' c h3, eqT m m' c h4, eqg m m' c h1, eqw m m' c h5]

include h0 h1 h2 hg in
/-- The codes are equal. -/
theorem equal7 : @Eq ((⟨2, ![128, 9472]⟩ : Shape).Idx → BitVec 8) ((Cert.ReferenceIdeal.Gen.dats (F := Ideal) m' 0 c).arrAt 7 Cert.ReferenceIdeal.cfg0.N)
    ((Cert.KernelIdeal.Gen.dats (F := Ideal) m 0 c).arrAt 7 Cert.KernelIdeal.cfg0.N) := by
  refine ext2 (a := 128) (b := 9472) (α := BitVec 8) fun r n hr hn => ?_
  refine (rfin7 m' c (by rw [eqg m m' c h1]; exact hg) r n hr hn).trans (Eq.trans ?_ (fin7 m c r n hr hn).symm)
  rw [eqX m m' c h0, eqR m m' c h2, eqg m m' c h1]

include h0 h1 in
/-- The scales are equal. -/
theorem equal8 : @Eq ((⟨2, ![128, 1184]⟩ : Shape).Idx → EReal) ((Cert.ReferenceIdeal.Gen.dats (F := Ideal) m' 0 c).arrAt 8 Cert.ReferenceIdeal.cfg0.N)
    ((Cert.KernelIdeal.Gen.dats (F := Ideal) m 0 c).arrAt 8 Cert.KernelIdeal.cfg0.N) := by
  refine ext2 (a := 128) (b := 1184) (α := EReal) fun r n hr hn => ?_
  refine (rfin8 m' c r n hr hn).trans (Eq.trans ?_ (fin8 m c r n hr hn).symm)
  rw [eqX m m' c h0, eqg m m' c h1]

include h0 in
/-- The largest magnitudes are equal. -/
theorem equal9 : @Eq ((⟨2, ![1, 1]⟩ : Shape).Idx → EReal) ((Cert.ReferenceIdeal.Gen.dats (F := Ideal) m' 0 c).arrAt 9 Cert.ReferenceIdeal.cfg0.N)
    ((Cert.KernelIdeal.Gen.dats (F := Ideal) m 0 c).arrAt 9 Cert.KernelIdeal.cfg0.N) := by
  refine ext2 (a := 1) (b := 1) (α := EReal) fun r n hr hn => ?_
  obtain rfl : r = 0 := by omega
  obtain rfl : n = 0 := by omega
  refine eq_of_forall_ge_iff fun b => ?_
  refine (rfin9 m' c b).trans (Iff.trans ?_ (fin9 m c b).symm)
  rw [eqX m m' c h0]

end

end K01
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equal
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem

/-- The kernel's frame: it terminates without a fault, its arguments end unchanged, every semaphore reads zero. -/
theorem frame_kernel : Cert.quiescent_Kernel (hKernel := Cert.Kernel.Gen.facts) :=
  fun m ρ _ => Cert.Kernel.Gen.frame m ρ

/-- The same of the kernel's idealization. -/
theorem frame_ideal : Cert.quiescent_KernelIdeal (hKernelIdeal := Cert.KernelIdeal.Gen.facts) :=
  fun m ρ _ => Cert.KernelIdeal.Gen.frame m ρ

/-- The same of the reference. -/
theorem frame_reference : Cert.quiescent_ReferenceIdeal (hReferenceIdeal := Cert.ReferenceIdeal.Gen.facts) :=
  fun m ρ _ => Cert.ReferenceIdeal.Gen.frame m ρ

/-- Every rewrite the idealization made is an instance of one of its three rules. -/
theorem preserves : Cert.preserves_Kernel_KernelIdeal :=
  ⟨IdealRules.bf16_pair.bufferStatement _ _, IdealRules.bf16_pair.bufferStatement _ _,
    IdealRules.bf16_pair.bufferStatement _ _, IdealRules.bf16_pair.statement _ _, IdealRules.bf16_pair.statement _ _,
    IdealRules.bf16_pair.statement _ _, IdealRules.bf16_pair.packStatement _, IdealRules.bf16_pack.statement _,
    IdealRules.bf16_pair.packStatement _, IdealRules.bf16_pair.statement _ _, IdealRules.bf16_pair.statement _ _⟩

/-- The precondition's side conditions: there are none. -/
theorem facts_pre : Cert.Pre_gradient_scale_nonzero.Facts := ⟨⟩

/-- The idealized kernel's frame, under the precondition. -/
theorem frame_ideal_pre : Cert.quiescent_KernelIdeal_pre_gradient_scale_nonzero (hKernelIdeal := Cert.KernelIdeal.Gen.facts)
    (hPre_gradient_scale_nonzero := facts_pre) :=
  fun m ρ _ => Cert.KernelIdeal.Gen.frame m ρ

/-- The reference's frame, under the precondition. -/
theorem frame_reference_pre : Cert.quiescent_ReferenceIdeal_pre_gradient_scale_nonzero (hReferenceIdeal := Cert.ReferenceIdeal.Gen.facts)
    (hPre_gradient_scale_nonzero := facts_pre) :=
  fun m ρ _ => Cert.ReferenceIdeal.Gen.frame m ρ

/-- From equal arguments, the gradients' scale not zero, the idealized kernel and the idealized reference end with equal
    results, all four of them, and their arguments unchanged. -/
theorem algebraic : Cert.algebraic_KernelIdeal_ReferenceIdeal_pre_gradient_scale_nonzero (hKernelIdeal := Cert.KernelIdeal.Gen.facts)
    (hReferenceIdeal := Cert.ReferenceIdeal.Gen.facts) (hPre_gradient_scale_nonzero := facts_pre) := by
  intro m g m' g' hpre hargs
  refine ⟨fun c => (Cert.KernelIdeal.Gen.dats (F := Ideal) m 0 c).arrAt 6 Cert.KernelIdeal.cfg0.N,
    fun c => (Cert.KernelIdeal.Gen.dats (F := Ideal) m 0 c).arrAt 7 Cert.KernelIdeal.cfg0.N,
    fun c => (Cert.KernelIdeal.Gen.dats (F := Ideal) m 0 c).arrAt 8 Cert.KernelIdeal.cfg0.N,
    fun c => (Cert.KernelIdeal.Gen.dats (F := Ideal) m 0 c).arrAt 9 Cert.KernelIdeal.cfg0.N,
    Cert.KernelIdeal.Value.run_blocks m g,
    (θ_run _ _ _).mono (fun r h c => ?_) (Cert.ReferenceIdeal.Value.run_blocks m' g')⟩
  obtain ⟨h0, h1, h2, h3, h4, h5⟩ := hargs c
  have hg : K01.ag m c ≠ 0 := @K01.ag_ne m c facts_pre hpre
  obtain ⟨r0, r1, r2, r3, rest⟩ := h c
  exact ⟨r0.trans (K01.equal6 m m' c h0 h1 h2 h3 h4 h5 hg), r1.trans (K01.equal7 m m' c h0 h1 h2 hg),
    r2.trans (K01.equal8 m m' c h0 h1), r3.trans (K01.equal9 m m' c h0), rest⟩

/-- Everything claimed. -/
theorem claim : Cert.Claim :=
  ⟨Cert.Kernel.Gen.facts, Cert.KernelIdeal.Gen.facts, Cert.ReferenceIdeal.Gen.facts, facts_pre,
    frame_kernel, frame_ideal, frame_ideal_pre, frame_reference, frame_reference_pre, preserves, algebraic⟩

end Cert.Proof

end
